-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUpGate (m : (ℓ : Loc Cert.KernelUpGate.nD Cert.KernelUpGate.τ Cert.KernelUpGate.sig) → Buf (Elt Bits) ℓ) : Prop :=
  True

def Pre_KernelUpGateIdeal (m : (ℓ : Loc Cert.KernelUpGateIdeal.nD Cert.KernelUpGateIdeal.τ Cert.KernelUpGateIdeal.sig) → Buf (Elt Ideal) ℓ) : Prop :=
  True

def Pre_ReferenceUpGateIdeal (m : (ℓ : Loc Cert.ReferenceUpGateIdeal.nD Cert.ReferenceUpGateIdeal.τ Cert.ReferenceUpGateIdeal.sig) → Buf (Elt Ideal) ℓ) : Prop :=
  True

def Pre_KernelUpVal (m : (ℓ : Loc Cert.KernelUpVal.nD Cert.KernelUpVal.τ Cert.KernelUpVal.sig) → Buf (Elt Bits) ℓ) : Prop :=
  True

def Pre_KernelUpValIdeal (m : (ℓ : Loc Cert.KernelUpValIdeal.nD Cert.KernelUpValIdeal.τ Cert.KernelUpValIdeal.sig) → Buf (Elt Ideal) ℓ) : Prop :=
  True

def Pre_ReferenceUpValIdeal (m : (ℓ : Loc Cert.ReferenceUpValIdeal.nD Cert.ReferenceUpValIdeal.τ Cert.ReferenceUpValIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelUpGate [hKernelUpGate : Cert.KernelUpGate.Facts] : Prop :=
  ∀ (m : (ℓ : Loc Cert.KernelUpGate.nD Cert.KernelUpGate.τ Cert.KernelUpGate.sig) → Buf (Elt Bits) ℓ) (g : Dev Cert.KernelUpGate.nD → PrngReg), Pre_KernelUpGate m →
    θ_run (Cert.KernelUpGate.defs (F := Bits)) (onTc (τ := Cert.KernelUpGate.τ) (Cert.KernelUpGate.main (F := Bits))) ⟨m, fun _ => 0, g⟩ (fun r => (∀ c : Dev Cert.KernelUpGate.nD,
      r.2.mem ((c.tc : Thread Cert.KernelUpGate.nD Cert.KernelUpGate.τ).loc Cert.KernelUpGate.main_arg0) = m ((c.tc : Thread Cert.KernelUpGate.nD Cert.KernelUpGate.τ).loc Cert.KernelUpGate.main_arg0)
      ∧ r.2.mem ((c.tc : Thread Cert.KernelUpGate.nD Cert.KernelUpGate.τ).loc Cert.KernelUpGate.main_arg1) = m ((c.tc : Thread Cert.KernelUpGate.nD Cert.KernelUpGate.τ).loc Cert.KernelUpGate.main_arg1))
      ∧ r.2.sem = fun _ => 0)

def quiescent_KernelUpGateIdeal [hKernelUpGateIdeal : Cert.KernelUpGateIdeal.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg), Pre_KernelUpGateIdeal m →
    θ_run (Cert.KernelUpGateIdeal.defs (F := Ideal)) (onTc (τ := Cert.KernelUpGateIdeal.τ) (Cert.KernelUpGateIdeal.main (F := Ideal))) ⟨m, fun _ => 0, g⟩ (fun r => (∀ c : Dev Cert.KernelUpGateIdeal.nD,
      r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
      ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1))
      ∧ r.2.sem = fun _ => 0)

def quiescent_ReferenceUpGateIdeal [hReferenceUpGateIdeal : Cert.ReferenceUpGateIdeal.Facts] : Prop :=
  ∀ (m : (ℓ : Loc Cert.ReferenceUpGateIdeal.nD Cert.ReferenceUpGateIdeal.τ Cert.ReferenceUpGateIdeal.sig) → Buf (Elt Ideal) ℓ) (g : Dev Cert.ReferenceUpGateIdeal.nD → PrngReg), Pre_ReferenceUpGateIdeal m →
    θ_run (Cert.ReferenceUpGateIdeal.defs (F := Ideal)) (onTc (τ := Cert.ReferenceUpGateIdeal.τ) (Cert.ReferenceUpGateIdeal.main (F := Ideal))) ⟨m, fun _ => 0, g⟩ (fun r => (∀ c : Dev Cert.ReferenceUpGateIdeal.nD,
      r.2.mem ((c.tc : Thread Cert.ReferenceUpGateIdeal.nD Cert.ReferenceUpGateIdeal.τ).loc Cert.ReferenceUpGateIdeal.main_arg0) = m ((c.tc : Thread Cert.ReferenceUpGateIdeal.nD Cert.ReferenceUpGateIdeal.τ).loc Cert.ReferenceUpGateIdeal.main_arg0)
      ∧ r.2.mem ((c.tc : Thread Cert.ReferenceUpGateIdeal.nD Cert.ReferenceUpGateIdeal.τ).loc Cert.ReferenceUpGateIdeal.main_arg1) = m ((c.tc : Thread Cert.ReferenceUpGateIdeal.nD Cert.ReferenceUpGateIdeal.τ).loc Cert.ReferenceUpGateIdeal.main_arg1))
      ∧ r.2.sem = fun _ => 0)

def quiescent_KernelUpVal [hKernelUpVal : Cert.KernelUpVal.Facts] : Prop :=
  ∀ (m : (ℓ : Loc Cert.KernelUpVal.nD Cert.KernelUpVal.τ Cert.KernelUpVal.sig) → Buf (Elt Bits) ℓ) (g : Dev Cert.KernelUpVal.nD → PrngReg), Pre_KernelUpVal m →
    θ_run (Cert.KernelUpVal.defs (F := Bits)) (onTc (τ := Cert.KernelUpVal.τ) (Cert.KernelUpVal.main (F := Bits))) ⟨m, fun _ => 0, g⟩ (fun r => (∀ c : Dev Cert.KernelUpVal.nD,
      r.2.mem ((c.tc : Thread Cert.KernelUpVal.nD Cert.KernelUpVal.τ).loc Cert.KernelUpVal.main_arg0) = m ((c.tc : Thread Cert.KernelUpVal.nD Cert.KernelUpVal.τ).loc Cert.KernelUpVal.main_arg0)
      ∧ r.2.mem ((c.tc : Thread Cert.KernelUpVal.nD Cert.KernelUpVal.τ).loc Cert.KernelUpVal.main_arg1) = m ((c.tc : Thread Cert.KernelUpVal.nD Cert.KernelUpVal.τ).loc Cert.KernelUpVal.main_arg1))
      ∧ r.2.sem = fun _ => 0)

def quiescent_KernelUpValIdeal [hKernelUpValIdeal : Cert.KernelUpValIdeal.Facts] : Prop :=
  ∀ (m : (ℓ : Loc Cert.KernelUpValIdeal.nD Cert.KernelUpValIdeal.τ Cert.KernelUpValIdeal.sig) → Buf (Elt Ideal) ℓ) (g : Dev Cert.KernelUpValIdeal.nD → PrngReg), Pre_KernelUpValIdeal m →
    θ_run (Cert.KernelUpValIdeal.defs (F := Ideal)) (onTc (τ := Cert.KernelUpValIdeal.τ) (Cert.KernelUpValIdeal.main (F := Ideal))) ⟨m, fun _ => 0, g⟩ (fun r => (∀ c : Dev Cert.KernelUpValIdeal.nD,
      r.2.mem ((c.tc : Thread Cert.KernelUpValIdeal.nD Cert.KernelUpValIdeal.τ).loc Cert.KernelUpValIdeal.main_arg0) = m ((c.tc : Thread Cert.KernelUpValIdeal.nD Cert.KernelUpValIdeal.τ).loc Cert.KernelUpValIdeal.main_arg0)
      ∧ r.2.mem ((c.tc : Thread Cert.KernelUpValIdeal.nD Cert.KernelUpValIdeal.τ).loc Cert.KernelUpValIdeal.main_arg1) = m ((c.tc : Thread Cert.KernelUpValIdeal.nD Cert.KernelUpValIdeal.τ).loc Cert.KernelUpValIdeal.main_arg1))
      ∧ r.2.sem = fun _ => 0)

def quiescent_ReferenceUpValIdeal [hReferenceUpValIdeal : Cert.ReferenceUpValIdeal.Facts] : Prop :=
  ∀ (m : (ℓ : Loc Cert.ReferenceUpValIdeal.nD Cert.ReferenceUpValIdeal.τ Cert.ReferenceUpValIdeal.sig) → Buf (Elt Ideal) ℓ) (g : Dev Cert.ReferenceUpValIdeal.nD → PrngReg), Pre_ReferenceUpValIdeal m →
    θ_run (Cert.ReferenceUpValIdeal.defs (F := Ideal)) (onTc (τ := Cert.ReferenceUpValIdeal.τ) (Cert.ReferenceUpValIdeal.main (F := Ideal))) ⟨m, fun _ => 0, g⟩ (fun r => (∀ c : Dev Cert.ReferenceUpValIdeal.nD,
      r.2.mem ((c.tc : Thread Cert.ReferenceUpValIdeal.nD Cert.ReferenceUpValIdeal.τ).loc Cert.ReferenceUpValIdeal.main_arg0) = m ((c.tc : Thread Cert.ReferenceUpValIdeal.nD Cert.ReferenceUpValIdeal.τ).loc Cert.ReferenceUpValIdeal.main_arg0)
      ∧ r.2.mem ((c.tc : Thread Cert.ReferenceUpValIdeal.nD Cert.ReferenceUpValIdeal.τ).loc Cert.ReferenceUpValIdeal.main_arg1) = m ((c.tc : Thread Cert.ReferenceUpValIdeal.nD Cert.ReferenceUpValIdeal.τ).loc Cert.ReferenceUpValIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5)
      ∧ r.2.mem ((c.tc : Thread Cert.KernelFwd.nD Cert.KernelFwd.τ).loc Cert.KernelFwd.main_arg6) = m ((c.tc : Thread Cert.KernelFwd.nD Cert.KernelFwd.τ).loc Cert.KernelFwd.main_arg6))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)) (v4 : (c : Dev Cert.KernelIdeal.nD) → Buf (Elt Ideal) ((c.tc : Thread Cert.KernelIdeal.nD Cert.KernelIdeal.τ).loc Cert.KernelIdeal.main_v46_4)) (v5 : (c : Dev Cert.KernelIdeal.nD) → Buf (Elt Ideal) ((c.tc : Thread Cert.KernelIdeal.nD Cert.KernelIdeal.τ).loc Cert.KernelIdeal.main_v46_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_v46_4) = v4 c
          ∧ r.2.mem ((c.tc : Thread Cert.KernelIdeal.nD Cert.KernelIdeal.τ).loc Cert.KernelIdeal.main_v46_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_v94) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelUpGate_KernelUpGateIdeal : Prop :=
  True

def algebraic_KernelUpGateIdeal_ReferenceUpGateIdeal [hKernelUpGateIdeal : Cert.KernelUpGateIdeal.Facts] [hReferenceUpGateIdeal : Cert.ReferenceUpGateIdeal.Facts] : Prop :=
  ∀ (m : (ℓ : Loc Cert.KernelUpGateIdeal.nD Cert.KernelUpGateIdeal.τ Cert.KernelUpGateIdeal.sig) → Buf (Elt Ideal) ℓ) (g : Dev Cert.KernelUpGateIdeal.nD → PrngReg)
    (m' : (ℓ : Loc Cert.ReferenceUpGateIdeal.nD Cert.ReferenceUpGateIdeal.τ Cert.ReferenceUpGateIdeal.sig) → Buf (Elt Ideal) ℓ) (g' : Dev Cert.ReferenceUpGateIdeal.nD → PrngReg), Pre_KernelUpGateIdeal m →
    (∀ c : Dev Cert.KernelUpGateIdeal.nD,
      m' ((c.tc : Thread Cert.ReferenceUpGateIdeal.nD Cert.ReferenceUpGateIdeal.τ).loc Cert.ReferenceUpGateIdeal.main_arg0) = m ((c.tc : Thread Cert.KernelUpGateIdeal.nD Cert.KernelUpGateIdeal.τ).loc Cert.KernelUpGateIdeal.main_arg0)
      ∧ m' ((c.tc : Thread Cert.ReferenceUpGateIdeal.nD Cert.ReferenceUpGateIdeal.τ).loc Cert.ReferenceUpGateIdeal.main_arg1) = m ((c.tc : Thread Cert.KernelUpGateIdeal.nD Cert.KernelUpGateIdeal.τ).loc Cert.KernelUpGateIdeal.main_arg1)) →
    ∃ (v0 : (c : Dev Cert.KernelUpGateIdeal.nD) → Buf (Elt Ideal) ((c.tc : Thread Cert.KernelUpGateIdeal.nD Cert.KernelUpGateIdeal.τ).loc Cert.KernelUpGateIdeal.main_v6)),
      θ_run (Cert.KernelUpGateIdeal.defs (F := Ideal)) (onTc (τ := Cert.KernelUpGateIdeal.τ) (Cert.KernelUpGateIdeal.main (F := Ideal))) ⟨m, fun _ => 0, g⟩ (fun r => ∀ c : Dev Cert.KernelUpGateIdeal.nD,
          r.2.mem ((c.tc : Thread Cert.KernelUpGateIdeal.nD Cert.KernelUpGateIdeal.τ).loc Cert.KernelUpGateIdeal.main_v6) = v0 c
          ∧ r.2.mem ((c.tc : Thread Cert.KernelUpGateIdeal.nD Cert.KernelUpGateIdeal.τ).loc Cert.KernelUpGateIdeal.main_arg0) = m ((c.tc : Thread Cert.KernelUpGateIdeal.nD Cert.KernelUpGateIdeal.τ).loc Cert.KernelUpGateIdeal.main_arg0)
          ∧ r.2.mem ((c.tc : Thread Cert.KernelUpGateIdeal.nD Cert.KernelUpGateIdeal.τ).loc Cert.KernelUpGateIdeal.main_arg1) = m ((c.tc : Thread Cert.KernelUpGateIdeal.nD Cert.KernelUpGateIdeal.τ).loc Cert.KernelUpGateIdeal.main_arg1))
      ∧ θ_run (Cert.ReferenceUpGateIdeal.defs (F := Ideal)) (onTc (τ := Cert.ReferenceUpGateIdeal.τ) (Cert.ReferenceUpGateIdeal.main (F := Ideal))) ⟨m', fun _ => 0, g'⟩ (fun r => ∀ c : Dev Cert.ReferenceUpGateIdeal.nD,
          r.2.mem ((c.tc : Thread Cert.ReferenceUpGateIdeal.nD Cert.ReferenceUpGateIdeal.τ).loc Cert.ReferenceUpGateIdeal.main_v7) = v0 c
          ∧ r.2.mem ((c.tc : Thread Cert.ReferenceUpGateIdeal.nD Cert.ReferenceUpGateIdeal.τ).loc Cert.ReferenceUpGateIdeal.main_arg0) = m' ((c.tc : Thread Cert.ReferenceUpGateIdeal.nD Cert.ReferenceUpGateIdeal.τ).loc Cert.ReferenceUpGateIdeal.main_arg0)
          ∧ r.2.mem ((c.tc : Thread Cert.ReferenceUpGateIdeal.nD Cert.ReferenceUpGateIdeal.τ).loc Cert.ReferenceUpGateIdeal.main_arg1) = m' ((c.tc : Thread Cert.ReferenceUpGateIdeal.nD Cert.ReferenceUpGateIdeal.τ).loc Cert.ReferenceUpGateIdeal.main_arg1))

def preserves_KernelUpVal_KernelUpValIdeal : Prop :=
  True

def algebraic_KernelUpValIdeal_ReferenceUpValIdeal [hKernelUpValIdeal : Cert.KernelUpValIdeal.Facts] [hReferenceUpValIdeal : Cert.ReferenceUpValIdeal.Facts] : Prop :=
  ∀ (m : (ℓ : Loc Cert.KernelUpValIdeal.nD Cert.KernelUpValIdeal.τ Cert.KernelUpValIdeal.sig) → Buf (Elt Ideal) ℓ) (g : Dev Cert.KernelUpValIdeal.nD → PrngReg)
    (m' : (ℓ : Loc Cert.ReferenceUpValIdeal.nD Cert.ReferenceUpValIdeal.τ Cert.ReferenceUpValIdeal.sig) → Buf (Elt Ideal) ℓ) (g' : Dev Cert.ReferenceUpValIdeal.nD → PrngReg), Pre_KernelUpValIdeal m →
    (∀ c : Dev Cert.KernelUpValIdeal.nD,
      m' ((c.tc : Thread Cert.ReferenceUpValIdeal.nD Cert.ReferenceUpValIdeal.τ).loc Cert.ReferenceUpValIdeal.main_arg0) = m ((c.tc : Thread Cert.KernelUpValIdeal.nD Cert.KernelUpValIdeal.τ).loc Cert.KernelUpValIdeal.main_arg0)
      ∧ m' ((c.tc : Thread Cert.ReferenceUpValIdeal.nD Cert.ReferenceUpValIdeal.τ).loc Cert.ReferenceUpValIdeal.main_arg1) = m ((c.tc : Thread Cert.KernelUpValIdeal.nD Cert.KernelUpValIdeal.τ).loc Cert.KernelUpValIdeal.main_arg1)) →
    ∃ (v0 : (c : Dev Cert.KernelUpValIdeal.nD) → Buf (Elt Ideal) ((c.tc : Thread Cert.KernelUpValIdeal.nD Cert.KernelUpValIdeal.τ).loc Cert.KernelUpValIdeal.main_v6)),
      θ_run (Cert.KernelUpValIdeal.defs (F := Ideal)) (onTc (τ := Cert.KernelUpValIdeal.τ) (Cert.KernelUpValIdeal.main (F := Ideal))) ⟨m, fun _ => 0, g⟩ (fun r => ∀ c : Dev Cert.KernelUpValIdeal.nD,
          r.2.mem ((c.tc : Thread Cert.KernelUpValIdeal.nD Cert.KernelUpValIdeal.τ).loc Cert.KernelUpValIdeal.main_v6) = v0 c
          ∧ r.2.mem ((c.tc : Thread Cert.KernelUpValIdeal.nD Cert.KernelUpValIdeal.τ).loc Cert.KernelUpValIdeal.main_arg0) = m ((c.tc : Thread Cert.KernelUpValIdeal.nD Cert.KernelUpValIdeal.τ).loc Cert.KernelUpValIdeal.main_arg0)
          ∧ r.2.mem ((c.tc : Thread Cert.KernelUpValIdeal.nD Cert.KernelUpValIdeal.τ).loc Cert.KernelUpValIdeal.main_arg1) = m ((c.tc : Thread Cert.KernelUpValIdeal.nD Cert.KernelUpValIdeal.τ).loc Cert.KernelUpValIdeal.main_arg1))
      ∧ θ_run (Cert.ReferenceUpValIdeal.defs (F := Ideal)) (onTc (τ := Cert.ReferenceUpValIdeal.τ) (Cert.ReferenceUpValIdeal.main (F := Ideal))) ⟨m', fun _ => 0, g'⟩ (fun r => ∀ c : Dev Cert.ReferenceUpValIdeal.nD,
          r.2.mem ((c.tc : Thread Cert.ReferenceUpValIdeal.nD Cert.ReferenceUpValIdeal.τ).loc Cert.ReferenceUpValIdeal.main_v7) = v0 c
          ∧ r.2.mem ((c.tc : Thread Cert.ReferenceUpValIdeal.nD Cert.ReferenceUpValIdeal.τ).loc Cert.ReferenceUpValIdeal.main_arg0) = m' ((c.tc : Thread Cert.ReferenceUpValIdeal.nD Cert.ReferenceUpValIdeal.τ).loc Cert.ReferenceUpValIdeal.main_arg0)
          ∧ r.2.mem ((c.tc : Thread Cert.ReferenceUpValIdeal.nD Cert.ReferenceUpValIdeal.τ).loc Cert.ReferenceUpValIdeal.main_arg1) = m' ((c.tc : Thread Cert.ReferenceUpValIdeal.nD Cert.ReferenceUpValIdeal.τ).loc Cert.ReferenceUpValIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)
      ∧ m' ((c.tc : Thread Cert.ReferenceFwdIdeal.nD Cert.ReferenceFwdIdeal.τ).loc Cert.ReferenceFwdIdeal.main_arg6) = m ((c.tc : Thread Cert.KernelFwdIdeal.nD Cert.KernelFwdIdeal.τ).loc Cert.KernelFwdIdeal.main_arg6)) →
    ∃ (v0 : (c : Dev Cert.KernelFwdIdeal.nD) → Buf (Elt Ideal) ((c.tc : Thread Cert.KernelFwdIdeal.nD Cert.KernelFwdIdeal.τ).loc Cert.KernelFwdIdeal.main_v14_0)) (v1 : (c : Dev Cert.KernelFwdIdeal.nD) → Buf (Elt Ideal) ((c.tc : Thread Cert.KernelFwdIdeal.nD Cert.KernelFwdIdeal.τ).loc Cert.KernelFwdIdeal.main_v14_1)) (v2 : (c : Dev Cert.KernelFwdIdeal.nD) → Buf (Elt Ideal) ((c.tc : Thread Cert.KernelFwdIdeal.nD Cert.KernelFwdIdeal.τ).loc Cert.KernelFwdIdeal.main_v14_2)) (v3 : (c : Dev Cert.KernelFwdIdeal.nD) → Buf (Elt Ideal) ((c.tc : Thread Cert.KernelFwdIdeal.nD Cert.KernelFwdIdeal.τ).loc Cert.KernelFwdIdeal.main_v14_3)) (v4 : (c : Dev Cert.KernelFwdIdeal.nD) → Buf (Elt Ideal) ((c.tc : Thread Cert.KernelFwdIdeal.nD Cert.KernelFwdIdeal.τ).loc Cert.KernelFwdIdeal.main_v14_4)) (v5 : (c : Dev Cert.KernelFwdIdeal.nD) → Buf (Elt Ideal) ((c.tc : Thread Cert.KernelFwdIdeal.nD Cert.KernelFwdIdeal.τ).loc Cert.KernelFwdIdeal.main_v14_5)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v14_0) = v0 c
          ∧ r.2.mem ((c.tc : Thread Cert.KernelFwdIdeal.nD Cert.KernelFwdIdeal.τ).loc Cert.KernelFwdIdeal.main_v14_1) = v1 c
          ∧ r.2.mem ((c.tc : Thread Cert.KernelFwdIdeal.nD Cert.KernelFwdIdeal.τ).loc Cert.KernelFwdIdeal.main_v14_2) = v2 c
          ∧ r.2.mem ((c.tc : Thread Cert.KernelFwdIdeal.nD Cert.KernelFwdIdeal.τ).loc Cert.KernelFwdIdeal.main_v14_3) = v3 c
          ∧ r.2.mem ((c.tc : Thread Cert.KernelFwdIdeal.nD Cert.KernelFwdIdeal.τ).loc Cert.KernelFwdIdeal.main_v14_4) = v4 c
          ∧ r.2.mem ((c.tc : Thread Cert.KernelFwdIdeal.nD Cert.KernelFwdIdeal.τ).loc Cert.KernelFwdIdeal.main_v14_5) = v5 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
          ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v49) = v0 c
          ∧ r.2.mem ((c.tc : Thread Cert.ReferenceFwdIdeal.nD Cert.ReferenceFwdIdeal.τ).loc Cert.ReferenceFwdIdeal.main_v53) = v1 c
          ∧ r.2.mem ((c.tc : Thread Cert.ReferenceFwdIdeal.nD Cert.ReferenceFwdIdeal.τ).loc Cert.ReferenceFwdIdeal.main_v56) = v2 c
          ∧ r.2.mem ((c.tc : Thread Cert.ReferenceFwdIdeal.nD Cert.ReferenceFwdIdeal.τ).loc Cert.ReferenceFwdIdeal.main_v59) = v3 c
          ∧ r.2.mem ((c.tc : Thread Cert.ReferenceFwdIdeal.nD Cert.ReferenceFwdIdeal.τ).loc Cert.ReferenceFwdIdeal.main_v60) = v4 c
          ∧ r.2.mem ((c.tc : Thread Cert.ReferenceFwdIdeal.nD Cert.ReferenceFwdIdeal.τ).loc Cert.ReferenceFwdIdeal.main_v63) = v5 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v5)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v5) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)) →
    ∃ (v0 : (c : Dev Cert.KernelMixIdeal.nD) → Buf (Elt Ideal) ((c.tc : Thread Cert.KernelMixIdeal.nD Cert.KernelMixIdeal.τ).loc Cert.KernelMixIdeal.main_v5_0)) (v1 : (c : Dev Cert.KernelMixIdeal.nD) → Buf (Elt Ideal) ((c.tc : Thread Cert.KernelMixIdeal.nD Cert.KernelMixIdeal.τ).loc Cert.KernelMixIdeal.main_v5_1)) (v2 : (c : Dev Cert.KernelMixIdeal.nD) → Buf (Elt Ideal) ((c.tc : Thread Cert.KernelMixIdeal.nD Cert.KernelMixIdeal.τ).loc Cert.KernelMixIdeal.main_v5_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v5_0) = v0 c
          ∧ r.2.mem ((c.tc : Thread Cert.KernelMixIdeal.nD Cert.KernelMixIdeal.τ).loc Cert.KernelMixIdeal.main_v5_1) = v1 c
          ∧ r.2.mem ((c.tc : Thread Cert.KernelMixIdeal.nD Cert.KernelMixIdeal.τ).loc Cert.KernelMixIdeal.main_v5_2) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v56) = v0 c
          ∧ r.2.mem ((c.tc : Thread Cert.ReferenceMixIdeal.nD Cert.ReferenceMixIdeal.τ).loc Cert.ReferenceMixIdeal.main_v72) = v1 c
          ∧ r.2.mem ((c.tc : Thread Cert.ReferenceMixIdeal.nD Cert.ReferenceMixIdeal.τ).loc Cert.ReferenceMixIdeal.main_v74) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8))

def Claim : Prop :=
  ∃ (hKernel : Cert.Kernel.Facts) (hKernelIdeal : Cert.KernelIdeal.Facts) (hReferenceIdeal : Cert.ReferenceIdeal.Facts) (hKernelUpGate : Cert.KernelUpGate.Facts) (hKernelUpGateIdeal : Cert.KernelUpGateIdeal.Facts) (hReferenceUpGateIdeal : Cert.ReferenceUpGateIdeal.Facts) (hKernelUpVal : Cert.KernelUpVal.Facts) (hKernelUpValIdeal : Cert.KernelUpValIdeal.Facts) (hReferenceUpValIdeal : Cert.ReferenceUpValIdeal.Facts) (hKernelDown : Cert.KernelDown.Facts) (hKernelDownIdeal : Cert.KernelDownIdeal.Facts) (hReferenceDownIdeal : Cert.ReferenceDownIdeal.Facts) (hKernelFwd : Cert.KernelFwd.Facts) (hKernelFwdIdeal : Cert.KernelFwdIdeal.Facts) (hReferenceFwdIdeal : Cert.ReferenceFwdIdeal.Facts) (hKernelIn : Cert.KernelIn.Facts) (hKernelInIdeal : Cert.KernelInIdeal.Facts) (hReferenceInIdeal : Cert.ReferenceInIdeal.Facts) (hKernelMix : Cert.KernelMix.Facts) (hKernelMixIdeal : Cert.KernelMixIdeal.Facts) (hReferenceMixIdeal : Cert.ReferenceMixIdeal.Facts),
    quiescent_Kernel (hKernel := hKernel)
    ∧ quiescent_KernelIdeal (hKernelIdeal := hKernelIdeal)
    ∧ quiescent_ReferenceIdeal (hReferenceIdeal := hReferenceIdeal)
    ∧ quiescent_KernelUpGate (hKernelUpGate := hKernelUpGate)
    ∧ quiescent_KernelUpGateIdeal (hKernelUpGateIdeal := hKernelUpGateIdeal)
    ∧ quiescent_ReferenceUpGateIdeal (hReferenceUpGateIdeal := hReferenceUpGateIdeal)
    ∧ quiescent_KernelUpVal (hKernelUpVal := hKernelUpVal)
    ∧ quiescent_KernelUpValIdeal (hKernelUpValIdeal := hKernelUpValIdeal)
    ∧ quiescent_ReferenceUpValIdeal (hReferenceUpValIdeal := hReferenceUpValIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ preserves_Kernel_KernelIdeal
    ∧ algebraic_KernelIdeal_ReferenceIdeal (hKernelIdeal := hKernelIdeal) (hReferenceIdeal := hReferenceIdeal)
    ∧ preserves_KernelUpGate_KernelUpGateIdeal
    ∧ algebraic_KernelUpGateIdeal_ReferenceUpGateIdeal (hKernelUpGateIdeal := hKernelUpGateIdeal) (hReferenceUpGateIdeal := hReferenceUpGateIdeal)
    ∧ preserves_KernelUpVal_KernelUpValIdeal
    ∧ algebraic_KernelUpValIdeal_ReferenceUpValIdeal (hKernelUpValIdeal := hKernelUpValIdeal) (hReferenceUpValIdeal := hReferenceUpValIdeal)
    ∧ preserves_KernelDown_KernelDownIdeal
    ∧ algebraic_KernelDownIdeal_ReferenceDownIdeal (hKernelDownIdeal := hKernelDownIdeal) (hReferenceDownIdeal := hReferenceDownIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelIn_KernelInIdeal
    ∧ algebraic_KernelInIdeal_ReferenceInIdeal (hKernelInIdeal := hKernelInIdeal) (hReferenceInIdeal := hReferenceInIdeal)
    ∧ preserves_KernelMix_KernelMixIdeal
    ∧ algebraic_KernelMixIdeal_ReferenceMixIdeal (hKernelMixIdeal := hKernelMixIdeal) (hReferenceMixIdeal := hReferenceMixIdeal)
-- ==== Kernel.lean ====
abbrev S2x2048x1024 : Shape := ⟨3, ![2, 2048, 1024]⟩
abbrev S1024x5504 : Shape := ⟨2, ![1024, 5504]⟩
abbrev S3x5504 : Shape := ⟨2, ![3, 5504]⟩
abbrev S5504 : Shape := ⟨1, ![5504]⟩
abbrev S2752x1024 : Shape := ⟨2, ![2752, 1024]⟩
abbrev S2x2048x5504 : Shape := ⟨3, ![2, 2048, 5504]⟩
abbrev S_ : Shape := ⟨0, ![]⟩
abbrev S2x2050x5504 : Shape := ⟨3, ![2, 2050, 5504]⟩
abbrev S1x5504 : Shape := ⟨2, ![1, 5504]⟩
abbrev S1x1x5504 : Shape := ⟨3, ![1, 1, 5504]⟩
abbrev S4096x8x688 : Shape := ⟨3, ![4096, 8, 688]⟩
abbrev S8x4096x688 : Shape := ⟨3, ![8, 4096, 688]⟩
abbrev S4x4096x688 : Shape := ⟨3, ![4, 4096, 688]⟩
abbrev S5504x1024 : Shape := ⟨2, ![5504, 1024]⟩
abbrev S8x688x1024 : Shape := ⟨3, ![8, 688, 1024]⟩
abbrev S3x8x688 : Shape := ⟨3, ![3, 8, 688]⟩
abbrev S8x3x688 : Shape := ⟨3, ![8, 3, 688]⟩
abbrev S8x1x688 : Shape := ⟨3, ![8, 1, 688]⟩
abbrev S8x4x688 : Shape := ⟨3, ![8, 4, 688]⟩
abbrev S8x8x688 : Shape := ⟨3, ![8, 8, 688]⟩
abbrev S4x688x1024 : Shape := ⟨3, ![4, 688, 1024]⟩
abbrev S4096x1024 : Shape := ⟨2, ![4096, 1024]⟩
abbrev S4x8x688 : Shape := ⟨3, ![4, 8, 688]⟩
abbrev S512x1024 : Shape := ⟨2, ![512, 1024]⟩
abbrev S16x1024 : Shape := ⟨2, ![16, 1024]⟩
abbrev S1x512x688 : Shape := ⟨3, ![1, 512, 688]⟩
abbrev S1x16x688 : Shape := ⟨3, ![1, 16, 688]⟩
abbrev S1x688x1024 : Shape := ⟨3, ![1, 688, 1024]⟩
abbrev S1x8x688 : Shape := ⟨3, ![1, 8, 688]⟩
abbrev S528x1024 : Shape := ⟨2, ![528, 1024]⟩
abbrev S688x1024 : Shape := ⟨2, ![688, 1024]⟩
abbrev S528x688 : Shape := ⟨2, ![528, 688]⟩
abbrev S512x688 : Shape := ⟨2, ![512, 688]⟩
abbrev S16x688 : Shape := ⟨2, ![16, 688]⟩
abbrev S8x688 : Shape := ⟨2, ![8, 688]⟩
abbrev S1x688 : Shape := ⟨2, ![1, 688]⟩
abbrev S688 : Shape := ⟨1, ![688]⟩
abbrev S4x688 : Shape := ⟨2, ![4, 688]⟩

abbrev nBuf : Space → Nat
  | .hbm => 62
  | .vmem => 37
  | .smem => 0
  | _ => 0

abbrev bufTy : (tb : Table) → Fin (tcTables nBuf tb) → BufTy
  | .hbm, ⟨0, _⟩ => ⟨S2x2048x1024, .f32⟩
  | .hbm, ⟨1, _⟩ => ⟨S1024x5504, .f32⟩
  | .hbm, ⟨2, _⟩ => ⟨S3x5504, .f32⟩
  | .hbm, ⟨3, _⟩ => ⟨S5504, .f32⟩
  | .hbm, ⟨4, _⟩ => ⟨S2752x1024, .f32⟩
  | .hbm, ⟨5, _⟩ => ⟨S2x2048x1024, .f32⟩
  | .hbm, ⟨6, _⟩ => ⟨S2x2048x5504, .f32⟩
  | .hbm, ⟨7, _⟩ => ⟨S_, .i32⟩
  | .hbm, ⟨8, _⟩ => ⟨S_, .f32⟩
  | .hbm, ⟨9, _⟩ => ⟨S2x2050x5504, .f32⟩
  | .hbm, ⟨10, _⟩ => ⟨S2x2048x5504, .f32⟩
  | .hbm, ⟨11, _⟩ => ⟨S1x5504, .f32⟩
  | .hbm, ⟨12, _⟩ => ⟨S5504, .f32⟩
  | .hbm, ⟨13, _⟩ => ⟨S1x1x5504, .f32⟩
  | .hbm, ⟨14, _⟩ => ⟨S2x2048x5504, .f32⟩
  | .hbm, ⟨15, _⟩ => ⟨S2x2048x5504, .f32⟩
  | .hbm, ⟨16, _⟩ => ⟨S2x2048x5504, .f32⟩
  | .hbm, ⟨17, _⟩ => ⟨S1x5504, .f32⟩
  | .hbm, ⟨18, _⟩ => ⟨S5504, .f32⟩
  | .hbm, ⟨19, _⟩ => ⟨S1x1x5504, .f32⟩
  | .hbm, ⟨20, _⟩ => ⟨S2x2048x5504, .f32⟩
  | .hbm, ⟨21, _⟩ => ⟨S2x2048x5504, .f32⟩
  | .hbm, ⟨22, _⟩ => ⟨S2x2048x5504, .f32⟩
  | .hbm, ⟨23, _⟩ => ⟨S2x2048x5504, .f32⟩
  | .hbm, ⟨24, _⟩ => ⟨S1x5504, .f32⟩
  | .hbm, ⟨25, _⟩ => ⟨S5504, .f32⟩
  | .hbm, ⟨26, _⟩ => ⟨S1x1x5504, .f32⟩
  | .hbm, ⟨27, _⟩ => ⟨S2x2048x5504, .f32⟩
  | .hbm, ⟨28, _⟩ => ⟨S2x2048x5504, .f32⟩
  | .hbm, ⟨29, _⟩ => ⟨S2x2048x5504, .f32⟩
  | .hbm, ⟨30, _⟩ => ⟨S1x1x5504, .f32⟩
  | .hbm, ⟨31, _⟩ => ⟨S2x2048x5504, .f32⟩
  | .hbm, ⟨32, _⟩ => ⟨S2x2048x5504, .f32⟩
  | .hbm, ⟨33, _⟩ => ⟨S4096x8x688, .f32⟩
  | .hbm, ⟨34, _⟩ => ⟨S8x4096x688, .f32⟩
  | .hbm, ⟨35, _⟩ => ⟨S8x4096x688, .bf16⟩
  | .hbm, ⟨36, _⟩ => ⟨S4096x8x688, .f32⟩
  | .hbm, ⟨37, _⟩ => ⟨S8x4096x688, .f32⟩
  | .hbm, ⟨38, _⟩ => ⟨S8x4096x688, .bf16⟩
  | .hbm, ⟨39, _⟩ => ⟨S4x4096x688, .bf16⟩
  | .hbm, ⟨40, _⟩ => ⟨S4x4096x688, .bf16⟩
  | .hbm, ⟨41, _⟩ => ⟨S4x4096x688, .bf16⟩
  | .hbm, ⟨42, _⟩ => ⟨S4x4096x688, .bf16⟩
  | .hbm, ⟨43, _⟩ => ⟨S5504x1024, .f32⟩
  | .hbm, ⟨44, _⟩ => ⟨S5504x1024, .bf16⟩
  | .hbm, ⟨45, _⟩ => ⟨S8x688x1024, .bf16⟩
  | .hbm, ⟨46, _⟩ => ⟨S3x8x688, .f32⟩
  | .hbm, ⟨47, _⟩ => ⟨S8x3x688, .f32⟩
  | .hbm, ⟨48, _⟩ => ⟨S8x1x688, .f32⟩
  | .hbm, ⟨49, _⟩ => ⟨S8x4x688, .f32⟩
  | .hbm, ⟨50, _⟩ => ⟨S_, .i32⟩
  | .hbm, ⟨51, _⟩ => ⟨S_, .f32⟩
  | .hbm, ⟨52, _⟩ => ⟨S8x8x688, .f32⟩
  | .hbm, ⟨53, _⟩ => ⟨S2752x1024, .bf16⟩
  | .hbm, ⟨54, _⟩ => ⟨S4x688x1024, .bf16⟩
  | .hbm, ⟨55, _⟩ => ⟨S4096x1024, .f32⟩
  | .hbm, ⟨56, _⟩ => ⟨S4x4096x688, .bf16⟩
  | .hbm, ⟨57, _⟩ => ⟨S4x4096x688, .bf16⟩
  | .hbm, ⟨58, _⟩ => ⟨S4x4096x688, .bf16⟩
  | .hbm, ⟨59, _⟩ => ⟨S4096x1024, .f32⟩
  | .hbm, ⟨60, _⟩ => ⟨S4x8x688, .f32⟩
  | .hbm, ⟨61, _⟩ => ⟨S4x8x688, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x512x688, .bf16⟩
  | .local _ .vmem, ⟨5, _⟩ => ⟨S1x512x688, .bf16⟩
  | .local _ .vmem, ⟨6, _⟩ => ⟨S1x512x688, .bf16⟩
  | .local _ .vmem, ⟨7, _⟩ => ⟨S1x512x688, .bf16⟩
  | .local _ .vmem, ⟨8, _⟩ => ⟨S1x512x688, .bf16⟩
  | .local _ .vmem, ⟨9, _⟩ => ⟨S1x512x688, .bf16⟩
  | .local _ .vmem, ⟨10, _⟩ => ⟨S1x16x688, .bf16⟩
  | .local _ .vmem, ⟨11, _⟩ => ⟨S1x16x688, .bf16⟩
  | .local _ .vmem, ⟨12, _⟩ => ⟨S1x512x688, .bf16⟩
  | .local _ .vmem, ⟨13, _⟩ => ⟨S1x512x688, .bf16⟩
  | .local _ .vmem, ⟨14, _⟩ => ⟨S1x16x688, .bf16⟩
  | .local _ .vmem, ⟨15, _⟩ => ⟨S1x16x688, .bf16⟩
  | .local _ .vmem, ⟨16, _⟩ => ⟨S1x688x1024, .bf16⟩
  | .local _ .vmem, ⟨17, _⟩ => ⟨S1x688x1024, .bf16⟩
  | .local _ .vmem, ⟨18, _⟩ => ⟨S1x688x1024, .bf16⟩
  | .local _ .vmem, ⟨19, _⟩ => ⟨S1x688x1024, .bf16⟩
  | .local _ .vmem, ⟨20, _⟩ => ⟨S1x8x688, .f32⟩
  | .local _ .vmem, ⟨21, _⟩ => ⟨S1x8x688, .f32⟩
  | .local _ .vmem, ⟨22, _⟩ => ⟨S1x8x688, .f32⟩
  | .local _ .vmem, ⟨23, _⟩ => ⟨S1x8x688, .f32⟩
  | .local _ .vmem, ⟨24, _⟩ => ⟨S1x688x1024, .bf16⟩
  | .local _ .vmem, ⟨25, _⟩ => ⟨S1x688x1024, .bf16⟩
  | .local _ .vmem, ⟨26, _⟩ => ⟨S1x512x688, .bf16⟩
  | .local _ .vmem, ⟨27, _⟩ => ⟨S1x512x688, .bf16⟩
  | .local _ .vmem, ⟨28, _⟩ => ⟨S1x512x688, .bf16⟩
  | .local _ .vmem, ⟨29, _⟩ => ⟨S1x512x688, .bf16⟩
  | .local _ .vmem, ⟨30, _⟩ => ⟨S1x512x688, .bf16⟩
  | .local _ .vmem, ⟨31, _⟩ => ⟨S1x512x688, .bf16⟩
  | .local _ .vmem, ⟨32, _⟩ => ⟨S512x1024, .f32⟩
  | .local _ .vmem, ⟨33, _⟩ => ⟨S512x1024, .f32⟩
  | .local _ .vmem, ⟨34, _⟩ => ⟨S4x8x688, .f32⟩
  | .local _ .vmem, ⟨35, _⟩ => ⟨S4x8x688, .f32⟩
  | .local _ .vmem, ⟨36, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_0 : Ref sig .tc := ⟨.hbm, 50, rfl⟩
abbrev main_call1_v0 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev main_v46_3 : Ref sig .tc := ⟨.hbm, 59, rfl⟩
abbrev main_v46_4 : Ref sig .tc := ⟨.hbm, 60, rfl⟩
abbrev main_v46_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg0 : BitVec 32 := BitVec.ofNat 32 (i 0).val
  let c0_i32_71 : BitVec 32 := 0#32
  let v145 : BitVec 1 := Scalar.cmpi .eq arg0 c0_i32_71
  let v146 : BitVec 32 := Scalar.extui v145
  let c0_i32_72 : BitVec 32 := 0#32
  let v147 : BitVec 1 := Scalar.cmpi .ne v146 c0_i32_72
  v147

def k0_off1 (i : grid0.Coords) : Fin 3 → Nat :=
  let arg1 : BitVec 32 := BitVec.ofNat 32 (i 1).val
  let v165 : Index := Scalar.indexCast arg1
  let c0_82 : Index := 0#32
  let c0_83 : Index := 0#32
  ![v165.toNat, 0, 0]
def k0_off2 (i : grid0.Coords) : Fin 3 → Nat :=
  let arg1 : BitVec 32 := BitVec.ofNat 32 (i 1).val
  let v148 : Index := Scalar.indexCast arg1
  let c0_73 : Index := 0#32
  let c0_74 : Index := 0#32
  ![v148.toNat, 0, 0]
def k0_cond3 (i : grid0.Coords) : BitVec 1 :=
  let arg1 : BitVec 32 := BitVec.ofNat 32 (i 1).val
  let c3_i32 : BitVec 32 := 3#32
  let v142 : BitVec 1 := Scalar.cmpi .eq arg1 c3_i32
  let v143 : BitVec 32 := Scalar.extui v142
  let c0_i32_70 : BitVec 32 := 0#32
  let v144 : BitVec 1 := Scalar.cmpi .ne v143 c0_i32_70
  v144

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg1.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg1.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x688 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x688 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x688 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x688x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x8x688 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x8x688 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x688x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x688 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x688 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x688 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S4x8x688 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4x8x688 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S2x2048x1024 : Shape := ⟨3, ![2, 2048, 1024]⟩
abbrev S1024x5504 : Shape := ⟨2, ![1024, 5504]⟩
abbrev S3x5504 : Shape := ⟨2, ![3, 5504]⟩
abbrev S5504 : Shape := ⟨1, ![5504]⟩
abbrev S2752x1024 : Shape := ⟨2, ![2752, 1024]⟩
abbrev S2x2048x5504 : Shape := ⟨3, ![2, 2048, 5504]⟩
abbrev S_ : Shape := ⟨0, ![]⟩
abbrev S2x2x5504 : Shape := ⟨3, ![2, 2, 5504]⟩
abbrev S2x2050x5504 : Shape := ⟨3, ![2, 2050, 5504]⟩
abbrev S1x5504 : Shape := ⟨2, ![1, 5504]⟩
abbrev S1x1x5504 : Shape := ⟨3, ![1, 1, 5504]⟩
abbrev S2x2048x2752 : Shape := ⟨3, ![2, 2048, 2752]⟩
abbrev S4x5504 : Shape := ⟨2, ![4, 5504]⟩
abbrev S8x5504 : Shape := ⟨2, ![8, 5504]⟩
abbrev S4096x4x688 : Shape := ⟨3, ![4096, 4, 688]⟩
abbrev S4x4096x688 : Shape := ⟨3, ![4, 4096, 688]⟩
abbrev S4096x1024 : Shape := ⟨2, ![4096, 1024]⟩
abbrev S8x2752 : Shape := ⟨2, ![8, 2752]⟩
abbrev S8x4x688 : Shape := ⟨3, ![8, 4, 688]⟩
abbrev S4x8x688 : Shape := ⟨3, ![4, 8, 688]⟩

abbrev nBuf : Space → Nat
  | .hbm => 133
  | .vmem => 0
  | .smem => 0
  | _ => 0

abbrev hbmTy0_0 (i : Nat) : BufTy := match i % 128 with
  | 0 => ⟨S2x2048x1024, .f32⟩
  | 1 => ⟨S1024x5504, .f32⟩
  | 2 => ⟨S3x5504, .f32⟩
  | 3 => ⟨S5504, .f32⟩
  | 4 => ⟨S2752x1024, .f32⟩
  | 5 => ⟨S2x2048x1024, .f32⟩
  | 6 => ⟨S2x2048x5504, .f32⟩
  | 7 => ⟨S_, .f32⟩
  | 8 => ⟨S2x2x5504, .f32⟩
  | 9 => ⟨S2x2050x5504, .f32⟩
  | 10 => ⟨S_, .f32⟩
  | 11 => ⟨S2x2x5504, .f32⟩
  | 12 => ⟨S2x2048x5504, .f32⟩
  | 13 => ⟨S1x5504, .f32⟩
  | 14 => ⟨S5504, .f32⟩
  | 15 => ⟨S1x1x5504, .f32⟩
  | 16 => ⟨S2x2048x5504, .f32⟩
  | 17 => ⟨S2x2048x5504, .f32⟩
  | 18 => ⟨S2x2048x5504, .f32⟩
  | 19 => ⟨S1x5504, .f32⟩
  | 20 => ⟨S5504, .f32⟩
  | 21 => ⟨S1x1x5504, .f32⟩
  | 22 => ⟨S2x2048x5504, .f32⟩
  | 23 => ⟨S2x2048x5504, .f32⟩
  | 24 => ⟨S2x2048x5504, .f32⟩
  | 25 => ⟨S2x2048x5504, .f32⟩
  | 26 => ⟨S1x5504, .f32⟩
  | 27 => ⟨S5504, .f32⟩
  | 28 => ⟨S1x1x5504, .f32⟩
  | 29 => ⟨S2x2048x5504, .f32⟩
  | 30 => ⟨S2x2048x5504, .f32⟩
  | 31 => ⟨S2x2048x5504, .f32⟩
  | 32 => ⟨S1x1x5504, .f32⟩
  | 33 => ⟨S2x2048x5504, .f32⟩
  | 34 => ⟨S2x2048x5504, .f32⟩
  | 35 => ⟨S2x2048x2752, .f32⟩
  | 36 => ⟨S2x2048x2752, .f32⟩
  | 37 => ⟨S2x2048x2752, .f32⟩
  | 38 => ⟨S2x2048x2752, .f32⟩
  | 39 => ⟨S_, .f32⟩
  | 40 => ⟨S2x2048x2752, .f32⟩
  | 41 => ⟨S2x2048x2752, .f32⟩
  | 42 => ⟨S_, .f32⟩
  | 43 => ⟨S2x2048x2752, .f32⟩
  | 44 => ⟨S2x2048x2752, .f32⟩
  | 45 => ⟨S_, .f32⟩
  | 46 => ⟨S2x2048x2752, .f32⟩
  | 47 => ⟨S2x2048x2752, .f32⟩
  | 48 => ⟨S2x2048x2752, .f32⟩
  | 49 => ⟨S2x2048x2752, .f32⟩
  | 50 => ⟨S2x2048x2752, .f32⟩
  | 51 => ⟨S2x2048x1024, .f32⟩
  | 52 => ⟨S2x2048x2752, .f32⟩
  | 53 => ⟨S2x2048x2752, .f32⟩
  | 54 => ⟨S2x2048x2752, .f32⟩
  | 55 => ⟨S2x2048x2752, .f32⟩
  | 56 => ⟨S2x2048x2752, .f32⟩
  | 57 => ⟨S2x2048x2752, .f32⟩
  | 58 => ⟨S2x2048x2752, .f32⟩
  | 59 => ⟨S2x2048x5504, .f32⟩
  | 60 => ⟨S_, .f32⟩
  | 61 => ⟨S5504, .f32⟩
  | 62 => ⟨S1x1x5504, .f32⟩
  | 63 => ⟨S_, .f32⟩
  | 64 => ⟨S5504, .f32⟩
  | 65 => ⟨S2x2048x5504, .f32⟩
  | 66 => ⟨S_, .f32⟩
  | 67 => ⟨S5504, .f32⟩
  | 68 => ⟨S1x1x5504, .f32⟩
  | 69 => ⟨S2x2048x5504, .f32⟩
  | 70 => ⟨S2x2048x5504, .f32⟩
  | 71 => ⟨S_, .f32⟩
  | 72 => ⟨S5504, .f32⟩
  | 73 => ⟨S1x5504, .f32⟩
  | 74 => ⟨S_, .f32⟩
  | 75 => ⟨S3x5504, .f32⟩
  | 76 => ⟨S_, .f32⟩
  | 77 => ⟨S2x2050x5504, .f32⟩
  | 78 => ⟨S2x2048x5504, .f32⟩
  | 79 => ⟨S_, .f32⟩
  | 80 => ⟨S5504, .f32⟩
  | 81 => ⟨S1x1x5504, .f32⟩
  | 82 => ⟨S2x2048x5504, .f32⟩
  | 83 => ⟨S2x2048x5504, .f32⟩
  | 84 => ⟨S_, .f32⟩
  | 85 => ⟨S5504, .f32⟩
  | 86 => ⟨S1x5504, .f32⟩
  | 87 => ⟨S_, .f32⟩
  | 88 => ⟨S3x5504, .f32⟩
  | 89 => ⟨S3x5504, .f32⟩
  | 90 => ⟨S_, .f32⟩
  | 91 => ⟨S2x2050x5504, .f32⟩
  | 92 => ⟨S2x2050x5504, .f32⟩
  | 93 => ⟨S2x2048x5504, .f32⟩
  | 94 => ⟨S_, .f32⟩
  | 95 => ⟨S5504, .f32⟩
  | 96 => ⟨S1x1x5504, .f32⟩
  | 97 => ⟨S2x2048x5504, .f32⟩
  | 98 => ⟨S2x2048x5504, .f32⟩
  | 99 => ⟨S_, .f32⟩
  | 100 => ⟨S5504, .f32⟩
  | 101 => ⟨S1x5504, .f32⟩
  | 102 => ⟨S_, .f32⟩
  | 103 => ⟨S3x5504, .f32⟩
  | 104 => ⟨S3x5504, .f32⟩
  | 105 => ⟨S_, .f32⟩
  | 106 => ⟨S2x2050x5504, .f32⟩
  | 107 => ⟨S2x2050x5504, .f32⟩
  | 108 => ⟨S2x2x5504, .f32⟩
  | 109 => ⟨S2x2048x5504, .f32⟩
  | 110 => ⟨S2x2048x1024, .f32⟩
  | 111 => ⟨S2x2048x2752, .f32⟩
  | 112 => ⟨S2x2048x2752, .f32⟩
  | 113 => ⟨S1x5504, .f32⟩
  | 114 => ⟨S_, .f32⟩
  | 115 => ⟨S4x5504, .f32⟩
  | 116 => ⟨S8x5504, .f32⟩
  | 117 => ⟨S4096x4x688, .f32⟩
  | 118 => ⟨S4x4096x688, .f32⟩
  | 119 => ⟨S4x4096x688, .bf16⟩
  | 120 => ⟨S4096x4x688, .f32⟩
  | 121 => ⟨S4x4096x688, .f32⟩
  | 122 => ⟨S4x4096x688, .bf16⟩
  | 123 => ⟨S4096x4x688, .f32⟩
  | 124 => ⟨S4x4096x688, .f32⟩
  | 125 => ⟨S4x4096x688, .bf16⟩
  | 126 => ⟨S4096x1024, .f32⟩
  | 127 => ⟨S8x2752, .f32⟩
  | _ => ⟨S2x2048x1024, .f32⟩

abbrev hbmTy0_1 (i : Nat) : BufTy := match i % 128 with
  | 0 => ⟨S8x4x688, .f32⟩
  | 1 => ⟨S4x8x688, .f32⟩
  | 2 => ⟨S8x2752, .f32⟩
  | 3 => ⟨S8x4x688, .f32⟩
  | 4 => ⟨S4x8x688, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_cst_1 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]
-- ==== KernelUpGate.lean ====
abbrev S2x2048x1024 : Shape := ⟨3, ![2, 2048, 1024]⟩
abbrev S2x2048x5504 : Shape := ⟨3, ![2, 2048, 5504]⟩
abbrev S4096x8x688 : Shape := ⟨3, ![4096, 8, 688]⟩
abbrev S8x4096x688 : Shape := ⟨3, ![8, 4096, 688]⟩
abbrev S4x4096x688 : Shape := ⟨3, ![4, 4096, 688]⟩
abbrev S4096x1024 : Shape := ⟨2, ![4096, 1024]⟩
abbrev S4x688x1024 : Shape := ⟨3, ![4, 688, 1024]⟩
abbrev S1x4096x688 : Shape := ⟨3, ![1, 4096, 688]⟩
abbrev S1x688x1024 : Shape := ⟨3, ![1, 688, 1024]⟩
abbrev S688x1024 : Shape := ⟨2, ![688, 1024]⟩
abbrev S4096x688 : Shape := ⟨2, ![4096, 688]⟩

abbrev nBuf : Space → Nat
  | .hbm => 9
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5504, .f32⟩
  | .hbm, ⟨2, _⟩ => ⟨S4096x8x688, .f32⟩
  | .hbm, ⟨3, _⟩ => ⟨S8x4096x688, .f32⟩
  | .hbm, ⟨4, _⟩ => ⟨S8x4096x688, .bf16⟩
  | .hbm, ⟨5, _⟩ => ⟨S4x4096x688, .bf16⟩
  | .hbm, ⟨6, _⟩ => ⟨S4096x1024, .f32⟩
  | .hbm, ⟨7, _⟩ => ⟨S4096x1024, .bf16⟩
  | .hbm, ⟨8, _⟩ => ⟨S4x688x1024, .bf16⟩
  | .local _ .vmem, ⟨0, _⟩ => ⟨S1x4096x688, .bf16⟩
  | .local _ .vmem, ⟨1, _⟩ => ⟨S1x4096x688, .bf16⟩
  | .local _ .vmem, ⟨2, _⟩ => ⟨S4096x1024, .bf16⟩
  | .local _ .vmem, ⟨3, _⟩ => ⟨S1x688x1024, .bf16⟩
  | .local _ .vmem, ⟨4, _⟩ => ⟨S1x688x1024, .bf16⟩
  | .local _ .vmem, ⟨5, _⟩ => ⟨S688x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceUpGateIdeal.lean ====
abbrev S2x2048x1024 : Shape := ⟨3, ![2, 2048, 1024]⟩
abbrev S2x2048x5504 : Shape := ⟨3, ![2, 2048, 5504]⟩
abbrev S_ : Shape := ⟨0, ![]⟩
abbrev S1024x5504 : Shape := ⟨2, ![1024, 5504]⟩
abbrev S5504x1024 : Shape := ⟨2, ![5504, 1024]⟩
abbrev S1024x2752 : Shape := ⟨2, ![1024, 2752]⟩
abbrev S2752x1024 : Shape := ⟨2, ![2752, 1024]⟩
abbrev S4x688x1024 : Shape := ⟨3, ![4, 688, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5504, .f32⟩
  | .hbm, ⟨2, _⟩ => ⟨S_, .f32⟩
  | .hbm, ⟨3, _⟩ => ⟨S1024x5504, .f32⟩
  | .hbm, ⟨4, _⟩ => ⟨S2x2048x5504, .f32⟩
  | .hbm, ⟨5, _⟩ => ⟨S5504x1024, .f32⟩
  | .hbm, ⟨6, _⟩ => ⟨S1024x5504, .f32⟩
  | .hbm, ⟨7, _⟩ => ⟨S1024x2752, .f32⟩
  | .hbm, ⟨8, _⟩ => ⟨S2752x1024, .f32⟩
  | .hbm, ⟨9, _⟩ => ⟨S4x688x1024, .f32⟩
  | .hbm, ⟨10, _⟩ => ⟨S4x688x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelUpVal.lean ====
abbrev S2x2048x1024 : Shape := ⟨3, ![2, 2048, 1024]⟩
abbrev S2x2048x5504 : Shape := ⟨3, ![2, 2048, 5504]⟩
abbrev S4096x8x688 : Shape := ⟨3, ![4096, 8, 688]⟩
abbrev S8x4096x688 : Shape := ⟨3, ![8, 4096, 688]⟩
abbrev S4x4096x688 : Shape := ⟨3, ![4, 4096, 688]⟩
abbrev S4096x1024 : Shape := ⟨2, ![4096, 1024]⟩
abbrev S4x688x1024 : Shape := ⟨3, ![4, 688, 1024]⟩
abbrev S1x4096x688 : Shape := ⟨3, ![1, 4096, 688]⟩
abbrev S1x688x1024 : Shape := ⟨3, ![1, 688, 1024]⟩
abbrev S688x1024 : Shape := ⟨2, ![688, 1024]⟩
abbrev S4096x688 : Shape := ⟨2, ![4096, 688]⟩

abbrev nBuf : Space → Nat
  | .hbm => 9
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5504, .f32⟩
  | .hbm, ⟨2, _⟩ => ⟨S4096x8x688, .f32⟩
  | .hbm, ⟨3, _⟩ => ⟨S8x4096x688, .f32⟩
  | .hbm, ⟨4, _⟩ => ⟨S8x4096x688, .bf16⟩
  | .hbm, ⟨5, _⟩ => ⟨S4x4096x688, .bf16⟩
  | .hbm, ⟨6, _⟩ => ⟨S4096x1024, .f32⟩
  | .hbm, ⟨7, _⟩ => ⟨S4096x1024, .bf16⟩
  | .hbm, ⟨8, _⟩ => ⟨S4x688x1024, .bf16⟩
  | .local _ .vmem, ⟨0, _⟩ => ⟨S1x4096x688, .bf16⟩
  | .local _ .vmem, ⟨1, _⟩ => ⟨S1x4096x688, .bf16⟩
  | .local _ .vmem, ⟨2, _⟩ => ⟨S4096x1024, .bf16⟩
  | .local _ .vmem, ⟨3, _⟩ => ⟨S1x688x1024, .bf16⟩
  | .local _ .vmem, ⟨4, _⟩ => ⟨S1x688x1024, .bf16⟩
  | .local _ .vmem, ⟨5, _⟩ => ⟨S688x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceUpValIdeal.lean ====
abbrev S2x2048x1024 : Shape := ⟨3, ![2, 2048, 1024]⟩
abbrev S2x2048x5504 : Shape := ⟨3, ![2, 2048, 5504]⟩
abbrev S_ : Shape := ⟨0, ![]⟩
abbrev S1024x5504 : Shape := ⟨2, ![1024, 5504]⟩
abbrev S5504x1024 : Shape := ⟨2, ![5504, 1024]⟩
abbrev S1024x2752 : Shape := ⟨2, ![1024, 2752]⟩
abbrev S2752x1024 : Shape := ⟨2, ![2752, 1024]⟩
abbrev S4x688x1024 : Shape := ⟨3, ![4, 688, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5504, .f32⟩
  | .hbm, ⟨2, _⟩ => ⟨S_, .f32⟩
  | .hbm, ⟨3, _⟩ => ⟨S1024x5504, .f32⟩
  | .hbm, ⟨4, _⟩ => ⟨S2x2048x5504, .f32⟩
  | .hbm, ⟨5, _⟩ => ⟨S5504x1024, .f32⟩
  | .hbm, ⟨6, _⟩ => ⟨S1024x5504, .f32⟩
  | .hbm, ⟨7, _⟩ => ⟨S1024x2752, .f32⟩
  | .hbm, ⟨8, _⟩ => ⟨S2752x1024, .f32⟩
  | .hbm, ⟨9, _⟩ => ⟨S4x688x1024, .f32⟩
  | .hbm, ⟨10, _⟩ => ⟨S4x688x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDown.lean ====
abbrev S2x2048x2752 : Shape := ⟨3, ![2, 2048, 2752]⟩
abbrev S2x2048x1024 : Shape := ⟨3, ![2, 2048, 1024]⟩
abbrev S4096x4x688 : Shape := ⟨3, ![4096, 4, 688]⟩
abbrev S4x4096x688 : Shape := ⟨3, ![4, 4096, 688]⟩
abbrev S4096x1024 : Shape := ⟨2, ![4096, 1024]⟩
abbrev S4x688x1024 : Shape := ⟨3, ![4, 688, 1024]⟩
abbrev S1x2048x688 : Shape := ⟨3, ![1, 2048, 688]⟩
abbrev S2048x1024 : Shape := ⟨2, ![2048, 1024]⟩
abbrev S1x688x1024 : Shape := ⟨3, ![1, 688, 1024]⟩
abbrev S688x1024 : Shape := ⟨2, ![688, 1024]⟩
abbrev S2048x688 : Shape := ⟨2, ![2048, 688]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x2752, .f32⟩
  | .hbm, ⟨1, _⟩ => ⟨S2x2048x1024, .f32⟩
  | .hbm, ⟨2, _⟩ => ⟨S4096x4x688, .f32⟩
  | .hbm, ⟨3, _⟩ => ⟨S4x4096x688, .f32⟩
  | .hbm, ⟨4, _⟩ => ⟨S4x4096x688, .bf16⟩
  | .hbm, ⟨5, _⟩ => ⟨S4096x1024, .f32⟩
  | .hbm, ⟨6, _⟩ => ⟨S4x688x1024, .bf16⟩
  | .local _ .vmem, ⟨0, _⟩ => ⟨S1x2048x688, .bf16⟩
  | .local _ .vmem, ⟨1, _⟩ => ⟨S1x2048x688, .bf16⟩
  | .local _ .vmem, ⟨2, _⟩ => ⟨S2048x1024, .f32⟩
  | .local _ .vmem, ⟨3, _⟩ => ⟨S2048x1024, .f32⟩
  | .local _ .vmem, ⟨4, _⟩ => ⟨S1x688x1024, .bf16⟩
  | .local _ .vmem, ⟨5, _⟩ => ⟨S1x688x1024, .bf16⟩
  | .local _ .vmem, ⟨6, _⟩ => ⟨S688x1024, .f32⟩
  | _, _ => ⟨S2x2048x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownIdeal.lean ====
abbrev S2x2048x2752 : Shape := ⟨3, ![2, 2048, 2752]⟩
abbrev S2x2048x1024 : Shape := ⟨3, ![2, 2048, 1024]⟩
abbrev S_ : Shape := ⟨0, ![]⟩
abbrev S2752x1024 : Shape := ⟨2, ![2752, 1024]⟩
abbrev S1024x2752 : Shape := ⟨2, ![1024, 2752]⟩
abbrev S4x688x1024 : Shape := ⟨3, ![4, 688, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x2752, .f32⟩
  | .hbm, ⟨1, _⟩ => ⟨S2x2048x1024, .f32⟩
  | .hbm, ⟨2, _⟩ => ⟨S_, .f32⟩
  | .hbm, ⟨3, _⟩ => ⟨S2752x1024, .f32⟩
  | .hbm, ⟨4, _⟩ => ⟨S2x2048x1024, .f32⟩
  | .hbm, ⟨5, _⟩ => ⟨S1024x2752, .f32⟩
  | .hbm, ⟨6, _⟩ => ⟨S2752x1024, .f32⟩
  | .hbm, ⟨7, _⟩ => ⟨S4x688x1024, .f32⟩
  | .hbm, ⟨8, _⟩ => ⟨S4x688x1024, .bf16⟩
  | _, _ => ⟨S2x2048x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelFwd.lean ====
abbrev S2x2048x1024 : Shape := ⟨3, ![2, 2048, 1024]⟩
abbrev S1024x5504 : Shape := ⟨2, ![1024, 5504]⟩
abbrev S3x5504 : Shape := ⟨2, ![3, 5504]⟩
abbrev S5504 : Shape := ⟨1, ![5504]⟩
abbrev S2752x1024 : Shape := ⟨2, ![2752, 1024]⟩
abbrev S5504x1024 : Shape := ⟨2, ![5504, 1024]⟩
abbrev S8x688x1024 : Shape := ⟨3, ![8, 688, 1024]⟩
abbrev S3x8x688 : Shape := ⟨3, ![3, 8, 688]⟩
abbrev S8x3x688 : Shape := ⟨3, ![8, 3, 688]⟩
abbrev S8x1x688 : Shape := ⟨3, ![8, 1, 688]⟩
abbrev S8x4x688 : Shape := ⟨3, ![8, 4, 688]⟩
abbrev S_ : Shape := ⟨0, ![]⟩
abbrev S8x8x688 : Shape := ⟨3, ![8, 8, 688]⟩
abbrev S4x688x1024 : Shape := ⟨3, ![4, 688, 1024]⟩
abbrev S4096x1024 : Shape := ⟨2, ![4096, 1024]⟩
abbrev S4x4096x688 : Shape := ⟨3, ![4, 4096, 688]⟩
abbrev S8x1x1024 : Shape := ⟨3, ![8, 1, 1024]⟩
abbrev S512x1024 : Shape := ⟨2, ![512, 1024]⟩
abbrev S16x1024 : Shape := ⟨2, ![16, 1024]⟩
abbrev S1x688x1024 : Shape := ⟨3, ![1, 688, 1024]⟩
abbrev S1x8x688 : Shape := ⟨3, ![1, 8, 688]⟩
abbrev S1x512x688 : Shape := ⟨3, ![1, 512, 688]⟩
abbrev S1x1x1024 : Shape := ⟨3, ![1, 1, 1024]⟩
abbrev S528x1024 : Shape := ⟨2, ![528, 1024]⟩
abbrev S688x1024 : Shape := ⟨2, ![688, 1024]⟩
abbrev S528x688 : Shape := ⟨2, ![528, 688]⟩
abbrev S512x688 : Shape := ⟨2, ![512, 688]⟩
abbrev S8x688 : Shape := ⟨2, ![8, 688]⟩
abbrev S1x688 : Shape := ⟨2, ![1, 688]⟩
abbrev S1024 : Shape := ⟨1, ![1024]⟩
abbrev S1x1024 : Shape := ⟨2, ![1, 1024]⟩

abbrev nBuf : Space → Nat
  | .hbm => 29
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x5504, .f32⟩
  | .hbm, ⟨4, _⟩ => ⟨S3x5504, .f32⟩
  | .hbm, ⟨5, _⟩ => ⟨S5504, .f32⟩
  | .hbm, ⟨6, _⟩ => ⟨S2752x1024, .f32⟩
  | .hbm, ⟨7, _⟩ => ⟨S5504x1024, .f32⟩
  | .hbm, ⟨8, _⟩ => ⟨S5504x1024, .bf16⟩
  | .hbm, ⟨9, _⟩ => ⟨S8x688x1024, .bf16⟩
  | .hbm, ⟨10, _⟩ => ⟨S3x8x688, .f32⟩
  | .hbm, ⟨11, _⟩ => ⟨S8x3x688, .f32⟩
  | .hbm, ⟨12, _⟩ => ⟨S8x1x688, .f32⟩
  | .hbm, ⟨13, _⟩ => ⟨S8x4x688, .f32⟩
  | .hbm, ⟨14, _⟩ => ⟨S_, .i32⟩
  | .hbm, ⟨15, _⟩ => ⟨S_, .f32⟩
  | .hbm, ⟨16, _⟩ => ⟨S8x8x688, .f32⟩
  | .hbm, ⟨17, _⟩ => ⟨S2752x1024, .bf16⟩
  | .hbm, ⟨18, _⟩ => ⟨S4x688x1024, .bf16⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .f32⟩
  | .hbm, ⟨23, _⟩ => ⟨S4x4096x688, .bf16⟩
  | .hbm, ⟨24, _⟩ => ⟨S4x4096x688, .bf16⟩
  | .hbm, ⟨25, _⟩ => ⟨S4x4096x688, .bf16⟩
  | .hbm, ⟨26, _⟩ => ⟨S4x4096x688, .bf16⟩
  | .hbm, ⟨27, _⟩ => ⟨S4096x1024, .f32⟩
  | .hbm, ⟨28, _⟩ => ⟨S8x1x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x688x1024, .bf16⟩
  | .local _ .vmem, ⟨9, _⟩ => ⟨S1x688x1024, .bf16⟩
  | .local _ .vmem, ⟨10, _⟩ => ⟨S1x688x1024, .bf16⟩
  | .local _ .vmem, ⟨11, _⟩ => ⟨S1x688x1024, .bf16⟩
  | .local _ .vmem, ⟨12, _⟩ => ⟨S1x8x688, .f32⟩
  | .local _ .vmem, ⟨13, _⟩ => ⟨S1x8x688, .f32⟩
  | .local _ .vmem, ⟨14, _⟩ => ⟨S1x8x688, .f32⟩
  | .local _ .vmem, ⟨15, _⟩ => ⟨S1x8x688, .f32⟩
  | .local _ .vmem, ⟨16, _⟩ => ⟨S1x688x1024, .bf16⟩
  | .local _ .vmem, ⟨17, _⟩ => ⟨S1x688x1024, .bf16⟩
  | .local _ .vmem, ⟨18, _⟩ => ⟨S1x512x688, .bf16⟩
  | .local _ .vmem, ⟨19, _⟩ => ⟨S1x512x688, .bf16⟩
  | .local _ .vmem, ⟨20, _⟩ => ⟨S1x512x688, .bf16⟩
  | .local _ .vmem, ⟨21, _⟩ => ⟨S1x512x688, .bf16⟩
  | .local _ .vmem, ⟨22, _⟩ => ⟨S1x512x688, .bf16⟩
  | .local _ .vmem, ⟨23, _⟩ => ⟨S1x512x688, .bf16⟩
  | .local _ .vmem, ⟨24, _⟩ => ⟨S1x512x688, .bf16⟩
  | .local _ .vmem, ⟨25, _⟩ => ⟨S1x512x688, .bf16⟩
  | .local _ .vmem, ⟨26, _⟩ => ⟨S512x1024, .f32⟩
  | .local _ .vmem, ⟨27, _⟩ => ⟨S512x1024, .f32⟩
  | .local _ .vmem, ⟨28, _⟩ => ⟨S1x1x1024, .f32⟩
  | .local _ .vmem, ⟨29, _⟩ => ⟨S1x1x1024, .f32⟩
  | .local _ .vmem, ⟨30, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v94 : BitVec 1 := Scalar.cmpi .eq arg1 c3_i32
  let v95 : BitVec 32 := Scalar.extui v94
  let c0_i32_44 : BitVec 32 := 0#32
  let v96 : BitVec 1 := Scalar.cmpi .ne v95 c0_i32_44
  v96

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x8x688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x688 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x688 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x688 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x688 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceFwdIdeal.lean ====
abbrev S2x2048x1024 : Shape := ⟨3, ![2, 2048, 1024]⟩
abbrev S1024x5504 : Shape := ⟨2, ![1024, 5504]⟩
abbrev S3x5504 : Shape := ⟨2, ![3, 5504]⟩
abbrev S5504 : Shape := ⟨1, ![5504]⟩
abbrev S2752x1024 : Shape := ⟨2, ![2752, 1024]⟩
abbrev S2x2048x5504 : Shape := ⟨3, ![2, 2048, 5504]⟩
abbrev S_ : Shape := ⟨0, ![]⟩
abbrev S2x2050x5504 : Shape := ⟨3, ![2, 2050, 5504]⟩
abbrev S1x5504 : Shape := ⟨2, ![1, 5504]⟩
abbrev S1x1x5504 : Shape := ⟨3, ![1, 1, 5504]⟩
abbrev S2x2048x2752 : Shape := ⟨3, ![2, 2048, 2752]⟩
abbrev S2x2048 : Shape := ⟨2, ![2, 2048]⟩
abbrev S4096x4x688 : Shape := ⟨3, ![4096, 4, 688]⟩
abbrev S4x4096x688 : Shape := ⟨3, ![4, 4096, 688]⟩
abbrev S4096x1024 : Shape := ⟨2, ![4096, 1024]⟩
abbrev S8x512x1024 : Shape := ⟨3, ![8, 512, 1024]⟩
abbrev S8x1024 : Shape := ⟨2, ![8, 1024]⟩
abbrev S8x1x1024 : Shape := ⟨3, ![8, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x5504, .f32⟩
  | .hbm, ⟨4, _⟩ => ⟨S3x5504, .f32⟩
  | .hbm, ⟨5, _⟩ => ⟨S5504, .f32⟩
  | .hbm, ⟨6, _⟩ => ⟨S2752x1024, .f32⟩
  | .hbm, ⟨7, _⟩ => ⟨S2x2048x5504, .f32⟩
  | .hbm, ⟨8, _⟩ => ⟨S_, .i32⟩
  | .hbm, ⟨9, _⟩ => ⟨S_, .f32⟩
  | .hbm, ⟨10, _⟩ => ⟨S2x2050x5504, .f32⟩
  | .hbm, ⟨11, _⟩ => ⟨S2x2048x5504, .f32⟩
  | .hbm, ⟨12, _⟩ => ⟨S1x5504, .f32⟩
  | .hbm, ⟨13, _⟩ => ⟨S5504, .f32⟩
  | .hbm, ⟨14, _⟩ => ⟨S1x1x5504, .f32⟩
  | .hbm, ⟨15, _⟩ => ⟨S2x2048x5504, .f32⟩
  | .hbm, ⟨16, _⟩ => ⟨S2x2048x5504, .f32⟩
  | .hbm, ⟨17, _⟩ => ⟨S2x2048x5504, .f32⟩
  | .hbm, ⟨18, _⟩ => ⟨S1x5504, .f32⟩
  | .hbm, ⟨19, _⟩ => ⟨S5504, .f32⟩
  | .hbm, ⟨20, _⟩ => ⟨S1x1x5504, .f32⟩
  | .hbm, ⟨21, _⟩ => ⟨S2x2048x5504, .f32⟩
  | .hbm, ⟨22, _⟩ => ⟨S2x2048x5504, .f32⟩
  | .hbm, ⟨23, _⟩ => ⟨S2x2048x5504, .f32⟩
  | .hbm, ⟨24, _⟩ => ⟨S2x2048x5504, .f32⟩
  | .hbm, ⟨25, _⟩ => ⟨S1x5504, .f32⟩
  | .hbm, ⟨26, _⟩ => ⟨S5504, .f32⟩
  | .hbm, ⟨27, _⟩ => ⟨S1x1x5504, .f32⟩
  | .hbm, ⟨28, _⟩ => ⟨S2x2048x5504, .f32⟩
  | .hbm, ⟨29, _⟩ => ⟨S2x2048x5504, .f32⟩
  | .hbm, ⟨30, _⟩ => ⟨S2x2048x5504, .f32⟩
  | .hbm, ⟨31, _⟩ => ⟨S1x1x5504, .f32⟩
  | .hbm, ⟨32, _⟩ => ⟨S2x2048x5504, .f32⟩
  | .hbm, ⟨33, _⟩ => ⟨S2x2048x5504, .f32⟩
  | .hbm, ⟨34, _⟩ => ⟨S2x2048x2752, .f32⟩
  | .hbm, ⟨35, _⟩ => ⟨S2x2048x2752, .f32⟩
  | .hbm, ⟨36, _⟩ => ⟨S2x2048x2752, .f32⟩
  | .hbm, ⟨37, _⟩ => ⟨S2x2048x2752, .f32⟩
  | .hbm, ⟨38, _⟩ => ⟨S_, .f32⟩
  | .hbm, ⟨39, _⟩ => ⟨S2x2048x2752, .f32⟩
  | .hbm, ⟨40, _⟩ => ⟨S2x2048x2752, .f32⟩
  | .hbm, ⟨41, _⟩ => ⟨S_, .f32⟩
  | .hbm, ⟨42, _⟩ => ⟨S2x2048x2752, .f32⟩
  | .hbm, ⟨43, _⟩ => ⟨S2x2048x2752, .f32⟩
  | .hbm, ⟨44, _⟩ => ⟨S2x2048x2752, .f32⟩
  | .hbm, ⟨45, _⟩ => ⟨S2x2048x2752, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S2x2048, .f32⟩
  | .hbm, ⟨55, _⟩ => ⟨S_, .f32⟩
  | .hbm, ⟨56, _⟩ => ⟨S2x2048, .f32⟩
  | .hbm, ⟨57, _⟩ => ⟨S2x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S2x2048, .f32⟩
  | .hbm, ⟨66, _⟩ => ⟨S_, .f32⟩
  | .hbm, ⟨67, _⟩ => ⟨S2x2048, .f32⟩
  | .hbm, ⟨68, _⟩ => ⟨S2x2048, .f32⟩
  | .hbm, ⟨69, _⟩ => ⟨S2x2048x1024, .f32⟩
  | .hbm, ⟨70, _⟩ => ⟨S2x2048x1024, .f32⟩
  | .hbm, ⟨71, _⟩ => ⟨S2x2048x2752, .f32⟩
  | .hbm, ⟨72, _⟩ => ⟨S4096x4x688, .f32⟩
  | .hbm, ⟨73, _⟩ => ⟨S4x4096x688, .f32⟩
  | .hbm, ⟨74, _⟩ => ⟨S4x4096x688, .bf16⟩
  | .hbm, ⟨75, _⟩ => ⟨S2x2048x2752, .f32⟩
  | .hbm, ⟨76, _⟩ => ⟨S4096x4x688, .f32⟩
  | .hbm, ⟨77, _⟩ => ⟨S4x4096x688, .f32⟩
  | .hbm, ⟨78, _⟩ => ⟨S4x4096x688, .bf16⟩
  | .hbm, ⟨79, _⟩ => ⟨S4096x4x688, .f32⟩
  | .hbm, ⟨80, _⟩ => ⟨S4x4096x688, .f32⟩
  | .hbm, ⟨81, _⟩ => ⟨S4x4096x688, .bf16⟩
  | .hbm, ⟨82, _⟩ => ⟨S4096x4x688, .f32⟩
  | .hbm, ⟨83, _⟩ => ⟨S4x4096x688, .f32⟩
  | .hbm, ⟨84, _⟩ => ⟨S4x4096x688, .bf16⟩
  | .hbm, ⟨85, _⟩ => ⟨S4096x1024, .f32⟩
  | .hbm, ⟨86, _⟩ => ⟨S8x512x1024, .f32⟩
  | .hbm, ⟨87, _⟩ => ⟨S_, .f32⟩
  | .hbm, ⟨88, _⟩ => ⟨S8x1024, .f32⟩
  | .hbm, ⟨89, _⟩ => ⟨S8x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_cst_0 : Ref sig .tc := ⟨.hbm, 53, rfl⟩
abbrev main_v35 : Ref sig .tc := ⟨.hbm, 54, rfl⟩
abbrev main_cst_1 : Ref sig .tc := ⟨.hbm, 55, rfl⟩
abbrev main_v36 : Ref sig .tc := ⟨.hbm, 56, rfl⟩
abbrev main_v37 : Ref sig .tc := ⟨.hbm, 57, rfl⟩
abbrev main_cst_2 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_cst_4 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== KernelIn.lean ====
abbrev S2x2048x1024 : Shape := ⟨3, ![2, 2048, 1024]⟩
abbrev S2x2048x2056 : Shape := ⟨3, ![2, 2048, 2056]⟩
abbrev S4096x2056 : Shape := ⟨2, ![4096, 2056]⟩
abbrev S_ : Shape := ⟨0, ![]⟩
abbrev S4096x2176 : Shape := ⟨2, ![4096, 2176]⟩
abbrev S4096x1024 : Shape := ⟨2, ![4096, 1024]⟩
abbrev S2056x1024 : Shape := ⟨2, ![2056, 1024]⟩
abbrev S1024x2176 : Shape := ⟨2, ![1024, 2176]⟩
abbrev S1024x1024 : Shape := ⟨2, ![1024, 1024]⟩
abbrev S2176x1024 : Shape := ⟨2, ![2176, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2056, .f32⟩
  | .hbm, ⟨2, _⟩ => ⟨S4096x2056, .f32⟩
  | .hbm, ⟨3, _⟩ => ⟨S_, .i32⟩
  | .hbm, ⟨4, _⟩ => ⟨S_, .f32⟩
  | .hbm, ⟨5, _⟩ => ⟨S4096x2176, .f32⟩
  | .hbm, ⟨6, _⟩ => ⟨S4096x2176, .bf16⟩
  | .hbm, ⟨7, _⟩ => ⟨S4096x1024, .f32⟩
  | .hbm, ⟨8, _⟩ => ⟨S4096x1024, .bf16⟩
  | .hbm, ⟨9, _⟩ => ⟨S2056x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceInIdeal.lean ====
abbrev S2x2048x1024 : Shape := ⟨3, ![2, 2048, 1024]⟩
abbrev S2x2048x2056 : Shape := ⟨3, ![2, 2048, 2056]⟩
abbrev S_ : Shape := ⟨0, ![]⟩
abbrev S1024x2056 : Shape := ⟨2, ![1024, 2056]⟩
abbrev S2056x1024 : Shape := ⟨2, ![2056, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2056, .f32⟩
  | .hbm, ⟨2, _⟩ => ⟨S_, .f32⟩
  | .hbm, ⟨3, _⟩ => ⟨S1024x2056, .f32⟩
  | .hbm, ⟨4, _⟩ => ⟨S2x2048x2056, .f32⟩
  | .hbm, ⟨5, _⟩ => ⟨S2056x1024, .f32⟩
  | .hbm, ⟨6, _⟩ => ⟨S1024x2056, .f32⟩
  | .hbm, ⟨7, _⟩ => ⟨S2056x1024, .f32⟩
  | .hbm, ⟨8, _⟩ => ⟨S2056x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMix.lean ====
abbrev S2x2048x1024 : Shape := ⟨3, ![2, 2048, 1024]⟩
abbrev S2x2048x512 : Shape := ⟨3, ![2, 2048, 512]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S4096x1024 : Shape := ⟨2, ![4096, 1024]⟩
abbrev S4096x512 : Shape := ⟨2, ![4096, 512]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S512x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S1x1024, .f32⟩
  | .hbm, ⟨9, _⟩ => ⟨S4096x1024, .f32⟩
  | .hbm, ⟨10, _⟩ => ⟨S4096x512, .f32⟩
  | .hbm, ⟨11, _⟩ => ⟨S4096x512, .f32⟩
  | .hbm, ⟨12, _⟩ => ⟨S512x512, .bf16⟩
  | .hbm, ⟨13, _⟩ => ⟨S1024x1024, .bf16⟩
  | .hbm, ⟨14, _⟩ => ⟨S4096x1024, .f32⟩
  | .hbm, ⟨15, _⟩ => ⟨S4096x1024, .bf16⟩
  | .hbm, ⟨16, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceMixIdeal.lean ====
abbrev S2x2048x1024 : Shape := ⟨3, ![2, 2048, 1024]⟩
abbrev S2x2048x512 : Shape := ⟨3, ![2, 2048, 512]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S512 : Shape := ⟨1, ![512]⟩
abbrev S1x1x512 : Shape := ⟨3, ![1, 1, 512]⟩
abbrev S2x2048 : Shape := ⟨2, ![2, 2048]⟩
abbrev S2x2048x1 : Shape := ⟨3, ![2, 2048, 1]⟩
abbrev S4096x1024 : Shape := ⟨2, ![4096, 1024]⟩
abbrev S1024 : Shape := ⟨1, ![1024]⟩
abbrev S1x1x1024 : Shape := ⟨3, ![1, 1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S512x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S1x1024, .f32⟩
  | .hbm, ⟨9, _⟩ => ⟨S2x2048x512, .f32⟩
  | .hbm, ⟨10, _⟩ => ⟨S2x2048x512, .f32⟩
  | .hbm, ⟨11, _⟩ => ⟨S_, .f32⟩
  | .hbm, ⟨12, _⟩ => ⟨S2x2048x512, .f32⟩
  | .hbm, ⟨13, _⟩ => ⟨S2x2048x512, .f32⟩
  | .hbm, ⟨14, _⟩ => ⟨S2x2048x512, .f32⟩
  | .hbm, ⟨15, _⟩ => ⟨S_, .f32⟩
  | .hbm, ⟨16, _⟩ => ⟨S2x2048x512, .f32⟩
  | .hbm, ⟨17, _⟩ => ⟨S2x2048x512, .f32⟩
  | .hbm, ⟨18, _⟩ => ⟨S2x2048x512, .f32⟩
  | .hbm, ⟨19, _⟩ => ⟨S_, .f32⟩
  | .hbm, ⟨20, _⟩ => ⟨S2x2048x512, .f32⟩
  | .hbm, ⟨21, _⟩ => ⟨S2x2048x512, .f32⟩
  | .hbm, ⟨22, _⟩ => ⟨S_, .f32⟩
  | .hbm, ⟨23, _⟩ => ⟨S2x2048x512, .f32⟩
  | .hbm, ⟨24, _⟩ => ⟨S2x2048x512, .f32⟩
  | .hbm, ⟨25, _⟩ => ⟨S2x2048x512, .f32⟩
  | .hbm, ⟨26, _⟩ => ⟨S2x2048x512, .f32⟩
  | .hbm, ⟨27, _⟩ => ⟨S512, .f32⟩
  | .hbm, ⟨28, _⟩ => ⟨S1x1x512, .f32⟩
  | .hbm, ⟨29, _⟩ => ⟨S2x2048x512, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S_, .f32⟩
  | .hbm, ⟨34, _⟩ => ⟨S2x2048x512, .f32⟩
  | .hbm, ⟨35, _⟩ => ⟨S2x2048x512, .f32⟩
  | .hbm, ⟨36, _⟩ => ⟨S_, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S512, .f32⟩
  | .hbm, ⟨41, _⟩ => ⟨S2x2048x512, .f32⟩
  | .hbm, ⟨42, _⟩ => ⟨S_, .f32⟩
  | .hbm, ⟨43, _⟩ => ⟨S2x2048, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S2x2048x1, .f32⟩
  | .hbm, ⟨52, _⟩ => ⟨S2x2048x512, .f32⟩
  | .hbm, ⟨53, _⟩ => ⟨S2x2048x512, .f32⟩
  | .hbm, ⟨54, _⟩ => ⟨S1x1x512, .f32⟩
  | .hbm, ⟨55, _⟩ => ⟨S2x2048x512, .f32⟩
  | .hbm, ⟨56, _⟩ => ⟨S2x2048x512, .f32⟩
  | .hbm, ⟨57, _⟩ => ⟨S512, .f32⟩
  | .hbm, ⟨58, _⟩ => ⟨S2x2048x512, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S_, .f32⟩
  | .hbm, ⟨63, _⟩ => ⟨S2x2048x1, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S2x2048x1, .f32⟩
  | .hbm, ⟨69, _⟩ => ⟨S2x2048x512, .f32⟩
  | .hbm, ⟨70, _⟩ => ⟨S2x2048x512, .f32⟩
  | .hbm, ⟨71, _⟩ => ⟨S1x1x512, .f32⟩
  | .hbm, ⟨72, _⟩ => ⟨S2x2048x512, .f32⟩
  | .hbm, ⟨73, _⟩ => ⟨S2x2048x512, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S4096x1024, .f32⟩
  | .hbm, ⟨78, _⟩ => ⟨S1024, .f32⟩
  | .hbm, ⟨79, _⟩ => ⟨S2x2048x1024, .f32⟩
  | .hbm, ⟨80, _⟩ => ⟨S_, .f32⟩
  | .hbm, ⟨81, _⟩ => ⟨S2x2048, .f32⟩
  | .hbm, ⟨82, _⟩ => ⟨S2x2048x1, .f32⟩
  | .hbm, ⟨83, _⟩ => ⟨S_, .f32⟩
  | .hbm, ⟨84, _⟩ => ⟨S2x2048x1, .f32⟩
  | .hbm, ⟨85, _⟩ => ⟨S2x2048x1, .f32⟩
  | .hbm, ⟨86, _⟩ => ⟨S_, .f32⟩
  | .hbm, ⟨87, _⟩ => ⟨S2x2048x1, .f32⟩
  | .hbm, ⟨88, _⟩ => ⟨S2x2048x1, .f32⟩
  | .hbm, ⟨89, _⟩ => ⟨S2x2048x1, .f32⟩
  | .hbm, ⟨90, _⟩ => ⟨S2x2048x1024, .f32⟩
  | .hbm, ⟨91, _⟩ => ⟨S2x2048x1024, .f32⟩
  | .hbm, ⟨92, _⟩ => ⟨S1x1x1024, .f32⟩
  | .hbm, ⟨93, _⟩ => ⟨S2x2048x1024, .f32⟩
  | .hbm, ⟨94, _⟩ => ⟨S2x2048x1024, .f32⟩
  | .hbm, ⟨95, _⟩ => ⟨S4096x1024, .f32⟩
  | .hbm, ⟨96, _⟩ => ⟨S4096x1024, .bf16⟩
  | .hbm, ⟨97, _⟩ => ⟨S4096x1024, .f32⟩
  | .hbm, ⟨98, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Proof.Step.lean ====
module

public import proofs.«01_k».proof.Proof.Gen.KernelIdeal.Frame
public import proofs.«01_k».proof.Proof.Gen.KernelIdeal.Skeleton

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! # One grid point of `ffn_bwd`

What the body computes from the blocks it reads at one grid point, in the order of its windows: `x0`, `x1` the incoming
gradient and its sixteen rows ahead, `x2`, `x3` the up-projection, `x4` … `x7` the convolved values with their rows
ahead, `x8`, `x9` the up-projection's weights, `x10`, `x11` the convolution's taps, `x12` the down-projection's weights. -/

section Blocks

variable (i : grid0.Coords) (x0 : Vec F S512x1024 .f32) (x1 : Vec F S16x1024 .f32) (x2 : Vec F S1x512x688 .bf16) (x3 : Vec F S1x512x688 .bf16) (x4 : Vec F S1x512x688 .bf16) (x5 : Vec F S1x16x688 .bf16) (x6 : Vec F S1x512x688 .bf16) (x7 : Vec F S1x16x688 .bf16) (x8 : Vec F S1x688x1024 .bf16) (x9 : Vec F S1x688x1024 .bf16) (x10 : Vec F S1x8x688 .f32) (x11 : Vec F S1x8x688 .f32) (x12 : Vec F S1x688x1024 .bf16)

/-- The block of the first result: the gate half's gradient, rounded. -/
def outUg : FVec F S1x512x688 .bf16 := k0_pay28 (k0_pay17 (k0_pay15 (k0_pay3 i x1 x0 x12) (k0_pay4 x4 x5) x6 x7 x10))

/-- The block of the second result: the value half's gradient, rounded. -/
def outUv : FVec F S1x512x688 .bf16 := k0_pay29 (k0_pay21 (k0_pay8 (k0_pay3 i x1 x0 x12) (k0_pay4 x4 x5)) (k0_pay11 x11))

/-- The block of the third result: the activation, rounded. -/
def outAct : FVec F S1x512x688 .bf16 := k0_pay10 (k0_pay4 x4 x5) x6 x7

/-- This point's part of the gradient of the gate half's taps and bias. -/
def gradG : FVec F S8x688 .f32 :=
  k0_pay16 (k0_pay12 (k0_pay3 i x1 x0 x12) (k0_pay4 x4 x5) x6 x7) (k0_pay13 (k0_pay3 i x1 x0 x12) (k0_pay4 x4 x5) x6 x7)
    (k0_pay14 (k0_pay3 i x1 x0 x12) (k0_pay4 x4 x5) x6 x7) x2

/-- This point's part of the gradient of the value half's taps and bias. -/
def gradV : FVec F S8x688 .f32 :=
  k0_pay26 (k0_pay20 (k0_pay8 (k0_pay3 i x1 x0 x12) (k0_pay4 x4 x5))) (k0_pay23 (k0_pay8 (k0_pay3 i x1 x0 x12) (k0_pay4 x4 x5)) x3)
    (k0_pay24 (k0_pay8 (k0_pay3 i x1 x0 x12) (k0_pay4 x4 x5)) x3) (k0_pay25 (k0_pay8 (k0_pay3 i x1 x0 x12) (k0_pay4 x4 x5)) x3)

/-- What the accumulator holds after the point: the point's product alone in the first group, and added to what was there
    in the others. -/
def accStep (first : Prop) [Decidable first] (s : Vec F S512x1024 .f32) : FVec F S512x1024 .f32 :=
  if first then
    k0_pay31 (k0_pay17 (k0_pay15 (k0_pay3 i x1 x0 x12) (k0_pay4 x4 x5) x6 x7 x10))
      (k0_pay21 (k0_pay8 (k0_pay3 i x1 x0 x12) (k0_pay4 x4 x5)) (k0_pay11 x11)) x8 x9
  else
    k0_pay32 (k0_pay17 (k0_pay15 (k0_pay3 i x1 x0 x12) (k0_pay4 x4 x5) x6 x7 x10))
      (k0_pay21 (k0_pay8 (k0_pay3 i x1 x0 x12) (k0_pay4 x4 x5)) (k0_pay11 x11)) x8 x9 s

end Blocks

/-- The row of a [4, 8, 688] block the point's group owns. -/
abbrev rowR (i : grid0.Coords) : Rect S4x8x688 := Rect.unit (s := S4x8x688) (k0_off2 i) S1x8x688.size (k0_off2_inb i)

/-- The gate taps' block after the point: the group's row has the point's part added, from zero on in the first tile. -/
def rowG (i : grid0.Coords) (first : Prop) [Decidable first] (g : FVec F S8x688 .f32) (y : Vec F S4x8x688 .f32) : Vec F S4x8x688 .f32 :=
  (rowR i).overlay y (k0_pay1 g (if first then k0_pay33 else fun j => y ((rowR i).emb j)))

/-- The value taps' block after the point. -/
def rowV (i : grid0.Coords) (first : Prop) [Decidable first] (g : FVec F S8x688 .f32) (y : Vec F S4x8x688 .f32) : Vec F S4x8x688 .f32 :=
  (rowR i).overlay y (k0_pay2 g (if first then k0_pay34 else fun j => y ((rowR i).emb j)))

end Cert.FfnBwd

end
-- ==== Proof.Runs.lean ====
module

public import proofs.«01_k».proof.Proof.Step
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! # What the runs of the body are stated over

The body's four conditions in closed form over the grid points, and the triple every case of the body proves. -/

/-- The group is the first. -/
abbrev isJ0 (i : grid0.Coords) : Prop := (Scalar.cmpi .ne (Scalar.extui (Scalar.cmpi .eq (BitVec.ofNat 32 (i 1).val) 0#32)) 0#32) = 1#1
/-- The group is not the first. -/
abbrev isJpos (i : grid0.Coords) : Prop := (Scalar.cmpi .ne (Scalar.extui (Scalar.cmpi .sgt (BitVec.ofNat 32 (i 1).val) 0#32)) 0#32) = 1#1
/-- The group is the last. -/
abbrev isJ3 (i : grid0.Coords) : Prop := k0_cond3 i = 1#1
/-- The tile is the first. -/
abbrev isI0 (i : grid0.Coords) : Prop := k0_cond4 i = 1#1

theorem isJ0_iff : ∀ t : Fin cfg0.N, isJ0 (grid0.coords t) ↔ t.val % 4 = 0 :=
  (by decide +kernel : ∀ t : Fin grid0.N, isJ0 (grid0.coords t) ↔ t.val % 4 = 0)
theorem isJpos_iff : ∀ t : Fin cfg0.N, isJpos (grid0.coords t) ↔ 1 ≤ t.val % 4 :=
  (by decide +kernel : ∀ t : Fin grid0.N, isJpos (grid0.coords t) ↔ 1 ≤ t.val % 4)
theorem isJ3_iff : ∀ t : Fin cfg0.N, isJ3 (grid0.coords t) ↔ t.val % 4 = 3 :=
  (by decide +kernel : ∀ t : Fin grid0.N, isJ3 (grid0.coords t) ↔ t.val % 4 = 3)
theorem isI0_iff : ∀ t : Fin cfg0.N, isI0 (grid0.coords t) ↔ t.val < 4 :=
  (by decide +kernel : ∀ t : Fin grid0.N, isI0 (grid0.coords t) ↔ t.val < 4)

/-- One row of a whole memref rewritten from what it held: the rest stands. -/
theorem row_rest {κ : Kind} {sp : Space} {s : Shape} {e : EltTy} (m : Memref sig κ sp s e) (hm : m.IsWhole)
    (y : s.Idx → Elt F e) (r : Rect s) (p : (r.shape.Idx → Elt F e) → r.shape.Idx → Elt F e) :
    m.view.read (Elt F) (m.view.writes (Elt F) (hm.unread y) [⟨r, p (m.view.readAt (Elt F) r.toLoadRect (hm.unread y))⟩])
      = r.overlay y (p fun k => y (r.emb k)) := by
  have hl : m.view.readAt (Elt F) r.toLoadRect (hm.unread y) = fun k => y (r.emb k) := by
    funext k; exact congrFun (hm.read_unread y) (r.emb k)
  rw [hl]
  funext j
  by_cases h : j ∈ r.set
  · obtain ⟨k, rfl⟩ := r.exists_idx_of_mem h
    exact (View.read_writes_cons_emb _ _ _ _ _ k).trans (Rect.overlay_emb r y _ k).symm
  · rw [Rect.overlay_of_not_mem _ _ _ h, View.read_writes_cons_miss _ _ _ _ _ h, View.writes_nil, hm.read_unread]

/-- One row of a whole memref written with `z` and then rewritten from that: the rest stands. -/
theorem row_first {κ : Kind} {sp : Space} {s : Shape} {e : EltTy} (m : Memref sig κ sp s e) (hm : m.IsWhole)
    (y : s.Idx → Elt F e) {off off' size : Fin s.rank → ℕ} (inb : ∀ a, off a + size a ≤ s.size a)
    (inb' : ∀ a, off' a + size a ≤ s.size a) (ho : off' = off)
    (p : ((Rect.unit off size inb).shape.Idx → Elt F e) → (Rect.unit off size inb).shape.Idx → Elt F e)
    (z : (Rect.unit off size inb).shape.Idx → Elt F e) :
    m.view.read (Elt F) (m.view.writes (Elt F) (hm.unread y)
        [⟨Rect.unit off size inb, p (m.view.readCov [⟨Rect.unit off' size inb', z⟩] (Rect.unit off size inb).toLoadRect)⟩,
          ⟨Rect.unit off' size inb', z⟩])
      = (Rect.unit off size inb).overlay y (p z) := by
  subst ho
  have hl : m.view.readCov [⟨Rect.unit off' size inb', z⟩] (Rect.unit off' size inb).toLoadRect = z := by
    funext k; exact View.read_writes_cons_emb _ _ (Rect.unit off' size inb) z [] k
  rw [hl]
  funext j
  by_cases h : j ∈ (Rect.unit off' size inb).set
  · obtain ⟨k, rfl⟩ := (Rect.unit off' size inb).exists_idx_of_mem h
    exact (View.read_writes_cons_emb _ _ _ _ _ k).trans (Rect.overlay_emb _ y _ k).symm
  · rw [Rect.overlay_of_not_mem _ _ _ h, View.read_writes_cons_miss _ _ _ _ _ h, View.read_writes_cons_miss _ _ _ _ _ h,
      View.writes_nil, hm.read_unread]

/-- The body's triple at the grid coordinates `i`: from the inputs at `x0` … `x12`, the first three results' staging at
    anything, the fourth's at `y16`, the taps' blocks at `y17`, `y18` and the accumulator at `s`, to the contents one grid
    point leaves. -/
def BodyRun (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x512x688 .bf16) (harg4 : arg4.IsWhole) (arg5 : Memref sig .tc .vmem S1x512x688 .bf16) (harg5 : arg5.IsWhole) (arg6 : Memref sig .tc .vmem S1x512x688 .bf16) (harg6 : arg6.IsWhole) (arg7 : Memref sig .tc .vmem S1x16x688 .bf16) (harg7 : arg7.IsWhole) (arg8 : Memref sig .tc .vmem S1x512x688 .bf16) (harg8 : arg8.IsWhole) (arg9 : Memref sig .tc .vmem S1x16x688 .bf16) (harg9 : arg9.IsWhole) (arg10 : Memref sig .tc .vmem S1x688x1024 .bf16) (harg10 : arg10.IsWhole) (arg11 : Memref sig .tc .vmem S1x688x1024 .bf16) (harg11 : arg11.IsWhole) (arg12 : Memref sig .tc .vmem S1x8x688 .f32) (harg12 : arg12.IsWhole) (arg13 : Memref sig .tc .vmem S1x8x688 .f32) (harg13 : arg13.IsWhole) (arg14 : Memref sig .tc .vmem S1x688x1024 .bf16) (harg14 : arg14.IsWhole) (arg15 : Memref sig .tc .vmem S1x512x688 .bf16) (harg15 : arg15.IsWhole) (arg16 : Memref sig .tc .vmem S1x512x688 .bf16) (harg16 : arg16.IsWhole) (arg17 : Memref sig .tc .vmem S1x512x688 .bf16) (harg17 : arg17.IsWhole) (arg18 : Memref sig .tc .vmem S512x1024 .f32) (harg18 : arg18.IsWhole) (arg19 : Memref sig .tc .vmem S4x8x688 .f32) (harg19 : arg19.IsWhole) (arg20 : Memref sig .tc .vmem S4x8x688 .f32) (harg20 : arg20.IsWhole) (arg21 : Memref sig .tc .vmem S512x1024 .f32) (harg21 : arg21.IsWhole) (x0 : Vec F S512x1024 .f32) (x1 : Vec F S16x1024 .f32) (x2 : Vec F S1x512x688 .bf16) (x3 : Vec F S1x512x688 .bf16) (x4 : Vec F S1x512x688 .bf16) (x5 : Vec F S1x16x688 .bf16) (x6 : Vec F S1x512x688 .bf16) (x7 : Vec F S1x16x688 .bf16) (x8 : Vec F S1x688x1024 .bf16) (x9 : Vec F S1x688x1024 .bf16) (x10 : Vec F S1x8x688 .f32) (x11 : Vec F S1x8x688 .f32) (x12 : Vec F S1x688x1024 .bf16) (y16 : Vec F S512x1024 .f32) (y17 y18 : Vec F S4x8x688 .f32) (s : Vec F S512x1024 .f32) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
      ∗ (∃ d, owns (c : Thread nD τ) arg15 fullShare d) ∗ (∃ d, owns (c : Thread nD τ) arg16 fullShare d) ∗ (∃ d, owns (c : Thread nD τ) arg17 fullShare d)
      ∗ owns (c : Thread nD τ) arg18 fullShare y16 ∗ owns (c : Thread nD τ) arg19 fullShare y17 ∗ owns (c : Thread nD τ) arg20 fullShare y18 ∗ owns (c : Thread nD τ) arg21 fullShare s
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
            ∗ owns (c : Thread nD τ) arg15 fullShare (outUg i x0 x1 x4 x5 x6 x7 x10 x12)
            ∗ owns (c : Thread nD τ) arg16 fullShare (outUv i x0 x1 x4 x5 x11 x12)
            ∗ owns (c : Thread nD τ) arg17 fullShare (outAct x4 x5 x6 x7)
            ∗ owns (c : Thread nD τ) arg18 fullShare (if isJ3 i then accStep i x0 x1 x4 x5 x6 x7 x8 x9 x10 x11 x12 (isJ0 i) s else y16)
            ∗ owns (c : Thread nD τ) arg19 fullShare (rowG i (isI0 i) (gradG i x0 x1 x2 x4 x5 x6 x7 x12) y17)
            ∗ owns (c : Thread nD τ) arg20 fullShare (rowV i (isI0 i) (gradV i x0 x1 x3 x4 x5 x12) y18)
            ∗ owns (c : Thread nD τ) arg21 fullShare (accStep i x0 x1 x4 x5 x6 x7 x8 x9 x10 x11 x12 (isJ0 i) s)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K

/-- The body opened into its memory operations, for any property of it. -/
theorem body_open (i : grid0.Coords) (arg2 : Memref sig .tc .vmem S512x1024 .f32) (harg2 : arg2.IsWhole) (arg3 : Memref sig .tc .vmem S16x1024 .f32) (harg3 : arg3.IsWhole) (arg4 : Memref sig .tc .vmem S1x512x688 .bf16) (harg4 : arg4.IsWhole) (arg5 : Memref sig .tc .vmem S1x512x688 .bf16) (harg5 : arg5.IsWhole) (arg6 : Memref sig .tc .vmem S1x512x688 .bf16) (harg6 : arg6.IsWhole) (arg7 : Memref sig .tc .vmem S1x16x688 .bf16) (harg7 : arg7.IsWhole) (arg8 : Memref sig .tc .vmem S1x512x688 .bf16) (harg8 : arg8.IsWhole) (arg9 : Memref sig .tc .vmem S1x16x688 .bf16) (harg9 : arg9.IsWhole) (arg10 : Memref sig .tc .vmem S1x688x1024 .bf16) (harg10 : arg10.IsWhole) (arg11 : Memref sig .tc .vmem S1x688x1024 .bf16) (harg11 : arg11.IsWhole) (arg12 : Memref sig .tc .vmem S1x8x688 .f32) (harg12 : arg12.IsWhole) (arg13 : Memref sig .tc .vmem S1x8x688 .f32) (harg13 : arg13.IsWhole) (arg14 : Memref sig .tc .vmem S1x688x1024 .bf16) (harg14 : arg14.IsWhole) (arg15 : Memref sig .tc .vmem S1x512x688 .bf16) (harg15 : arg15.IsWhole) (arg16 : Memref sig .tc .vmem S1x512x688 .bf16) (harg16 : arg16.IsWhole) (arg17 : Memref sig .tc .vmem S1x512x688 .bf16) (harg17 : arg17.IsWhole) (arg18 : Memref sig .tc .vmem S512x1024 .f32) (harg18 : arg18.IsWhole) (arg19 : Memref sig .tc .vmem S4x8x688 .f32) (harg19 : arg19.IsWhole) (arg20 : Memref sig .tc .vmem S4x8x688 .f32) (harg20 : arg20.IsWhole) (arg21 : Memref sig .tc .vmem S512x1024 .f32) (harg21 : arg21.IsWhole) (P : Prog (TpuEff nD τ sig (Elt F) Λ₀ .tc) PUnit → Prop)
    (h : P (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)) : ∃ b, P b := by
  simp only [cc0_ffn_bwd_eq_skeleton] at h; unfold cc0_ffn_bwd_skel at h
  simp only [k0_part1_eq_skeleton, k0_part2_eq_skeleton, k0_part3_eq_skeleton, k0_part4_eq_skeleton] at h
  exact ⟨_, h⟩

end Cert.FfnBwd

end
-- ==== Proof.Data.lean ====
module

public import proofs.«01_k».proof.Proof.Runs
public import Idealize.ShloMosaic.Lib.Pipeline.DatRel
public import Idealize.ShloMosaic.Lib.Pipeline.Frame

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the buffers hold at every grid point

The blocks one point computes from the blocks of the arrays, the accumulator and the taps' rows point by point, and the
pipeline's proof data: the outputs are named by predicates of the point alone. -/

def ugAt (c : Dev nD) (t : Fin cfg0.N) : Vec F S1x512x688 .bf16 := outUg (grid0.coords t) (iblk m c 0 t) (iblk m c 1 t) (iblk m c 4 t) (iblk m c 5 t) (iblk m c 6 t) (iblk m c 7 t) (iblk m c 10 t) (iblk m c 12 t)
def uvAt (c : Dev nD) (t : Fin cfg0.N) : Vec F S1x512x688 .bf16 := outUv (grid0.coords t) (iblk m c 0 t) (iblk m c 1 t) (iblk m c 4 t) (iblk m c 5 t) (iblk m c 11 t) (iblk m c 12 t)
def actAt (c : Dev nD) (t : Fin cfg0.N) : Vec F S1x512x688 .bf16 := outAct (iblk m c 4 t) (iblk m c 5 t) (iblk m c 6 t) (iblk m c 7 t)
def gAt (c : Dev nD) (t : Fin cfg0.N) : FVec F S8x688 .f32 := gradG (grid0.coords t) (iblk m c 0 t) (iblk m c 1 t) (iblk m c 2 t) (iblk m c 4 t) (iblk m c 5 t) (iblk m c 6 t) (iblk m c 7 t) (iblk m c 12 t)
def vAt (c : Dev nD) (t : Fin cfg0.N) : FVec F S8x688 .f32 := gradV (grid0.coords t) (iblk m c 0 t) (iblk m c 1 t) (iblk m c 3 t) (iblk m c 4 t) (iblk m c 5 t) (iblk m c 12 t)
/-- The accumulator after point `t`, from what it held before. -/
def accNext (c : Dev nD) (t : Fin cfg0.N) (s : Vec F S512x1024 .f32) : Vec F S512x1024 .f32 :=
  accStep (grid0.coords t) (iblk m c 0 t) (iblk m c 1 t) (iblk m c 4 t) (iblk m c 5 t) (iblk m c 6 t) (iblk m c 7 t) (iblk m c 8 t) (iblk m c 9 t) (iblk m c 10 t) (iblk m c 11 t) (iblk m c 12 t) (isJ0 (grid0.coords t)) s

/-- The grid point of number `n`, counted round. -/
def pt (n : ℕ) : Fin cfg0.N := ⟨n % 32, by rw [show cfg0.N = 32 from N_0]; omega⟩

theorem pt_val (t : Fin cfg0.N) : pt t.val = t :=
  Fin.ext (Nat.mod_eq_of_lt (lt_of_lt_of_eq t.isLt (show cfg0.N = 32 from N_0)))

/-- The accumulator after point `n`. -/
def accAfter (c : Dev nD) : ℕ → Vec F S512x1024 .f32
  | 0 => accNext m c (pt 0) (fun _ => Scalar.ofBits .f32 0#32)
  | n + 1 => accNext m c (pt (n + 1)) (accAfter c n)

/-- The gate taps' row of the group of point `n`, after that point: the parts of the tiles so far. -/
def rowGAt (c : Dev nD) : ℕ → FVec F S1x8x688 .f32
  | 0 => k0_pay1 (gAt m c (pt 0)) k0_pay33
  | 1 => k0_pay1 (gAt m c (pt 1)) k0_pay33
  | 2 => k0_pay1 (gAt m c (pt 2)) k0_pay33
  | 3 => k0_pay1 (gAt m c (pt 3)) k0_pay33
  | n + 4 => k0_pay1 (gAt m c (pt (n + 4))) (rowGAt c n)

/-- The value taps' row of the group of point `n`, after that point. -/
def rowVAt (c : Dev nD) : ℕ → FVec F S1x8x688 .f32
  | 0 => k0_pay2 (vAt m c (pt 0)) k0_pay34
  | 1 => k0_pay2 (vAt m c (pt 1)) k0_pay34
  | 2 => k0_pay2 (vAt m c (pt 2)) k0_pay34
  | 3 => k0_pay2 (vAt m c (pt 3)) k0_pay34
  | n + 4 => k0_pay2 (vAt m c (pt (n + 4))) (rowVAt c n)

theorem rowGAt_first (c : Dev nD) (n : ℕ) (h : n < 4) : rowGAt m c n = k0_pay1 (gAt m c (pt n)) k0_pay33 := by
  obtain rfl | rfl | rfl | rfl : n = 0 ∨ n = 1 ∨ n = 2 ∨ n = 3 := by omega
  all_goals rfl

theorem rowVAt_first (c : Dev nD) (n : ℕ) (h : n < 4) : rowVAt m c n = k0_pay2 (vAt m c (pt n)) k0_pay34 := by
  obtain rfl | rfl | rfl | rfl : n = 0 ∨ n = 1 ∨ n = 2 ∨ n = 3 := by omega
  all_goals rfl

theorem rowGAt_rest (c : Dev nD) (n : ℕ) (h : ¬ n < 4) : rowGAt m c n = k0_pay1 (gAt m c (pt n)) (rowGAt m c (n - 4)) := by
  obtain ⟨k, rfl⟩ : ∃ k, n = k + 4 := ⟨n - 4, by omega⟩
  rfl

theorem rowVAt_rest (c : Dev nD) (n : ℕ) (h : ¬ n < 4) : rowVAt m c n = k0_pay2 (vAt m c (pt n)) (rowVAt m c (n - 4)) := by
  obtain ⟨k, rfl⟩ : ∃ k, n = k + 4 := ⟨n - 4, by omega⟩
  rfl

/-- The first group's part does not depend on what the accumulator held. -/
theorem accNext_first (c : Dev nD) (t : Fin cfg0.N) (h : t.val % 4 = 0) (s s' : Vec F S512x1024 .f32) :
    accNext m c t s = accNext m c t s' := by
  unfold accNext accStep
  rw [if_pos ((isJ0_iff t).mpr h), if_pos ((isJ0_iff t).mpr h)]

theorem accAfter_zero (c : Dev nD) (t : Fin cfg0.N) (h : t.val = 0) (s : Vec F S512x1024 .f32) : accAfter m c t.val = accNext m c t s := by
  have ht : accAfter m c t.val = accNext m c (pt t.val) (fun _ => Scalar.ofBits .f32 0#32) := by rw [h]; rfl
  rw [ht, pt_val]
  exact accNext_first m c t (by omega) _ _

theorem accAfter_pos (c : Dev nD) (t : Fin cfg0.N) (h : t.val ≠ 0) : accAfter m c t.val = accNext m c t (accAfter m c (t.val - 1)) := by
  obtain ⟨k, hk⟩ : ∃ k, t.val = k + 1 := ⟨t.val - 1, by omega⟩
  have ht : accAfter m c t.val = accNext m c (pt t.val) (accAfter m c (t.val - 1)) := by rw [hk]; rfl
  rw [ht, pt_val]

/-- A block of taps whose rows of the groups visited last, up to point `t`, hold what `R` says. -/
def RowsAt (R : ℕ → FVec F S1x8x688 .f32) (t : ℕ) (X : Vec F S4x8x688 .f32) : Prop :=
  ∀ n, n ≤ t → t < n + 4 → (fun k => X ((rowR (grid0.coords (pt n))).emb k)) = R n

/-- The accumulator's memref. -/
abbrev scM : Memref sig .tc .vmem S512x1024 .f32 := Memref.whole cc0_scratch0

/-- The region's scoped rest: the accumulator at anything, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before point `n`: the accumulator at what the point before left. -/
def PhiS (c : Dev nD) : ℕ → sProp 𝕄
  | 0 => Pipeline.ΦA spec0 c
  | n + 1 => iprop(owns (c : Thread nD τ) scM fullShare (accAfter m c n) ∗ (∃ r, prngReg c r))

theorem PhiS_pos (c : Dev nD) (n : ℕ) (h : n ≠ 0) :
    PhiS m c n = iprop(owns (c : Thread nD τ) scM fullShare (accAfter m c (n - 1)) ∗ (∃ r, prngReg c r)) := by
  cases n with
  | zero => exact absurd rfl h
  | succ n => rfl

/-- The output windows. -/
def isOutW : Fin 19 → Bool := fun w => w.val == 13 || w.val == 14 || w.val == 15 || w.val == 16 || w.val == 17 || w.val == 18

/-- What an output's buffer holds after point `t`. -/
def Left (c : Dev nD) (w : Fin cfg0.W) (t : Fin cfg0.N) : ((cfg0.win w).block.Idx → Elt F (cfg0.win w).elt) → Prop :=
  match w with
  | ⟨13, _⟩ => fun X => X = ugAt m c t
  | ⟨14, _⟩ => fun X => X = uvAt m c t
  | ⟨15, _⟩ => fun X => X = actAt m c t
  | ⟨16, _⟩ => fun X => t.val % 4 = 3 → X = accAfter m c t.val
  | ⟨17, _⟩ => fun X => RowsAt (rowGAt m c) t.val X
  | ⟨18, _⟩ => fun X => RowsAt (rowVAt m c) t.val X
  | _ => fun _ => True

/-- The pipeline's proof data on core `c`: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ t := PhiS m c t.val
  q w := Pipeline.shareOf spec0 w
  owed _ := 0

/-- The data with the outputs held to `Left`. -/
def rdat (c : Dev nD) : RDat τ (Elt F) Unit ℕ (UR sig nD τ) ℕ cfg0 c := (dats m 0 c).toRRel isOutW (Left m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d

end Cert.FfnBwd

end
-- ==== Proof.RunFirstFirst.lean ====
module

public import proofs.«01_k».proof.Proof.Runs

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the proof term of a run of the whole body is large
set_option maxHeartbeats 1000000 in
/-- The body at the first group of the first tile. -/
theorem run_first_first (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x512x688 .bf16) (harg4 : arg4.IsWhole) (arg5 : Memref sig .tc .vmem S1x512x688 .bf16) (harg5 : arg5.IsWhole) (arg6 : Memref sig .tc .vmem S1x512x688 .bf16) (harg6 : arg6.IsWhole) (arg7 : Memref sig .tc .vmem S1x16x688 .bf16) (harg7 : arg7.IsWhole) (arg8 : Memref sig .tc .vmem S1x512x688 .bf16) (harg8 : arg8.IsWhole) (arg9 : Memref sig .tc .vmem S1x16x688 .bf16) (harg9 : arg9.IsWhole) (arg10 : Memref sig .tc .vmem S1x688x1024 .bf16) (harg10 : arg10.IsWhole) (arg11 : Memref sig .tc .vmem S1x688x1024 .bf16) (harg11 : arg11.IsWhole) (arg12 : Memref sig .tc .vmem S1x8x688 .f32) (harg12 : arg12.IsWhole) (arg13 : Memref sig .tc .vmem S1x8x688 .f32) (harg13 : arg13.IsWhole) (arg14 : Memref sig .tc .vmem S1x688x1024 .bf16) (harg14 : arg14.IsWhole) (arg15 : Memref sig .tc .vmem S1x512x688 .bf16) (harg15 : arg15.IsWhole) (arg16 : Memref sig .tc .vmem S1x512x688 .bf16) (harg16 : arg16.IsWhole) (arg17 : Memref sig .tc .vmem S1x512x688 .bf16) (harg17 : arg17.IsWhole) (arg18 : Memref sig .tc .vmem S512x1024 .f32) (harg18 : arg18.IsWhole) (arg19 : Memref sig .tc .vmem S4x8x688 .f32) (harg19 : arg19.IsWhole) (arg20 : Memref sig .tc .vmem S4x8x688 .f32) (harg20 : arg20.IsWhole) (arg21 : Memref sig .tc .vmem S512x1024 .f32) (harg21 : arg21.IsWhole) (hc0 : isJ0 i) (hc1 : ¬ isJpos i) (hc2 : ¬ isJ3 i) (hc3 : isI0 i) (x0 : Vec F S512x1024 .f32) (x1 : Vec F S16x1024 .f32) (x2 : Vec F S1x512x688 .bf16) (x3 : Vec F S1x512x688 .bf16) (x4 : Vec F S1x512x688 .bf16) (x5 : Vec F S1x16x688 .bf16) (x6 : Vec F S1x512x688 .bf16) (x7 : Vec F S1x16x688 .bf16) (x8 : Vec F S1x688x1024 .bf16) (x9 : Vec F S1x688x1024 .bf16) (x10 : Vec F S1x8x688 .f32) (x11 : Vec F S1x8x688 .f32) (x12 : Vec F S1x688x1024 .bf16) (y16 : Vec F S512x1024 .f32) (y17 y18 : Vec F S4x8x688 .f32) (s : Vec F S512x1024 .f32) :
    BodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y16 y17 y18 s := by
  intro E K
  simp only [cc0_ffn_bwd_eq_skeleton]; unfold cc0_ffn_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17; obtain rfl := harg20.eq_unread hf18; obtain rfl := harg21.eq_unread hf19
  have e0 : View.readAt (Elt F) arg2.view (Rect.unit ![0, 0] S512x1024.size inb_S512x1024_S512x1024_0_0).toLoadRect (harg2.unread x0) = x0 :=
    (View.readAt_full _ _ _).trans (harg2.read_unread _)
  have e1 : View.readAt (Elt F) arg3.view (Rect.unit ![0, 0] S16x1024.size inb_S16x1024_S16x1024_0_0).toLoadRect (harg3.unread x1) = x1 :=
    (View.readAt_full _ _ _).trans (harg3.read_unread _)
  have e2 : View.readAt (Elt F) arg4.view (Rect.unit ![0, 0, 0] S1x512x688.size inb_S1x512x688_S1x512x688_0_0_0).toLoadRect (harg4.unread x2) = x2 :=
    (View.readAt_full _ _ _).trans (harg4.read_unread _)
  have e3 : View.readAt (Elt F) arg5.view (Rect.unit ![0, 0, 0] S1x512x688.size inb_S1x512x688_S1x512x688_0_0_0).toLoadRect (harg5.unread x3) = x3 :=
    (View.readAt_full _ _ _).trans (harg5.read_unread _)
  have e4 : View.readAt (Elt F) arg6.view (Rect.unit ![0, 0, 0] S1x512x688.size inb_S1x512x688_S1x512x688_0_0_0).toLoadRect (harg6.unread x4) = x4 :=
    (View.readAt_full _ _ _).trans (harg6.read_unread _)
  have e5 : View.readAt (Elt F) arg7.view (Rect.unit ![0, 0, 0] S1x16x688.size inb_S1x16x688_S1x16x688_0_0_0).toLoadRect (harg7.unread x5) = x5 :=
    (View.readAt_full _ _ _).trans (harg7.read_unread _)
  have e6 : View.readAt (Elt F) arg8.view (Rect.unit ![0, 0, 0] S1x512x688.size inb_S1x512x688_S1x512x688_0_0_0).toLoadRect (harg8.unread x6) = x6 :=
    (View.readAt_full _ _ _).trans (harg8.read_unread _)
  have e7 : View.readAt (Elt F) arg9.view (Rect.unit ![0, 0, 0] S1x16x688.size inb_S1x16x688_S1x16x688_0_0_0).toLoadRect (harg9.unread x7) = x7 :=
    (View.readAt_full _ _ _).trans (harg9.read_unread _)
  have e8 : View.readAt (Elt F) arg10.view (Rect.unit ![0, 0, 0] S1x688x1024.size inb_S1x688x1024_S1x688x1024_0_0_0).toLoadRect (harg10.unread x8) = x8 :=
    (View.readAt_full _ _ _).trans (harg10.read_unread _)
  have e9 : View.readAt (Elt F) arg11.view (Rect.unit ![0, 0, 0] S1x688x1024.size inb_S1x688x1024_S1x688x1024_0_0_0).toLoadRect (harg11.unread x9) = x9 :=
    (View.readAt_full _ _ _).trans (harg11.read_unread _)
  have e10 : View.readAt (Elt F) arg12.view (Rect.unit ![0, 0, 0] S1x8x688.size inb_S1x8x688_S1x8x688_0_0_0).toLoadRect (harg12.unread x10) = x10 :=
    (View.readAt_full _ _ _).trans (harg12.read_unread _)
  have e11 : View.readAt (Elt F) arg13.view (Rect.unit ![0, 0, 0] S1x8x688.size inb_S1x8x688_S1x8x688_0_0_0).toLoadRect (harg13.unread x11) = x11 :=
    (View.readAt_full _ _ _).trans (harg13.read_unread _)
  have e12 : View.readAt (Elt F) arg14.view (Rect.unit ![0, 0, 0] S1x688x1024.size inb_S1x688x1024_S1x688x1024_0_0_0).toLoadRect (harg14.unread x12) = x12 :=
    (View.readAt_full _ _ _).trans (harg14.read_unread _)
  have es : View.readAt (Elt F) arg21.view (Rect.unit ![0, 0] S512x1024.size inb_S512x1024_S512x1024_0_0).toLoadRect (harg21.unread s) = s :=
    (View.readAt_full _ _ _).trans (harg21.read_unread _)
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; swap; · iexact H13
    ipureintro
    refine (View.read_writes_full _ _ _ _ _).trans ?_
    delta outUg
    try delta run_first_first.sl.r_6
    try delta run_first_first.sl.r_4
    with_reducible rfl
  isplitl [H14]
  · iexists _; isplitr; swap; · iexact H14
    ipureintro
    refine (View.read_writes_full _ _ _ _ _).trans ?_
    delta outUv
    try delta run_first_first.sl.r_8
    try delta run_first_first.sl.r
    with_reducible rfl
  isplitl [H15]
  · iexists _; isplitr; swap; · iexact H15
    ipureintro
    refine (View.read_writes_full _ _ _ _ _).trans ?_
    delta outAct
    with_reducible rfl
  isplitl [H16]
  · iexists _; isplitr; swap; · iexact H16
    ipureintro
    rw [if_neg hc2]
    exact harg18.read_unread _
  isplitl [H17]
  · iexists _; isplitr; swap; · iexact H17
    ipureintro
    delta rowG gradG
    rw [if_pos hc3]
    try delta run_first_first.sl.v149
    try delta run_first_first.sl.H17_1
    try delta run_first_first.sl.r_5
    try delta run_first_first.sl.r_1
    try delta run_first_first.sl.r_2
    try delta run_first_first.sl.r_3
    exact row_first arg19 harg19 y17 _ _ rfl (k0_pay1 _) _
  isplitl [H18]
  · iexists _; isplitr; swap; · iexact H18
    ipureintro
    delta rowV gradV
    rw [if_pos hc3]
    try delta run_first_first.sl.v157
    try delta run_first_first.sl.H18_1
    try delta run_first_first.sl.r_12
    try delta run_first_first.sl.r_7
    try delta run_first_first.sl.r_9
    try delta run_first_first.sl.r_10
    try delta run_first_first.sl.r_11
    try delta run_first_first.sl.r
    exact row_first arg20 harg20 y18 _ _ rfl (k0_pay2 _) _
  iexists _; isplitr; swap; · iexact H19
  ipureintro
  refine (View.read_writes_full _ _ _ _ _).trans ?_
  delta accStep
  try delta run_first_first.sl.r_6
  try delta run_first_first.sl.r_8
  try delta run_first_first.sl.r_4
  try delta run_first_first.sl.r
  exact (if_pos hc0).symm

end Cert.FfnBwd

end
-- ==== Proof.RunMidFirst.lean ====
module

public import proofs.«01_k».proof.Proof.Runs

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the proof term of a run of the whole body is large
set_option maxHeartbeats 1000000 in
/-- The body at a middle group of the first tile. -/
theorem run_mid_first (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x512x688 .bf16) (harg4 : arg4.IsWhole) (arg5 : Memref sig .tc .vmem S1x512x688 .bf16) (harg5 : arg5.IsWhole) (arg6 : Memref sig .tc .vmem S1x512x688 .bf16) (harg6 : arg6.IsWhole) (arg7 : Memref sig .tc .vmem S1x16x688 .bf16) (harg7 : arg7.IsWhole) (arg8 : Memref sig .tc .vmem S1x512x688 .bf16) (harg8 : arg8.IsWhole) (arg9 : Memref sig .tc .vmem S1x16x688 .bf16) (harg9 : arg9.IsWhole) (arg10 : Memref sig .tc .vmem S1x688x1024 .bf16) (harg10 : arg10.IsWhole) (arg11 : Memref sig .tc .vmem S1x688x1024 .bf16) (harg11 : arg11.IsWhole) (arg12 : Memref sig .tc .vmem S1x8x688 .f32) (harg12 : arg12.IsWhole) (arg13 : Memref sig .tc .vmem S1x8x688 .f32) (harg13 : arg13.IsWhole) (arg14 : Memref sig .tc .vmem S1x688x1024 .bf16) (harg14 : arg14.IsWhole) (arg15 : Memref sig .tc .vmem S1x512x688 .bf16) (harg15 : arg15.IsWhole) (arg16 : Memref sig .tc .vmem S1x512x688 .bf16) (harg16 : arg16.IsWhole) (arg17 : Memref sig .tc .vmem S1x512x688 .bf16) (harg17 : arg17.IsWhole) (arg18 : Memref sig .tc .vmem S512x1024 .f32) (harg18 : arg18.IsWhole) (arg19 : Memref sig .tc .vmem S4x8x688 .f32) (harg19 : arg19.IsWhole) (arg20 : Memref sig .tc .vmem S4x8x688 .f32) (harg20 : arg20.IsWhole) (arg21 : Memref sig .tc .vmem S512x1024 .f32) (harg21 : arg21.IsWhole) (hc0 : ¬ isJ0 i) (hc1 : isJpos i) (hc2 : ¬ isJ3 i) (hc3 : isI0 i) (x0 : Vec F S512x1024 .f32) (x1 : Vec F S16x1024 .f32) (x2 : Vec F S1x512x688 .bf16) (x3 : Vec F S1x512x688 .bf16) (x4 : Vec F S1x512x688 .bf16) (x5 : Vec F S1x16x688 .bf16) (x6 : Vec F S1x512x688 .bf16) (x7 : Vec F S1x16x688 .bf16) (x8 : Vec F S1x688x1024 .bf16) (x9 : Vec F S1x688x1024 .bf16) (x10 : Vec F S1x8x688 .f32) (x11 : Vec F S1x8x688 .f32) (x12 : Vec F S1x688x1024 .bf16) (y16 : Vec F S512x1024 .f32) (y17 y18 : Vec F S4x8x688 .f32) (s : Vec F S512x1024 .f32) :
    BodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y16 y17 y18 s := by
  intro E K
  simp only [cc0_ffn_bwd_eq_skeleton]; unfold cc0_ffn_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17; obtain rfl := harg20.eq_unread hf18; obtain rfl := harg21.eq_unread hf19
  have e0 : View.readAt (Elt F) arg2.view (Rect.unit ![0, 0] S512x1024.size inb_S512x1024_S512x1024_0_0).toLoadRect (harg2.unread x0) = x0 :=
    (View.readAt_full _ _ _).trans (harg2.read_unread _)
  have e1 : View.readAt (Elt F) arg3.view (Rect.unit ![0, 0] S16x1024.size inb_S16x1024_S16x1024_0_0).toLoadRect (harg3.unread x1) = x1 :=
    (View.readAt_full _ _ _).trans (harg3.read_unread _)
  have e2 : View.readAt (Elt F) arg4.view (Rect.unit ![0, 0, 0] S1x512x688.size inb_S1x512x688_S1x512x688_0_0_0).toLoadRect (harg4.unread x2) = x2 :=
    (View.readAt_full _ _ _).trans (harg4.read_unread _)
  have e3 : View.readAt (Elt F) arg5.view (Rect.unit ![0, 0, 0] S1x512x688.size inb_S1x512x688_S1x512x688_0_0_0).toLoadRect (harg5.unread x3) = x3 :=
    (View.readAt_full _ _ _).trans (harg5.read_unread _)
  have e4 : View.readAt (Elt F) arg6.view (Rect.unit ![0, 0, 0] S1x512x688.size inb_S1x512x688_S1x512x688_0_0_0).toLoadRect (harg6.unread x4) = x4 :=
    (View.readAt_full _ _ _).trans (harg6.read_unread _)
  have e5 : View.readAt (Elt F) arg7.view (Rect.unit ![0, 0, 0] S1x16x688.size inb_S1x16x688_S1x16x688_0_0_0).toLoadRect (harg7.unread x5) = x5 :=
    (View.readAt_full _ _ _).trans (harg7.read_unread _)
  have e6 : View.readAt (Elt F) arg8.view (Rect.unit ![0, 0, 0] S1x512x688.size inb_S1x512x688_S1x512x688_0_0_0).toLoadRect (harg8.unread x6) = x6 :=
    (View.readAt_full _ _ _).trans (harg8.read_unread _)
  have e7 : View.readAt (Elt F) arg9.view (Rect.unit ![0, 0, 0] S1x16x688.size inb_S1x16x688_S1x16x688_0_0_0).toLoadRect (harg9.unread x7) = x7 :=
    (View.readAt_full _ _ _).trans (harg9.read_unread _)
  have e8 : View.readAt (Elt F) arg10.view (Rect.unit ![0, 0, 0] S1x688x1024.size inb_S1x688x1024_S1x688x1024_0_0_0).toLoadRect (harg10.unread x8) = x8 :=
    (View.readAt_full _ _ _).trans (harg10.read_unread _)
  have e9 : View.readAt (Elt F) arg11.view (Rect.unit ![0, 0, 0] S1x688x1024.size inb_S1x688x1024_S1x688x1024_0_0_0).toLoadRect (harg11.unread x9) = x9 :=
    (View.readAt_full _ _ _).trans (harg11.read_unread _)
  have e10 : View.readAt (Elt F) arg12.view (Rect.unit ![0, 0, 0] S1x8x688.size inb_S1x8x688_S1x8x688_0_0_0).toLoadRect (harg12.unread x10) = x10 :=
    (View.readAt_full _ _ _).trans (harg12.read_unread _)
  have e11 : View.readAt (Elt F) arg13.view (Rect.unit ![0, 0, 0] S1x8x688.size inb_S1x8x688_S1x8x688_0_0_0).toLoadRect (harg13.unread x11) = x11 :=
    (View.readAt_full _ _ _).trans (harg13.read_unread _)
  have e12 : View.readAt (Elt F) arg14.view (Rect.unit ![0, 0, 0] S1x688x1024.size inb_S1x688x1024_S1x688x1024_0_0_0).toLoadRect (harg14.unread x12) = x12 :=
    (View.readAt_full _ _ _).trans (harg14.read_unread _)
  have es : View.readAt (Elt F) arg21.view (Rect.unit ![0, 0] S512x1024.size inb_S512x1024_S512x1024_0_0).toLoadRect (harg21.unread s) = s :=
    (View.readAt_full _ _ _).trans (harg21.read_unread _)
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; swap; · iexact H13
    ipureintro
    refine (View.read_writes_full _ _ _ _ _).trans ?_
    delta outUg
    try delta run_mid_first.sl.r_6
    try delta run_mid_first.sl.r_4
    with_reducible rfl
  isplitl [H14]
  · iexists _; isplitr; swap; · iexact H14
    ipureintro
    refine (View.read_writes_full _ _ _ _ _).trans ?_
    delta outUv
    try delta run_mid_first.sl.r_8
    try delta run_mid_first.sl.r
    with_reducible rfl
  isplitl [H15]
  · iexists _; isplitr; swap; · iexact H15
    ipureintro
    refine (View.read_writes_full _ _ _ _ _).trans ?_
    delta outAct
    with_reducible rfl
  isplitl [H16]
  · iexists _; isplitr; swap; · iexact H16
    ipureintro
    rw [if_neg hc2]
    exact harg18.read_unread _
  isplitl [H17]
  · iexists _; isplitr; swap; · iexact H17
    ipureintro
    delta rowG gradG
    rw [if_pos hc3]
    try delta run_mid_first.sl.v149
    try delta run_mid_first.sl.H17_1
    try delta run_mid_first.sl.r_5
    try delta run_mid_first.sl.r_1
    try delta run_mid_first.sl.r_2
    try delta run_mid_first.sl.r_3
    exact row_first arg19 harg19 y17 _ _ rfl (k0_pay1 _) _
  isplitl [H18]
  · iexists _; isplitr; swap; · iexact H18
    ipureintro
    delta rowV gradV
    rw [if_pos hc3]
    try delta run_mid_first.sl.v157
    try delta run_mid_first.sl.H18_1
    try delta run_mid_first.sl.r_12
    try delta run_mid_first.sl.r_7
    try delta run_mid_first.sl.r_9
    try delta run_mid_first.sl.r_10
    try delta run_mid_first.sl.r_11
    try delta run_mid_first.sl.r
    exact row_first arg20 harg20 y18 _ _ rfl (k0_pay2 _) _
  iexists _; isplitr; swap; · iexact H19
  ipureintro
  refine (View.read_writes_full _ _ _ _ _).trans ?_
  delta accStep
  try delta run_mid_first.sl.r_6
  try delta run_mid_first.sl.r_8
  try delta run_mid_first.sl.r_4
  try delta run_mid_first.sl.r
  exact (if_neg hc0).symm

end Cert.FfnBwd

end
-- ==== Proof.RunLastFirst.lean ====
module

public import proofs.«01_k».proof.Proof.Runs

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the proof term of a run of the whole body is large
set_option maxHeartbeats 1000000 in
/-- The body at the last group of the first tile. -/
theorem run_last_first (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x512x688 .bf16) (harg4 : arg4.IsWhole) (arg5 : Memref sig .tc .vmem S1x512x688 .bf16) (harg5 : arg5.IsWhole) (arg6 : Memref sig .tc .vmem S1x512x688 .bf16) (harg6 : arg6.IsWhole) (arg7 : Memref sig .tc .vmem S1x16x688 .bf16) (harg7 : arg7.IsWhole) (arg8 : Memref sig .tc .vmem S1x512x688 .bf16) (harg8 : arg8.IsWhole) (arg9 : Memref sig .tc .vmem S1x16x688 .bf16) (harg9 : arg9.IsWhole) (arg10 : Memref sig .tc .vmem S1x688x1024 .bf16) (harg10 : arg10.IsWhole) (arg11 : Memref sig .tc .vmem S1x688x1024 .bf16) (harg11 : arg11.IsWhole) (arg12 : Memref sig .tc .vmem S1x8x688 .f32) (harg12 : arg12.IsWhole) (arg13 : Memref sig .tc .vmem S1x8x688 .f32) (harg13 : arg13.IsWhole) (arg14 : Memref sig .tc .vmem S1x688x1024 .bf16) (harg14 : arg14.IsWhole) (arg15 : Memref sig .tc .vmem S1x512x688 .bf16) (harg15 : arg15.IsWhole) (arg16 : Memref sig .tc .vmem S1x512x688 .bf16) (harg16 : arg16.IsWhole) (arg17 : Memref sig .tc .vmem S1x512x688 .bf16) (harg17 : arg17.IsWhole) (arg18 : Memref sig .tc .vmem S512x1024 .f32) (harg18 : arg18.IsWhole) (arg19 : Memref sig .tc .vmem S4x8x688 .f32) (harg19 : arg19.IsWhole) (arg20 : Memref sig .tc .vmem S4x8x688 .f32) (harg20 : arg20.IsWhole) (arg21 : Memref sig .tc .vmem S512x1024 .f32) (harg21 : arg21.IsWhole) (hc0 : ¬ isJ0 i) (hc1 : isJpos i) (hc2 : isJ3 i) (hc3 : isI0 i) (x0 : Vec F S512x1024 .f32) (x1 : Vec F S16x1024 .f32) (x2 : Vec F S1x512x688 .bf16) (x3 : Vec F S1x512x688 .bf16) (x4 : Vec F S1x512x688 .bf16) (x5 : Vec F S1x16x688 .bf16) (x6 : Vec F S1x512x688 .bf16) (x7 : Vec F S1x16x688 .bf16) (x8 : Vec F S1x688x1024 .bf16) (x9 : Vec F S1x688x1024 .bf16) (x10 : Vec F S1x8x688 .f32) (x11 : Vec F S1x8x688 .f32) (x12 : Vec F S1x688x1024 .bf16) (y16 : Vec F S512x1024 .f32) (y17 y18 : Vec F S4x8x688 .f32) (s : Vec F S512x1024 .f32) :
    BodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y16 y17 y18 s := by
  intro E K
  simp only [cc0_ffn_bwd_eq_skeleton]; unfold cc0_ffn_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17; obtain rfl := harg20.eq_unread hf18; obtain rfl := harg21.eq_unread hf19
  have e0 : View.readAt (Elt F) arg2.view (Rect.unit ![0, 0] S512x1024.size inb_S512x1024_S512x1024_0_0).toLoadRect (harg2.unread x0) = x0 :=
    (View.readAt_full _ _ _).trans (harg2.read_unread _)
  have e1 : View.readAt (Elt F) arg3.view (Rect.unit ![0, 0] S16x1024.size inb_S16x1024_S16x1024_0_0).toLoadRect (harg3.unread x1) = x1 :=
    (View.readAt_full _ _ _).trans (harg3.read_unread _)
  have e2 : View.readAt (Elt F) arg4.view (Rect.unit ![0, 0, 0] S1x512x688.size inb_S1x512x688_S1x512x688_0_0_0).toLoadRect (harg4.unread x2) = x2 :=
    (View.readAt_full _ _ _).trans (harg4.read_unread _)
  have e3 : View.readAt (Elt F) arg5.view (Rect.unit ![0, 0, 0] S1x512x688.size inb_S1x512x688_S1x512x688_0_0_0).toLoadRect (harg5.unread x3) = x3 :=
    (View.readAt_full _ _ _).trans (harg5.read_unread _)
  have e4 : View.readAt (Elt F) arg6.view (Rect.unit ![0, 0, 0] S1x512x688.size inb_S1x512x688_S1x512x688_0_0_0).toLoadRect (harg6.unread x4) = x4 :=
    (View.readAt_full _ _ _).trans (harg6.read_unread _)
  have e5 : View.readAt (Elt F) arg7.view (Rect.unit ![0, 0, 0] S1x16x688.size inb_S1x16x688_S1x16x688_0_0_0).toLoadRect (harg7.unread x5) = x5 :=
    (View.readAt_full _ _ _).trans (harg7.read_unread _)
  have e6 : View.readAt (Elt F) arg8.view (Rect.unit ![0, 0, 0] S1x512x688.size inb_S1x512x688_S1x512x688_0_0_0).toLoadRect (harg8.unread x6) = x6 :=
    (View.readAt_full _ _ _).trans (harg8.read_unread _)
  have e7 : View.readAt (Elt F) arg9.view (Rect.unit ![0, 0, 0] S1x16x688.size inb_S1x16x688_S1x16x688_0_0_0).toLoadRect (harg9.unread x7) = x7 :=
    (View.readAt_full _ _ _).trans (harg9.read_unread _)
  have e8 : View.readAt (Elt F) arg10.view (Rect.unit ![0, 0, 0] S1x688x1024.size inb_S1x688x1024_S1x688x1024_0_0_0).toLoadRect (harg10.unread x8) = x8 :=
    (View.readAt_full _ _ _).trans (harg10.read_unread _)
  have e9 : View.readAt (Elt F) arg11.view (Rect.unit ![0, 0, 0] S1x688x1024.size inb_S1x688x1024_S1x688x1024_0_0_0).toLoadRect (harg11.unread x9) = x9 :=
    (View.readAt_full _ _ _).trans (harg11.read_unread _)
  have e10 : View.readAt (Elt F) arg12.view (Rect.unit ![0, 0, 0] S1x8x688.size inb_S1x8x688_S1x8x688_0_0_0).toLoadRect (harg12.unread x10) = x10 :=
    (View.readAt_full _ _ _).trans (harg12.read_unread _)
  have e11 : View.readAt (Elt F) arg13.view (Rect.unit ![0, 0, 0] S1x8x688.size inb_S1x8x688_S1x8x688_0_0_0).toLoadRect (harg13.unread x11) = x11 :=
    (View.readAt_full _ _ _).trans (harg13.read_unread _)
  have e12 : View.readAt (Elt F) arg14.view (Rect.unit ![0, 0, 0] S1x688x1024.size inb_S1x688x1024_S1x688x1024_0_0_0).toLoadRect (harg14.unread x12) = x12 :=
    (View.readAt_full _ _ _).trans (harg14.read_unread _)
  have es : View.readAt (Elt F) arg21.view (Rect.unit ![0, 0] S512x1024.size inb_S512x1024_S512x1024_0_0).toLoadRect (harg21.unread s) = s :=
    (View.readAt_full _ _ _).trans (harg21.read_unread _)
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; swap; · iexact H13
    ipureintro
    refine (View.read_writes_full _ _ _ _ _).trans ?_
    delta outUg
    try delta run_last_first.sl.r_6
    try delta run_last_first.sl.r_4
    with_reducible rfl
  isplitl [H14]
  · iexists _; isplitr; swap; · iexact H14
    ipureintro
    refine (View.read_writes_full _ _ _ _ _).trans ?_
    delta outUv
    try delta run_last_first.sl.r_8
    try delta run_last_first.sl.r
    with_reducible rfl
  isplitl [H15]
  · iexists _; isplitr; swap; · iexact H15
    ipureintro
    refine (View.read_writes_full _ _ _ _ _).trans ?_
    delta outAct
    with_reducible rfl
  isplitl [H16]
  · iexists _; isplitr; swap; · iexact H16
    ipureintro
    rw [if_pos hc2]
    refine (View.read_writes_full _ _ _ _ _).trans ?_
    try delta run_last_first.sl.v164
    try delta run_last_first.sl.H19_1
    refine (View.readCov_full _ _ _ _ _).trans ?_
    delta accStep
    try delta run_last_first.sl.r_6
    try delta run_last_first.sl.r_8
    try delta run_last_first.sl.r_4
    try delta run_last_first.sl.r
    exact (if_neg hc0).symm
  isplitl [H17]
  · iexists _; isplitr; swap; · iexact H17
    ipureintro
    delta rowG gradG
    rw [if_pos hc3]
    try delta run_last_first.sl.v149
    try delta run_last_first.sl.H17_1
    try delta run_last_first.sl.r_5
    try delta run_last_first.sl.r_1
    try delta run_last_first.sl.r_2
    try delta run_last_first.sl.r_3
    exact row_first arg19 harg19 y17 _ _ rfl (k0_pay1 _) _
  isplitl [H18]
  · iexists _; isplitr; swap; · iexact H18
    ipureintro
    delta rowV gradV
    rw [if_pos hc3]
    try delta run_last_first.sl.v157
    try delta run_last_first.sl.H18_1
    try delta run_last_first.sl.r_12
    try delta run_last_first.sl.r_7
    try delta run_last_first.sl.r_9
    try delta run_last_first.sl.r_10
    try delta run_last_first.sl.r_11
    try delta run_last_first.sl.r
    exact row_first arg20 harg20 y18 _ _ rfl (k0_pay2 _) _
  iexists _; isplitr; swap; · iexact H19
  ipureintro
  try delta run_last_first.sl.H19_1
  refine (View.read_writes_full _ _ _ _ _).trans ?_
  delta accStep
  try delta run_last_first.sl.r_6
  try delta run_last_first.sl.r_8
  try delta run_last_first.sl.r_4
  try delta run_last_first.sl.r
  exact (if_neg hc0).symm

end Cert.FfnBwd

end
-- ==== Proof.RunFirstRest.lean ====
module

public import proofs.«01_k».proof.Proof.Runs

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the proof term of a run of the whole body is large
set_option maxHeartbeats 1000000 in
/-- The body at the first group of a later tile. -/
theorem run_first_rest (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x512x688 .bf16) (harg4 : arg4.IsWhole) (arg5 : Memref sig .tc .vmem S1x512x688 .bf16) (harg5 : arg5.IsWhole) (arg6 : Memref sig .tc .vmem S1x512x688 .bf16) (harg6 : arg6.IsWhole) (arg7 : Memref sig .tc .vmem S1x16x688 .bf16) (harg7 : arg7.IsWhole) (arg8 : Memref sig .tc .vmem S1x512x688 .bf16) (harg8 : arg8.IsWhole) (arg9 : Memref sig .tc .vmem S1x16x688 .bf16) (harg9 : arg9.IsWhole) (arg10 : Memref sig .tc .vmem S1x688x1024 .bf16) (harg10 : arg10.IsWhole) (arg11 : Memref sig .tc .vmem S1x688x1024 .bf16) (harg11 : arg11.IsWhole) (arg12 : Memref sig .tc .vmem S1x8x688 .f32) (harg12 : arg12.IsWhole) (arg13 : Memref sig .tc .vmem S1x8x688 .f32) (harg13 : arg13.IsWhole) (arg14 : Memref sig .tc .vmem S1x688x1024 .bf16) (harg14 : arg14.IsWhole) (arg15 : Memref sig .tc .vmem S1x512x688 .bf16) (harg15 : arg15.IsWhole) (arg16 : Memref sig .tc .vmem S1x512x688 .bf16) (harg16 : arg16.IsWhole) (arg17 : Memref sig .tc .vmem S1x512x688 .bf16) (harg17 : arg17.IsWhole) (arg18 : Memref sig .tc .vmem S512x1024 .f32) (harg18 : arg18.IsWhole) (arg19 : Memref sig .tc .vmem S4x8x688 .f32) (harg19 : arg19.IsWhole) (arg20 : Memref sig .tc .vmem S4x8x688 .f32) (harg20 : arg20.IsWhole) (arg21 : Memref sig .tc .vmem S512x1024 .f32) (harg21 : arg21.IsWhole) (hc0 : isJ0 i) (hc1 : ¬ isJpos i) (hc2 : ¬ isJ3 i) (hc3 : ¬ isI0 i) (x0 : Vec F S512x1024 .f32) (x1 : Vec F S16x1024 .f32) (x2 : Vec F S1x512x688 .bf16) (x3 : Vec F S1x512x688 .bf16) (x4 : Vec F S1x512x688 .bf16) (x5 : Vec F S1x16x688 .bf16) (x6 : Vec F S1x512x688 .bf16) (x7 : Vec F S1x16x688 .bf16) (x8 : Vec F S1x688x1024 .bf16) (x9 : Vec F S1x688x1024 .bf16) (x10 : Vec F S1x8x688 .f32) (x11 : Vec F S1x8x688 .f32) (x12 : Vec F S1x688x1024 .bf16) (y16 : Vec F S512x1024 .f32) (y17 y18 : Vec F S4x8x688 .f32) (s : Vec F S512x1024 .f32) :
    BodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y16 y17 y18 s := by
  intro E K
  simp only [cc0_ffn_bwd_eq_skeleton]; unfold cc0_ffn_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17; obtain rfl := harg20.eq_unread hf18; obtain rfl := harg21.eq_unread hf19
  have e0 : View.readAt (Elt F) arg2.view (Rect.unit ![0, 0] S512x1024.size inb_S512x1024_S512x1024_0_0).toLoadRect (harg2.unread x0) = x0 :=
    (View.readAt_full _ _ _).trans (harg2.read_unread _)
  have e1 : View.readAt (Elt F) arg3.view (Rect.unit ![0, 0] S16x1024.size inb_S16x1024_S16x1024_0_0).toLoadRect (harg3.unread x1) = x1 :=
    (View.readAt_full _ _ _).trans (harg3.read_unread _)
  have e2 : View.readAt (Elt F) arg4.view (Rect.unit ![0, 0, 0] S1x512x688.size inb_S1x512x688_S1x512x688_0_0_0).toLoadRect (harg4.unread x2) = x2 :=
    (View.readAt_full _ _ _).trans (harg4.read_unread _)
  have e3 : View.readAt (Elt F) arg5.view (Rect.unit ![0, 0, 0] S1x512x688.size inb_S1x512x688_S1x512x688_0_0_0).toLoadRect (harg5.unread x3) = x3 :=
    (View.readAt_full _ _ _).trans (harg5.read_unread _)
  have e4 : View.readAt (Elt F) arg6.view (Rect.unit ![0, 0, 0] S1x512x688.size inb_S1x512x688_S1x512x688_0_0_0).toLoadRect (harg6.unread x4) = x4 :=
    (View.readAt_full _ _ _).trans (harg6.read_unread _)
  have e5 : View.readAt (Elt F) arg7.view (Rect.unit ![0, 0, 0] S1x16x688.size inb_S1x16x688_S1x16x688_0_0_0).toLoadRect (harg7.unread x5) = x5 :=
    (View.readAt_full _ _ _).trans (harg7.read_unread _)
  have e6 : View.readAt (Elt F) arg8.view (Rect.unit ![0, 0, 0] S1x512x688.size inb_S1x512x688_S1x512x688_0_0_0).toLoadRect (harg8.unread x6) = x6 :=
    (View.readAt_full _ _ _).trans (harg8.read_unread _)
  have e7 : View.readAt (Elt F) arg9.view (Rect.unit ![0, 0, 0] S1x16x688.size inb_S1x16x688_S1x16x688_0_0_0).toLoadRect (harg9.unread x7) = x7 :=
    (View.readAt_full _ _ _).trans (harg9.read_unread _)
  have e8 : View.readAt (Elt F) arg10.view (Rect.unit ![0, 0, 0] S1x688x1024.size inb_S1x688x1024_S1x688x1024_0_0_0).toLoadRect (harg10.unread x8) = x8 :=
    (View.readAt_full _ _ _).trans (harg10.read_unread _)
  have e9 : View.readAt (Elt F) arg11.view (Rect.unit ![0, 0, 0] S1x688x1024.size inb_S1x688x1024_S1x688x1024_0_0_0).toLoadRect (harg11.unread x9) = x9 :=
    (View.readAt_full _ _ _).trans (harg11.read_unread _)
  have e10 : View.readAt (Elt F) arg12.view (Rect.unit ![0, 0, 0] S1x8x688.size inb_S1x8x688_S1x8x688_0_0_0).toLoadRect (harg12.unread x10) = x10 :=
    (View.readAt_full _ _ _).trans (harg12.read_unread _)
  have e11 : View.readAt (Elt F) arg13.view (Rect.unit ![0, 0, 0] S1x8x688.size inb_S1x8x688_S1x8x688_0_0_0).toLoadRect (harg13.unread x11) = x11 :=
    (View.readAt_full _ _ _).trans (harg13.read_unread _)
  have e12 : View.readAt (Elt F) arg14.view (Rect.unit ![0, 0, 0] S1x688x1024.size inb_S1x688x1024_S1x688x1024_0_0_0).toLoadRect (harg14.unread x12) = x12 :=
    (View.readAt_full _ _ _).trans (harg14.read_unread _)
  have es : View.readAt (Elt F) arg21.view (Rect.unit ![0, 0] S512x1024.size inb_S512x1024_S512x1024_0_0).toLoadRect (harg21.unread s) = s :=
    (View.readAt_full _ _ _).trans (harg21.read_unread _)
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; swap; · iexact H13
    ipureintro
    refine (View.read_writes_full _ _ _ _ _).trans ?_
    delta outUg
    try delta run_first_rest.sl.r_6
    try delta run_first_rest.sl.r_4
    with_reducible rfl
  isplitl [H14]
  · iexists _; isplitr; swap; · iexact H14
    ipureintro
    refine (View.read_writes_full _ _ _ _ _).trans ?_
    delta outUv
    try delta run_first_rest.sl.r_8
    try delta run_first_rest.sl.r
    with_reducible rfl
  isplitl [H15]
  · iexists _; isplitr; swap; · iexact H15
    ipureintro
    refine (View.read_writes_full _ _ _ _ _).trans ?_
    delta outAct
    with_reducible rfl
  isplitl [H16]
  · iexists _; isplitr; swap; · iexact H16
    ipureintro
    rw [if_neg hc2]
    exact harg18.read_unread _
  isplitl [H17]
  · iexists _; isplitr; swap; · iexact H17
    ipureintro
    delta rowG gradG
    rw [if_neg hc3]
    try delta run_first_rest.sl.r_5
    try delta run_first_rest.sl.r_1
    try delta run_first_rest.sl.r_2
    try delta run_first_rest.sl.r_3
    exact row_rest arg19 harg19 y17 (rowR i) (k0_pay1 _)
  isplitl [H18]
  · iexists _; isplitr; swap; · iexact H18
    ipureintro
    delta rowV gradV
    rw [if_neg hc3]
    try delta run_first_rest.sl.r_12
    try delta run_first_rest.sl.r_7
    try delta run_first_rest.sl.r_9
    try delta run_first_rest.sl.r_10
    try delta run_first_rest.sl.r_11
    try delta run_first_rest.sl.r
    exact row_rest arg20 harg20 y18 (rowR i) (k0_pay2 _)
  iexists _; isplitr; swap; · iexact H19
  ipureintro
  refine (View.read_writes_full _ _ _ _ _).trans ?_
  delta accStep
  try delta run_first_rest.sl.r_6
  try delta run_first_rest.sl.r_8
  try delta run_first_rest.sl.r_4
  try delta run_first_rest.sl.r
  exact (if_pos hc0).symm

end Cert.FfnBwd

end
-- ==== Proof.RunMidRest.lean ====
module

public import proofs.«01_k».proof.Proof.Runs

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the proof term of a run of the whole body is large
set_option maxHeartbeats 1000000 in
/-- The body at a middle group of a later tile. -/
theorem run_mid_rest (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x512x688 .bf16) (harg4 : arg4.IsWhole) (arg5 : Memref sig .tc .vmem S1x512x688 .bf16) (harg5 : arg5.IsWhole) (arg6 : Memref sig .tc .vmem S1x512x688 .bf16) (harg6 : arg6.IsWhole) (arg7 : Memref sig .tc .vmem S1x16x688 .bf16) (harg7 : arg7.IsWhole) (arg8 : Memref sig .tc .vmem S1x512x688 .bf16) (harg8 : arg8.IsWhole) (arg9 : Memref sig .tc .vmem S1x16x688 .bf16) (harg9 : arg9.IsWhole) (arg10 : Memref sig .tc .vmem S1x688x1024 .bf16) (harg10 : arg10.IsWhole) (arg11 : Memref sig .tc .vmem S1x688x1024 .bf16) (harg11 : arg11.IsWhole) (arg12 : Memref sig .tc .vmem S1x8x688 .f32) (harg12 : arg12.IsWhole) (arg13 : Memref sig .tc .vmem S1x8x688 .f32) (harg13 : arg13.IsWhole) (arg14 : Memref sig .tc .vmem S1x688x1024 .bf16) (harg14 : arg14.IsWhole) (arg15 : Memref sig .tc .vmem S1x512x688 .bf16) (harg15 : arg15.IsWhole) (arg16 : Memref sig .tc .vmem S1x512x688 .bf16) (harg16 : arg16.IsWhole) (arg17 : Memref sig .tc .vmem S1x512x688 .bf16) (harg17 : arg17.IsWhole) (arg18 : Memref sig .tc .vmem S512x1024 .f32) (harg18 : arg18.IsWhole) (arg19 : Memref sig .tc .vmem S4x8x688 .f32) (harg19 : arg19.IsWhole) (arg20 : Memref sig .tc .vmem S4x8x688 .f32) (harg20 : arg20.IsWhole) (arg21 : Memref sig .tc .vmem S512x1024 .f32) (harg21 : arg21.IsWhole) (hc0 : ¬ isJ0 i) (hc1 : isJpos i) (hc2 : ¬ isJ3 i) (hc3 : ¬ isI0 i) (x0 : Vec F S512x1024 .f32) (x1 : Vec F S16x1024 .f32) (x2 : Vec F S1x512x688 .bf16) (x3 : Vec F S1x512x688 .bf16) (x4 : Vec F S1x512x688 .bf16) (x5 : Vec F S1x16x688 .bf16) (x6 : Vec F S1x512x688 .bf16) (x7 : Vec F S1x16x688 .bf16) (x8 : Vec F S1x688x1024 .bf16) (x9 : Vec F S1x688x1024 .bf16) (x10 : Vec F S1x8x688 .f32) (x11 : Vec F S1x8x688 .f32) (x12 : Vec F S1x688x1024 .bf16) (y16 : Vec F S512x1024 .f32) (y17 y18 : Vec F S4x8x688 .f32) (s : Vec F S512x1024 .f32) :
    BodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y16 y17 y18 s := by
  intro E K
  simp only [cc0_ffn_bwd_eq_skeleton]; unfold cc0_ffn_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17; obtain rfl := harg20.eq_unread hf18; obtain rfl := harg21.eq_unread hf19
  have e0 : View.readAt (Elt F) arg2.view (Rect.unit ![0, 0] S512x1024.size inb_S512x1024_S512x1024_0_0).toLoadRect (harg2.unread x0) = x0 :=
    (View.readAt_full _ _ _).trans (harg2.read_unread _)
  have e1 : View.readAt (Elt F) arg3.view (Rect.unit ![0, 0] S16x1024.size inb_S16x1024_S16x1024_0_0).toLoadRect (harg3.unread x1) = x1 :=
    (View.readAt_full _ _ _).trans (harg3.read_unread _)
  have e2 : View.readAt (Elt F) arg4.view (Rect.unit ![0, 0, 0] S1x512x688.size inb_S1x512x688_S1x512x688_0_0_0).toLoadRect (harg4.unread x2) = x2 :=
    (View.readAt_full _ _ _).trans (harg4.read_unread _)
  have e3 : View.readAt (Elt F) arg5.view (Rect.unit ![0, 0, 0] S1x512x688.size inb_S1x512x688_S1x512x688_0_0_0).toLoadRect (harg5.unread x3) = x3 :=
    (View.readAt_full _ _ _).trans (harg5.read_unread _)
  have e4 : View.readAt (Elt F) arg6.view (Rect.unit ![0, 0, 0] S1x512x688.size inb_S1x512x688_S1x512x688_0_0_0).toLoadRect (harg6.unread x4) = x4 :=
    (View.readAt_full _ _ _).trans (harg6.read_unread _)
  have e5 : View.readAt (Elt F) arg7.view (Rect.unit ![0, 0, 0] S1x16x688.size inb_S1x16x688_S1x16x688_0_0_0).toLoadRect (harg7.unread x5) = x5 :=
    (View.readAt_full _ _ _).trans (harg7.read_unread _)
  have e6 : View.readAt (Elt F) arg8.view (Rect.unit ![0, 0, 0] S1x512x688.size inb_S1x512x688_S1x512x688_0_0_0).toLoadRect (harg8.unread x6) = x6 :=
    (View.readAt_full _ _ _).trans (harg8.read_unread _)
  have e7 : View.readAt (Elt F) arg9.view (Rect.unit ![0, 0, 0] S1x16x688.size inb_S1x16x688_S1x16x688_0_0_0).toLoadRect (harg9.unread x7) = x7 :=
    (View.readAt_full _ _ _).trans (harg9.read_unread _)
  have e8 : View.readAt (Elt F) arg10.view (Rect.unit ![0, 0, 0] S1x688x1024.size inb_S1x688x1024_S1x688x1024_0_0_0).toLoadRect (harg10.unread x8) = x8 :=
    (View.readAt_full _ _ _).trans (harg10.read_unread _)
  have e9 : View.readAt (Elt F) arg11.view (Rect.unit ![0, 0, 0] S1x688x1024.size inb_S1x688x1024_S1x688x1024_0_0_0).toLoadRect (harg11.unread x9) = x9 :=
    (View.readAt_full _ _ _).trans (harg11.read_unread _)
  have e10 : View.readAt (Elt F) arg12.view (Rect.unit ![0, 0, 0] S1x8x688.size inb_S1x8x688_S1x8x688_0_0_0).toLoadRect (harg12.unread x10) = x10 :=
    (View.readAt_full _ _ _).trans (harg12.read_unread _)
  have e11 : View.readAt (Elt F) arg13.view (Rect.unit ![0, 0, 0] S1x8x688.size inb_S1x8x688_S1x8x688_0_0_0).toLoadRect (harg13.unread x11) = x11 :=
    (View.readAt_full _ _ _).trans (harg13.read_unread _)
  have e12 : View.readAt (Elt F) arg14.view (Rect.unit ![0, 0, 0] S1x688x1024.size inb_S1x688x1024_S1x688x1024_0_0_0).toLoadRect (harg14.unread x12) = x12 :=
    (View.readAt_full _ _ _).trans (harg14.read_unread _)
  have es : View.readAt (Elt F) arg21.view (Rect.unit ![0, 0] S512x1024.size inb_S512x1024_S512x1024_0_0).toLoadRect (harg21.unread s) = s :=
    (View.readAt_full _ _ _).trans (harg21.read_unread _)
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; swap; · iexact H13
    ipureintro
    refine (View.read_writes_full _ _ _ _ _).trans ?_
    delta outUg
    try delta run_mid_rest.sl.r_6
    try delta run_mid_rest.sl.r_4
    with_reducible rfl
  isplitl [H14]
  · iexists _; isplitr; swap; · iexact H14
    ipureintro
    refine (View.read_writes_full _ _ _ _ _).trans ?_
    delta outUv
    try delta run_mid_rest.sl.r_8
    try delta run_mid_rest.sl.r
    with_reducible rfl
  isplitl [H15]
  · iexists _; isplitr; swap; · iexact H15
    ipureintro
    refine (View.read_writes_full _ _ _ _ _).trans ?_
    delta outAct
    with_reducible rfl
  isplitl [H16]
  · iexists _; isplitr; swap; · iexact H16
    ipureintro
    rw [if_neg hc2]
    exact harg18.read_unread _
  isplitl [H17]
  · iexists _; isplitr; swap; · iexact H17
    ipureintro
    delta rowG gradG
    rw [if_neg hc3]
    try delta run_mid_rest.sl.r_5
    try delta run_mid_rest.sl.r_1
    try delta run_mid_rest.sl.r_2
    try delta run_mid_rest.sl.r_3
    exact row_rest arg19 harg19 y17 (rowR i) (k0_pay1 _)
  isplitl [H18]
  · iexists _; isplitr; swap; · iexact H18
    ipureintro
    delta rowV gradV
    rw [if_neg hc3]
    try delta run_mid_rest.sl.r_12
    try delta run_mid_rest.sl.r_7
    try delta run_mid_rest.sl.r_9
    try delta run_mid_rest.sl.r_10
    try delta run_mid_rest.sl.r_11
    try delta run_mid_rest.sl.r
    exact row_rest arg20 harg20 y18 (rowR i) (k0_pay2 _)
  iexists _; isplitr; swap; · iexact H19
  ipureintro
  refine (View.read_writes_full _ _ _ _ _).trans ?_
  delta accStep
  try delta run_mid_rest.sl.r_6
  try delta run_mid_rest.sl.r_8
  try delta run_mid_rest.sl.r_4
  try delta run_mid_rest.sl.r
  exact (if_neg hc0).symm

end Cert.FfnBwd

end
-- ==== Proof.RunLastRest.lean ====
module

public import proofs.«01_k».proof.Proof.Runs

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- the proof term of a run of the whole body is large
set_option maxHeartbeats 1000000 in
/-- The body at the last group of a later tile. -/
theorem run_last_rest (c : Dev nD) (i : grid0.Coords) (arg2 : Memref sig .tc .vmem S512x1024 .f32) (harg2 : arg2.IsWhole) (arg3 : Memref sig .tc .vmem S16x1024 .f32) (harg3 : arg3.IsWhole) (arg4 : Memref sig .tc .vmem S1x512x688 .bf16) (harg4 : arg4.IsWhole) (arg5 : Memref sig .tc .vmem S1x512x688 .bf16) (harg5 : arg5.IsWhole) (arg6 : Memref sig .tc .vmem S1x512x688 .bf16) (harg6 : arg6.IsWhole) (arg7 : Memref sig .tc .vmem S1x16x688 .bf16) (harg7 : arg7.IsWhole) (arg8 : Memref sig .tc .vmem S1x512x688 .bf16) (harg8 : arg8.IsWhole) (arg9 : Memref sig .tc .vmem S1x16x688 .bf16) (harg9 : arg9.IsWhole) (arg10 : Memref sig .tc .vmem S1x688x1024 .bf16) (harg10 : arg10.IsWhole) (arg11 : Memref sig .tc .vmem S1x688x1024 .bf16) (harg11 : arg11.IsWhole) (arg12 : Memref sig .tc .vmem S1x8x688 .f32) (harg12 : arg12.IsWhole) (arg13 : Memref sig .tc .vmem S1x8x688 .f32) (harg13 : arg13.IsWhole) (arg14 : Memref sig .tc .vmem S1x688x1024 .bf16) (harg14 : arg14.IsWhole) (arg15 : Memref sig .tc .vmem S1x512x688 .bf16) (harg15 : arg15.IsWhole) (arg16 : Memref sig .tc .vmem S1x512x688 .bf16) (harg16 : arg16.IsWhole) (arg17 : Memref sig .tc .vmem S1x512x688 .bf16) (harg17 : arg17.IsWhole) (arg18 : Memref sig .tc .vmem S512x1024 .f32) (harg18 : arg18.IsWhole) (arg19 : Memref sig .tc .vmem S4x8x688 .f32) (harg19 : arg19.IsWhole) (arg20 : Memref sig .tc .vmem S4x8x688 .f32) (harg20 : arg20.IsWhole) (arg21 : Memref sig .tc .vmem S512x1024 .f32) (harg21 : arg21.IsWhole) (hc0 : ¬ isJ0 i) (hc1 : isJpos i) (hc2 : isJ3 i) (hc3 : ¬ isI0 i) (x0 : Vec F S512x1024 .f32) (x1 : Vec F S16x1024 .f32) (x2 : Vec F S1x512x688 .bf16) (x3 : Vec F S1x512x688 .bf16) (x4 : Vec F S1x512x688 .bf16) (x5 : Vec F S1x16x688 .bf16) (x6 : Vec F S1x512x688 .bf16) (x7 : Vec F S1x16x688 .bf16) (x8 : Vec F S1x688x1024 .bf16) (x9 : Vec F S1x688x1024 .bf16) (x10 : Vec F S1x8x688 .f32) (x11 : Vec F S1x8x688 .f32) (x12 : Vec F S1x688x1024 .bf16) (y16 : Vec F S512x1024 .f32) (y17 y18 : Vec F S4x8x688 .f32) (s : Vec F S512x1024 .f32) :
    BodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y16 y17 y18 s := by
  intro E K
  simp only [cc0_ffn_bwd_eq_skeleton]; unfold cc0_ffn_bwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg18.eq_unread hf16; obtain rfl := harg19.eq_unread hf17; obtain rfl := harg20.eq_unread hf18; obtain rfl := harg21.eq_unread hf19
  have e0 : View.readAt (Elt F) arg2.view (Rect.unit ![0, 0] S512x1024.size inb_S512x1024_S512x1024_0_0).toLoadRect (harg2.unread x0) = x0 :=
    (View.readAt_full _ _ _).trans (harg2.read_unread _)
  have e1 : View.readAt (Elt F) arg3.view (Rect.unit ![0, 0] S16x1024.size inb_S16x1024_S16x1024_0_0).toLoadRect (harg3.unread x1) = x1 :=
    (View.readAt_full _ _ _).trans (harg3.read_unread _)
  have e2 : View.readAt (Elt F) arg4.view (Rect.unit ![0, 0, 0] S1x512x688.size inb_S1x512x688_S1x512x688_0_0_0).toLoadRect (harg4.unread x2) = x2 :=
    (View.readAt_full _ _ _).trans (harg4.read_unread _)
  have e3 : View.readAt (Elt F) arg5.view (Rect.unit ![0, 0, 0] S1x512x688.size inb_S1x512x688_S1x512x688_0_0_0).toLoadRect (harg5.unread x3) = x3 :=
    (View.readAt_full _ _ _).trans (harg5.read_unread _)
  have e4 : View.readAt (Elt F) arg6.view (Rect.unit ![0, 0, 0] S1x512x688.size inb_S1x512x688_S1x512x688_0_0_0).toLoadRect (harg6.unread x4) = x4 :=
    (View.readAt_full _ _ _).trans (harg6.read_unread _)
  have e5 : View.readAt (Elt F) arg7.view (Rect.unit ![0, 0, 0] S1x16x688.size inb_S1x16x688_S1x16x688_0_0_0).toLoadRect (harg7.unread x5) = x5 :=
    (View.readAt_full _ _ _).trans (harg7.read_unread _)
  have e6 : View.readAt (Elt F) arg8.view (Rect.unit ![0, 0, 0] S1x512x688.size inb_S1x512x688_S1x512x688_0_0_0).toLoadRect (harg8.unread x6) = x6 :=
    (View.readAt_full _ _ _).trans (harg8.read_unread _)
  have e7 : View.readAt (Elt F) arg9.view (Rect.unit ![0, 0, 0] S1x16x688.size inb_S1x16x688_S1x16x688_0_0_0).toLoadRect (harg9.unread x7) = x7 :=
    (View.readAt_full _ _ _).trans (harg9.read_unread _)
  have e8 : View.readAt (Elt F) arg10.view (Rect.unit ![0, 0, 0] S1x688x1024.size inb_S1x688x1024_S1x688x1024_0_0_0).toLoadRect (harg10.unread x8) = x8 :=
    (View.readAt_full _ _ _).trans (harg10.read_unread _)
  have e9 : View.readAt (Elt F) arg11.view (Rect.unit ![0, 0, 0] S1x688x1024.size inb_S1x688x1024_S1x688x1024_0_0_0).toLoadRect (harg11.unread x9) = x9 :=
    (View.readAt_full _ _ _).trans (harg11.read_unread _)
  have e10 : View.readAt (Elt F) arg12.view (Rect.unit ![0, 0, 0] S1x8x688.size inb_S1x8x688_S1x8x688_0_0_0).toLoadRect (harg12.unread x10) = x10 :=
    (View.readAt_full _ _ _).trans (harg12.read_unread _)
  have e11 : View.readAt (Elt F) arg13.view (Rect.unit ![0, 0, 0] S1x8x688.size inb_S1x8x688_S1x8x688_0_0_0).toLoadRect (harg13.unread x11) = x11 :=
    (View.readAt_full _ _ _).trans (harg13.read_unread _)
  have e12 : View.readAt (Elt F) arg14.view (Rect.unit ![0, 0, 0] S1x688x1024.size inb_S1x688x1024_S1x688x1024_0_0_0).toLoadRect (harg14.unread x12) = x12 :=
    (View.readAt_full _ _ _).trans (harg14.read_unread _)
  have es : View.readAt (Elt F) arg21.view (Rect.unit ![0, 0] S512x1024.size inb_S512x1024_S512x1024_0_0).toLoadRect (harg21.unread s) = s :=
    (View.readAt_full _ _ _).trans (harg21.read_unread _)
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; swap; · iexact H13
    ipureintro
    refine (View.read_writes_full _ _ _ _ _).trans ?_
    delta outUg
    try delta run_last_rest.sl.r_6
    try delta run_last_rest.sl.r_4
    with_reducible rfl
  isplitl [H14]
  · iexists _; isplitr; swap; · iexact H14
    ipureintro
    refine (View.read_writes_full _ _ _ _ _).trans ?_
    delta outUv
    try delta run_last_rest.sl.r_8
    try delta run_last_rest.sl.r
    with_reducible rfl
  isplitl [H15]
  · iexists _; isplitr; swap; · iexact H15
    ipureintro
    refine (View.read_writes_full _ _ _ _ _).trans ?_
    delta outAct
    with_reducible rfl
  isplitl [H16]
  · iexists _; isplitr; swap; · iexact H16
    ipureintro
    rw [if_pos hc2]
    refine (View.read_writes_full _ _ _ _ _).trans ?_
    try delta run_last_rest.sl.v164
    try delta run_last_rest.sl.H19_1
    refine (View.readCov_full _ _ _ _ _).trans ?_
    delta accStep
    try delta run_last_rest.sl.r_6
    try delta run_last_rest.sl.r_8
    try delta run_last_rest.sl.r_4
    try delta run_last_rest.sl.r
    exact (if_neg hc0).symm
  isplitl [H17]
  · iexists _; isplitr; swap; · iexact H17
    ipureintro
    delta rowG gradG
    rw [if_neg hc3]
    try delta run_last_rest.sl.r_5
    try delta run_last_rest.sl.r_1
    try delta run_last_rest.sl.r_2
    try delta run_last_rest.sl.r_3
    exact row_rest arg19 harg19 y17 (rowR i) (k0_pay1 _)
  isplitl [H18]
  · iexists _; isplitr; swap; · iexact H18
    ipureintro
    delta rowV gradV
    rw [if_neg hc3]
    try delta run_last_rest.sl.r_12
    try delta run_last_rest.sl.r_7
    try delta run_last_rest.sl.r_9
    try delta run_last_rest.sl.r_10
    try delta run_last_rest.sl.r_11
    try delta run_last_rest.sl.r
    exact row_rest arg20 harg20 y18 (rowR i) (k0_pay2 _)
  iexists _; isplitr; swap; · iexact H19
  ipureintro
  try delta run_last_rest.sl.H19_1
  refine (View.read_writes_full _ _ _ _ _).trans ?_
  delta accStep
  try delta run_last_rest.sl.r_6
  try delta run_last_rest.sl.r_8
  try delta run_last_rest.sl.r_4
  try delta run_last_rest.sl.r
  exact (if_neg hc0).symm

end Cert.FfnBwd

end
-- ==== Proof.Body.lean ====
module

public import proofs.«01_k».proof.Proof.Data
public import proofs.«01_k».proof.Proof.RunFirstFirst
public import proofs.«01_k».proof.Proof.RunMidFirst
public import proofs.«01_k».proof.Proof.RunLastFirst
public import proofs.«01_k».proof.Proof.RunFirstRest
public import proofs.«01_k».proof.Proof.RunMidRest
public import proofs.«01_k».proof.Proof.RunLastRest

@[expose] public section

set_option maxRecDepth 16384

noncomputable section

namespace Cert.FfnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body at every grid point

The six cases put together, the rows of the taps' blocks followed from point to point, and the pipeline's body obligation. -/

/-- The body's triple at any grid point. -/
theorem run_at (c : Dev nD) (t : Fin cfg0.N) (arg2 : Memref sig .tc .vmem S512x1024 .f32) (harg2 : arg2.IsWhole) (arg3 : Memref sig .tc .vmem S16x1024 .f32) (harg3 : arg3.IsWhole) (arg4 : Memref sig .tc .vmem S1x512x688 .bf16) (harg4 : arg4.IsWhole) (arg5 : Memref sig .tc .vmem S1x512x688 .bf16) (harg5 : arg5.IsWhole) (arg6 : Memref sig .tc .vmem S1x512x688 .bf16) (harg6 : arg6.IsWhole) (arg7 : Memref sig .tc .vmem S1x16x688 .bf16) (harg7 : arg7.IsWhole) (arg8 : Memref sig .tc .vmem S1x512x688 .bf16) (harg8 : arg8.IsWhole) (arg9 : Memref sig .tc .vmem S1x16x688 .bf16) (harg9 : arg9.IsWhole) (arg10 : Memref sig .tc .vmem S1x688x1024 .bf16) (harg10 : arg10.IsWhole) (arg11 : Memref sig .tc .vmem S1x688x1024 .bf16) (harg11 : arg11.IsWhole) (arg12 : Memref sig .tc .vmem S1x8x688 .f32) (harg12 : arg12.IsWhole) (arg13 : Memref sig .tc .vmem S1x8x688 .f32) (harg13 : arg13.IsWhole) (arg14 : Memref sig .tc .vmem S1x688x1024 .bf16) (harg14 : arg14.IsWhole) (arg15 : Memref sig .tc .vmem S1x512x688 .bf16) (harg15 : arg15.IsWhole) (arg16 : Memref sig .tc .vmem S1x512x688 .bf16) (harg16 : arg16.IsWhole) (arg17 : Memref sig .tc .vmem S1x512x688 .bf16) (harg17 : arg17.IsWhole) (arg18 : Memref sig .tc .vmem S512x1024 .f32) (harg18 : arg18.IsWhole) (arg19 : Memref sig .tc .vmem S4x8x688 .f32) (harg19 : arg19.IsWhole) (arg20 : Memref sig .tc .vmem S4x8x688 .f32) (harg20 : arg20.IsWhole) (arg21 : Memref sig .tc .vmem S512x1024 .f32) (harg21 : arg21.IsWhole) (x0 : Vec F S512x1024 .f32) (x1 : Vec F S16x1024 .f32) (x2 : Vec F S1x512x688 .bf16) (x3 : Vec F S1x512x688 .bf16) (x4 : Vec F S1x512x688 .bf16) (x5 : Vec F S1x16x688 .bf16) (x6 : Vec F S1x512x688 .bf16) (x7 : Vec F S1x16x688 .bf16) (x8 : Vec F S1x688x1024 .bf16) (x9 : Vec F S1x688x1024 .bf16) (x10 : Vec F S1x8x688 .f32) (x11 : Vec F S1x8x688 .f32) (x12 : Vec F S1x688x1024 .bf16) (y16 : Vec F S512x1024 .f32) (y17 y18 : Vec F S4x8x688 .f32) (s : Vec F S512x1024 .f32) :
    BodyRun c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y16 y17 y18 s := by
  have e0 := isJ0_iff t; have e1 := isJpos_iff t; have e2 := isJ3_iff t; have e3 := isI0_iff t
  by_cases h0 : t.val % 4 = 0
  · have c0 := e0.mpr h0
    have c1 : ¬ isJpos (grid0.coords t) := fun h => by have := e1.mp h; omega
    have c2 : ¬ isJ3 (grid0.coords t) := fun h => by have := e2.mp h; omega
    by_cases h3 : isI0 (grid0.coords t)
    · exact run_first_first c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 c1 c2 h3 x0 x1 x2 x3 x4 x5 x6 x7 x8 x9 x10 x11 x12 y16 y17 y18 s
    · exact run_first_rest c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 c1 c2 h3 x0 x1 x2 x3 x4 x5 x6 x7 x8 x9 x10 x11 x12 y16 y17 y18 s
  · have c0 : ¬ isJ0 (grid0.coords t) := fun h => h0 (e0.mp h)
    have c1 : isJpos (grid0.coords t) := e1.mpr (by omega)
    by_cases h2 : isJ3 (grid0.coords t)
    · by_cases h3 : isI0 (grid0.coords t)
      · exact run_last_first c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 c1 h2 h3 x0 x1 x2 x3 x4 x5 x6 x7 x8 x9 x10 x11 x12 y16 y17 y18 s
      · exact run_last_rest c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 c1 h2 h3 x0 x1 x2 x3 x4 x5 x6 x7 x8 x9 x10 x11 x12 y16 y17 y18 s
    · by_cases h3 : isI0 (grid0.coords t)
      · exact run_mid_first c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 c1 h2 h3 x0 x1 x2 x3 x4 x5 x6 x7 x8 x9 x10 x11 x12 y16 y17 y18 s
      · exact run_mid_rest c _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0 c1 h2 h3 x0 x1 x2 x3 x4 x5 x6 x7 x8 x9 x10 x11 x12 y16 y17 y18 s

/-- The group of a grid point is its number modulo four. -/
theorem off2_val (n : ℕ) : ∀ k, ((rowR (grid0.coords (pt n))).emb k 0).val = n % 4 := by
  have h : k0_off2 (grid0.coords (pt n)) 0 = n % 4 := by
    have hg : ∀ t : Fin grid0.N, k0_off2 (grid0.coords t) 0 = t.val % 4 := by decide +kernel
    have := hg (pt n)
    rw [this]; show n % 32 % 4 = n % 4; omega
  intro k
  have hk : (k 0).val = 0 := by have : (k 0).val < 1 := (k 0).isLt; omega
  show k0_off2 (grid0.coords (pt n)) 0 + 1 * (k 0).val = _
  rw [h, hk]; omega

/-- Points of the same group own the same row. -/
theorem row_same (n n' : ℕ) (h : n % 4 = n' % 4) : ∀ k, (rowR (grid0.coords (pt n))).emb k = (rowR (grid0.coords (pt n'))).emb k := by
  have hg : ∀ t t' : Fin grid0.N, t.val % 4 = t'.val % 4 → k0_off2 (grid0.coords t) = k0_off2 (grid0.coords t') := by decide +kernel
  have := hg (pt n) (pt n') (by show n % 32 % 4 = n' % 32 % 4; omega)
  intro k
  funext a
  apply Fin.ext
  show k0_off2 (grid0.coords (pt n)) a + 1 * (k a).val = k0_off2 (grid0.coords (pt n')) a + 1 * (k a).val
  rw [this]

/-- Points of different groups own different rows. -/
theorem row_other (n n' : ℕ) (h : n % 4 ≠ n' % 4) (k) : (rowR (grid0.coords (pt n))).emb k ∉ (rowR (grid0.coords (pt n'))).set := by
  intro hm
  obtain ⟨k', hk'⟩ := LoadRect.exists_idx_of_mem _ hm
  have e1 := off2_val n k
  have e2 := off2_val n' k'
  have : (rowR (grid0.coords (pt n'))).emb k' = (rowR (grid0.coords (pt n))).emb k := hk'
  rw [this] at e2
  omega

/-- The rows after a point, from the rows before it: the point's own row rewritten. -/
theorem rows_step (R : ℕ → FVec F S1x8x688 .f32) (t : Fin cfg0.N) (p : FVec F S1x8x688 .f32 → FVec F S1x8x688 .f32)
    (z : FVec F S1x8x688 .f32) (hz : t.val < 4 → R t.val = p z) (hp : ¬ t.val < 4 → R t.val = p (R (t.val - 4)))
    (Y : Vec F S4x8x688 .f32) (hY : t.val ≠ 0 → RowsAt R (t.val - 1) Y) :
    RowsAt R t.val ((rowR (grid0.coords t)).overlay Y (p (if isI0 (grid0.coords t) then z else fun j => Y ((rowR (grid0.coords t)).emb j)))) := by
  intro n hn hn'
  have ht := pt_val t
  by_cases he : n = t.val
  · subst he
    rw [ht]
    funext k
    rw [Rect.overlay_emb]
    by_cases h4 : t.val < 4
    · rw [if_pos ((isI0_iff t).mpr h4), hz h4]
    · rw [if_neg (fun h => h4 ((isI0_iff t).mp h)), hp h4]
      have := hY (by omega) (t.val - 4) (by omega) (by omega)
      rw [← this]
      refine congrFun (congrArg p (funext fun j => congrArg Y ?_)) k
      have := row_same t.val (t.val - 4) (by omega) j
      rw [ht] at this
      exact this
  · have hne : n % 4 ≠ t.val % 4 := by omega
    have := hY (by omega) n (by omega) (by omega)
    rw [← this]
    funext k
    have ho := row_other n t.val hne k
    rw [ht] at ho
    exact Rect.overlay_of_not_mem _ _ _ ho

/-- What the body finds in the taps' blocks, past the first point, is what the point before left. -/
theorem finds_prev (c : Dev nD) (w : Fin cfg0.W) (hw : isOutW w = true) (t : Fin cfg0.N) (ht : t.val ≠ 0)
    (hf : (cfg0.win w).fetch t = false) (hn : ∀ u : Fin cfg0.N, (cfg0.win w).flush u = true ↔ u.val % 32 = 31) {Y}
    (h : (rdat m c).Finds w t Y) : Left m c w ⟨t.val - 1, Nat.lt_of_le_of_lt (Nat.sub_le _ _) t.isLt⟩ Y := by
  have hN : t.val < 32 := lt_of_lt_of_eq t.isLt (show cfg0.N = 32 from N_0)
  rcases (RDat.finds_of_pos (rdat m c) hf ht Y).mp h with h | h
  · have := (hn _).mp h
    simp only at this
    omega
  · exact Dat.toRRel_leaves _ hw h

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ Y, ⌜(rdat m c).Finds 13 t Y⌝ ∗ owns (c : Thread nD τ) (st0_13 t) fullShare Y) ∗ (∃ Y, ⌜(rdat m c).Finds 14 t Y⌝ ∗ owns (c : Thread nD τ) (st0_14 t) fullShare Y) ∗ (∃ Y, ⌜(rdat m c).Finds 15 t Y⌝ ∗ owns (c : Thread nD τ) (st0_15 t) fullShare Y) ∗ (∃ Y, ⌜(rdat m c).Finds 16 t Y⌝ ∗ owns (c : Thread nD τ) (st0_16 t) fullShare Y) ∗ (∃ Y, ⌜(rdat m c).Finds 17 t Y⌝ ∗ owns (c : Thread nD τ) (st0_17 t) fullShare Y) ∗ (∃ Y, ⌜(rdat m c).Finds 18 t Y⌝ ∗ owns (c : Thread nD τ) (st0_18 t) fullShare Y))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ (∃ X, ⌜Left m c 13 t X⌝ ∗ owns (c : Thread nD τ) (st0_13 t) fullShare X) ∗ (∃ X, ⌜Left m c 14 t X⌝ ∗ owns (c : Thread nD τ) (st0_14 t) fullShare X) ∗ (∃ X, ⌜Left m c 15 t X⌝ ∗ owns (c : Thread nD τ) (st0_15 t) fullShare X) ∗ (∃ X, ⌜Left m c 16 t X⌝ ∗ owns (c : Thread nD τ) (st0_16 t) fullShare X) ∗ (∃ X, ⌜Left m c 17 t X⌝ ∗ owns (c : Thread nD τ) (st0_17 t) fullShare X) ∗ (∃ X, ⌜Left m c 18 t X⌝ ∗ owns (c : Thread nD τ) (st0_18 t) fullShare X))

/-- The accumulator before a point, whichever it is: at what the recursion says, past the first. -/
theorem Phi_before (c : Dev nD) (t : Fin cfg0.N) : (dats m 0 c).Φ t.castSucc
    ⊢ iprop(∃ s, ⌜accNext m c t s = accAfter m c t.val⌝ ∗ owns (c : Thread nD τ) scM fullShare s ∗ (∃ r, prngReg c r)) := by
  rw [show (dats m 0 c).Φ t.castSucc = PhiS m c t.val from rfl]
  by_cases ht : t.val = 0
  · rw [ht, show PhiS m c 0 = Pipeline.ΦA spec0 c from rfl, PhiA_eq]
    iintro ⟨⟨%d, H⟩, Hg⟩
    iexists d
    isplitr
    · ipureintro; rw [← ht]; exact (accAfter_zero m c t ht d).symm
    isplitl [H]
    · iexact H
    iexact Hg
  · rw [PhiS_pos m c _ ht]
    iintro ⟨H, Hg⟩
    iexists _
    isplitr; swap
    · isplitl [H]
      · iexact H
      iexact Hg
    · ipureintro; exact (accAfter_pos m c t ht).symm

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl,
    show (dats m 0 c).Φ t.succ = iprop(owns (c : Thread nD τ) scM fullShare (accAfter m c t.val) ∗ (∃ r, prngReg c r)) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, %hd13, H13⟩, ⟨%d14, %hd14, H14⟩, ⟨%d15, %hd15, H15⟩, ⟨%d16, %hd16, H16⟩, ⟨%d17, %hd17, H17⟩, ⟨%d18, %hd18, H18⟩⟩
  ihave HP' := (Phi_before m c t) $$ HP
  icases HP' with ⟨%s, %hs, Hs, Hg⟩
  iapply (run_at c t ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) ((cfg0.win 9).stage (cfg0.slots t 9)) (hstage0_9 ((cfg0.slots t 9).cast nbuf0_9)) ((cfg0.win 10).stage (cfg0.slots t 10)) (hstage0_10 ((cfg0.slots t 10).cast nbuf0_10)) ((cfg0.win 11).stage (cfg0.slots t 11)) (hstage0_11 ((cfg0.slots t 11).cast nbuf0_11)) ((cfg0.win 12).stage (cfg0.slots t 12)) (hstage0_12 ((cfg0.slots t 12).cast nbuf0_12)) ((cfg0.win 13).stage (cfg0.slots t 13)) (hstage0_13 ((cfg0.slots t 13).cast nbuf0_13)) ((cfg0.win 14).stage (cfg0.slots t 14)) (hstage0_14 ((cfg0.slots t 14).cast nbuf0_14)) ((cfg0.win 15).stage (cfg0.slots t 15)) (hstage0_15 ((cfg0.slots t 15).cast nbuf0_15)) ((cfg0.win 16).stage (cfg0.slots t 16)) (hstage0_16 ((cfg0.slots t 16).cast nbuf0_16)) ((cfg0.win 17).stage (cfg0.slots t 17)) (hstage0_17 ((cfg0.slots t 17).cast nbuf0_17)) ((cfg0.win 18).stage (cfg0.slots t 18)) (hstage0_18 ((cfg0.slots t 18).cast nbuf0_18)) scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d16 d17 d18 s) Set.univ _
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexists _; iexact H13
  isplitl [H14]
  · iexists _; iexact H14
  isplitl [H15]
  · iexists _; iexact H15
  isplitl [H16]
  · iexact H16
  isplitl [H17]
  · iexact H17
  isplitl [H18]
  · iexact H18
  isplitl [Hs]
  · iexact Hs
  iintro ⟨H0, H1, H2, H3, H4, H5, H6, H7, H8, H9, H10, H11, H12, H13, H14, H15, H16, H17, H18, H19⟩
  isplitl [H19 Hg]
  · isplitl [H19]
    · rw [← hs]; iexact H19
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexists _; isplitr; swap; · iexact H13
    ipureintro
    rfl
  isplitl [H14]
  · iexists _; isplitr; swap; · iexact H14
    ipureintro
    rfl
  isplitl [H15]
  · iexists _; isplitr; swap; · iexact H15
    ipureintro
    rfl
  isplitl [H16]
  · iexists _; isplitr; swap; · iexact H16
    ipureintro
    intro h3; rw [if_pos ((isJ3_iff t).mpr h3)]; exact hs
  isplitl [H17]
  · iexists _; isplitr; swap; · iexact H17
    ipureintro
    exact rows_step (rowGAt m c) t (k0_pay1 (gAt m c t)) k0_pay33 (fun h => by rw [rowGAt_first m c _ h, pt_val]) (fun h => by rw [rowGAt_rest m c _ h, pt_val]) d17 (fun ht => finds_prev m c 17 rfl t ht rfl flush0_17 hd17)
  iexists _; isplitr; swap; · iexact H18
  ipureintro
  exact rows_step (rowVAt m c) t (k0_pay2 (vAt m c t)) k0_pay34 (fun h => by rw [rowVAt_first m c _ h, pt_val]) (fun h => by rw [rowVAt_rest m c _ h, pt_val]) d18 (fun ht => finds_prev m c 18 rfl t ht rfl flush0_18 hd18)

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation with the outputs held to `Left`. -/
theorem body_obligation (c : Dev nD) :
    Pipeline.BodyObligationRel (dats (F := F) m 0 c) (defs₀ (F := F)) Variants.none () Set.univ isOutW (Left m c) := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, show cfg0.N = 32 from N_0]; omega), PhiA_eq]
  iintro ⟨H, Hg⟩
  isplitl [H]
  · iexists _; iexact H
  iexact Hg

-- the run rule's implicit arguments are found by unfolding plain definitions in a metavariable's type
set_option backward.isDefEq.respectTransparency.types false in
/-- The launch: every array of the pipeline ends as the data say, every other buffer as the region found it, and every
    semaphore counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ ⟨h, hs⟩ => ⟨fun c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩, hs⟩)
    (run_main m ρ)

end Cert.FfnBwd

end
-- ==== Proof.Same.lean ====
module
public import proofs.«01_k».proof.Defs
public import proofs.«01_k».proof.Proof.Gen.Kernel
public import proofs.«01_k».proof.Proof.Gen.KernelIdeal
@[expose] public section
noncomputable section
namespace Cert.Proof
open Idealize.ShloMosaic Idealize.SL.Sem
set_option maxHeartbeats 1000000
set_option pp.deepTerms false

/-! # One text, two programs

The kernel and its idealization are the same text: at machine words their bodies, their body tables and their mains agree. -/

/-- The two kernel bodies agree. -/
theorem body_same (i a1 h1 a2 h2 a3 h3 a4 h4 a5 h5 a6 h6 a7 h7 a8 h8 a9 h9 a10 h10 a11 h11 a12 h12 a13 h13 a14 h14 a15 h15 a16 h16 a17 h17 a18 h18 a19 h19 a20 h20) : Cert.Kernel.cc0_ffn_bwd (F := Bits) i a1 h1 a2 h2 a3 h3 a4 h4 a5 h5 a6 h6 a7 h7 a8 h8 a9 h9 a10 h10 a11 h11 a12 h12 a13 h13 a14 h14 a15 h15 a16 h16 a17 h17 a18 h18 a19 h19 a20 h20 = Cert.KernelIdeal.cc0_ffn_bwd (F := Bits) i a1 h1 a2 h2 a3 h3 a4 h4 a5 h5 a6 h6 a7 h7 a8 h8 a9 h9 a10 h10 a11 h11 a12 h12 a13 h13 a14 h14 a15 h15 a16 h16 a17 h17 a18 h18 a19 h19 a20 h20 := rfl

/-- The two programs' body tables agree. -/
theorem defs₀_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact body_same ..
/-- The two mains agree. -/
theorem main_same (d) : (Cert.Kernel.main (F := Bits) d) = Cert.KernelIdeal.main (F := Bits) d := rfl

end Cert.Proof
end
-- ==== Proof.KernelFrame.lean ====
module
public import proofs.«01_k».proof.Proof.Same
public import proofs.«01_k».proof.Proof.Body
@[expose] public section
noncomputable section
namespace Cert.Proof
open Idealize.ShloMosaic Idealize.SL.Sem

set_option maxHeartbeats 1000000

/-- The two programs' whole body tables agree: the kernels' bodies, and the pipelines over them. -/
theorem defs_same : Cert.Kernel.defs (F := Bits) = Cert.KernelIdeal.defs (F := Bits) :=
  congrArg (Pipeline.defs (Cert.KernelIdeal.pcfgs (F := Bits))) defs₀_same

/-- The kernel's frame: the run of its idealization at machine words, the two programs being one text. -/
theorem frame_kernel : Cert.quiescent_Kernel := fun m ρ _ => by
  have h := Cert.FfnBwd.frame_run (F := Bits) m ρ
  rw [← defs_same, show Cert.KernelIdeal.main (F := Bits) = Cert.Kernel.main (F := Bits) from (funext main_same).symm] at h
  exact h

end Cert.Proof
end
-- ==== Proof.Blocks.lean ====
module

public import proofs.«01_k».proof.Proof.Data
public import Idealize.ShloMosaic.Lib.Pointwise

@[expose] public section

set_option maxRecDepth 16384

noncomputable section

namespace Cert.FfnBwd

open Cert.KernelIdeal Cert.KernelIdeal.Gen
open Idealize.ShloMosaic Idealize.ShloMosaic.TcCoe

/-! # The blocks a grid point reads, as places of their arrays

Point `t` works on tile `t / 4` of the tokens and on group `t % 4` of the features. -/

variable {F : FTy → Type} [FloatOps F]

variable (m : (ℓ : Loc nD τ sig) → Buf (Elt F) ℓ)

theorem lt32 (t : Fin cfg0.N) : t.val < 32 := lt_of_lt_of_eq t.isLt (show cfg0.N = 32 from N_0)

theorem coord_tile : ∀ t : Fin cfg0.N, (grid0.coords t 0).val = t.val / 4 :=
  (by decide +kernel : ∀ t : Fin grid0.N, (grid0.coords t 0).val = t.val / 4)

theorem idx_dy : ∀ t : Fin cfg0.N, win0_0.index t (0 : Fin 2) = t.val/4 ∧ win0_0.index t (1 : Fin 2) = 0 :=
  (by decide +kernel : ∀ t : Fin grid0.N, win0_0.index t (0 : Fin 2) = t.val/4 ∧ win0_0.index t (1 : Fin 2) = 0)

theorem dy_at (c : Dev nD) (t : Fin cfg0.N) (r : Fin 512) (q : Fin 1024) :
    iblk m c 0 t (ix2 r q) = V m c main_v45 (ix2 ⟨512 * (t.val / 4) + r.val, by have := lt32 t; omega⟩ q) := by
  obtain ⟨e0, e1⟩ := idx_dy t
  refine congrArg (V m c main_v45) (?_ : ((cfg0.win 0).blk t).view.emb (ix2 r q) = _)
  funext a
  apply Fin.ext
  match a with
  | ⟨0, _⟩ =>
    show win0_0.index t (0 : Fin 2) * 512 + 1 * r.val = 512 * (t.val / 4) + r.val
    omega
  | ⟨1, _⟩ =>
    show win0_0.index t (1 : Fin 2) * 1024 + 1 * q.val = q.val
    omega

theorem idx_dyAhead : ∀ t : Fin cfg0.N, win0_1.index t (0 : Fin 2) = min ((t.val/4+1)*32) 255 ∧ win0_1.index t (1 : Fin 2) = 0 :=
  (by decide +kernel : ∀ t : Fin grid0.N, win0_1.index t (0 : Fin 2) = min ((t.val/4+1)*32) 255 ∧ win0_1.index t (1 : Fin 2) = 0)

theorem dyAhead_at (c : Dev nD) (t : Fin cfg0.N) (r : Fin 16) (q : Fin 1024) :
    iblk m c 1 t (ix2 r q) = V m c main_v45 (ix2 ⟨min (512 * (t.val / 4 + 1)) 4080 + r.val, by have := lt32 t; omega⟩ q) := by
  obtain ⟨e0, e1⟩ := idx_dyAhead t
  refine congrArg (V m c main_v45) (?_ : ((cfg0.win 1).blk t).view.emb (ix2 r q) = _)
  funext a
  apply Fin.ext
  match a with
  | ⟨0, _⟩ =>
    show win0_1.index t (0 : Fin 2) * 16 + 1 * r.val = min (512 * (t.val / 4 + 1)) 4080 + r.val
    omega
  | ⟨1, _⟩ =>
    show win0_1.index t (1 : Fin 2) * 1024 + 1 * q.val = q.val
    omega

theorem idx_ug : ∀ t : Fin cfg0.N, win0_2.index t (0 : Fin 3) = t.val%4 ∧ win0_2.index t (1 : Fin 3) = t.val/4 ∧ win0_2.index t (2 : Fin 3) = 0 :=
  (by decide +kernel : ∀ t : Fin grid0.N, win0_2.index t (0 : Fin 3) = t.val%4 ∧ win0_2.index t (1 : Fin 3) = t.val/4 ∧ win0_2.index t (2 : Fin 3) = 0)

theorem ug_at (c : Dev nD) (t : Fin cfg0.N) (r : Fin 512) (k : Fin 688) :
    iblk m c 2 t (ix3 0 r k) = V m c main_v31 (ix3 ⟨t.val%4, by have := lt32 t; omega⟩ ⟨512 * (t.val / 4) + r.val, by have := lt32 t; omega⟩ k) := by
  obtain ⟨e0, e1, e2⟩ := idx_ug t
  refine congrArg (V m c main_v31) (?_ : ((cfg0.win 2).blk t).view.emb (ix3 0 r k) = _)
  funext a
  apply Fin.ext
  match a with
  | ⟨0, _⟩ =>
    show win0_2.index t (0 : Fin 3) * 1 + 1 * 0 = t.val%4
    omega
  | ⟨1, _⟩ =>
    show win0_2.index t (1 : Fin 3) * 512 + 1 * r.val = 512 * (t.val / 4) + r.val
    omega
  | ⟨2, _⟩ =>
    show win0_2.index t (2 : Fin 3) * 688 + 1 * k.val = k.val
    omega

theorem idx_uv : ∀ t : Fin cfg0.N, win0_3.index t (0 : Fin 3) = t.val%4 ∧ win0_3.index t (1 : Fin 3) = t.val/4 ∧ win0_3.index t (2 : Fin 3) = 0 :=
  (by decide +kernel : ∀ t : Fin grid0.N, win0_3.index t (0 : Fin 3) = t.val%4 ∧ win0_3.index t (1 : Fin 3) = t.val/4 ∧ win0_3.index t (2 : Fin 3) = 0)

theorem uv_at (c : Dev nD) (t : Fin cfg0.N) (r : Fin 512) (k : Fin 688) :
    iblk m c 3 t (ix3 0 r k) = V m c main_v32 (ix3 ⟨t.val%4, by have := lt32 t; omega⟩ ⟨512 * (t.val / 4) + r.val, by have := lt32 t; omega⟩ k) := by
  obtain ⟨e0, e1, e2⟩ := idx_uv t
  refine congrArg (V m c main_v32) (?_ : ((cfg0.win 3).blk t).view.emb (ix3 0 r k) = _)
  funext a
  apply Fin.ext
  match a with
  | ⟨0, _⟩ =>
    show win0_3.index t (0 : Fin 3) * 1 + 1 * 0 = t.val%4
    omega
  | ⟨1, _⟩ =>
    show win0_3.index t (1 : Fin 3) * 512 + 1 * r.val = 512 * (t.val / 4) + r.val
    omega
  | ⟨2, _⟩ =>
    show win0_3.index t (2 : Fin 3) * 688 + 1 * k.val = k.val
    omega

theorem idx_pg : ∀ t : Fin cfg0.N, win0_4.index t (0 : Fin 3) = t.val%4 ∧ win0_4.index t (1 : Fin 3) = t.val/4 ∧ win0_4.index t (2 : Fin 3) = 0 :=
  (by decide +kernel : ∀ t : Fin grid0.N, win0_4.index t (0 : Fin 3) = t.val%4 ∧ win0_4.index t (1 : Fin 3) = t.val/4 ∧ win0_4.index t (2 : Fin 3) = 0)

theorem pg_at (c : Dev nD) (t : Fin cfg0.N) (r : Fin 512) (k : Fin 688) :
    iblk m c 4 t (ix3 0 r k) = V m c main_v33 (ix3 ⟨t.val%4, by have := lt32 t; omega⟩ ⟨512 * (t.val / 4) + r.val, by have := lt32 t; omega⟩ k) := by
  obtain ⟨e0, e1, e2⟩ := idx_pg t
  refine congrArg (V m c main_v33) (?_ : ((cfg0.win 4).blk t).view.emb (ix3 0 r k) = _)
  funext a
  apply Fin.ext
  match a with
  | ⟨0, _⟩ =>
    show win0_4.index t (0 : Fin 3) * 1 + 1 * 0 = t.val%4
    omega
  | ⟨1, _⟩ =>
    show win0_4.index t (1 : Fin 3) * 512 + 1 * r.val = 512 * (t.val / 4) + r.val
    omega
  | ⟨2, _⟩ =>
    show win0_4.index t (2 : Fin 3) * 688 + 1 * k.val = k.val
    omega

theorem idx_pgAhead : ∀ t : Fin cfg0.N, win0_5.index t (0 : Fin 3) = t.val%4 ∧ win0_5.index t (1 : Fin 3) = min ((t.val/4+1)*32) 255 ∧ win0_5.index t (2 : Fin 3) = 0 :=
  (by decide +kernel : ∀ t : Fin grid0.N, win0_5.index t (0 : Fin 3) = t.val%4 ∧ win0_5.index t (1 : Fin 3) = min ((t.val/4+1)*32) 255 ∧ win0_5.index t (2 : Fin 3) = 0)

theorem pgAhead_at (c : Dev nD) (t : Fin cfg0.N) (r : Fin 16) (k : Fin 688) :
    iblk m c 5 t (ix3 0 r k) = V m c main_v33 (ix3 ⟨t.val%4, by have := lt32 t; omega⟩ ⟨min (512 * (t.val / 4 + 1)) 4080 + r.val, by have := lt32 t; omega⟩ k) := by
  obtain ⟨e0, e1, e2⟩ := idx_pgAhead t
  refine congrArg (V m c main_v33) (?_ : ((cfg0.win 5).blk t).view.emb (ix3 0 r k) = _)
  funext a
  apply Fin.ext
  match a with
  | ⟨0, _⟩ =>
    show win0_5.index t (0 : Fin 3) * 1 + 1 * 0 = t.val%4
    omega
  | ⟨1, _⟩ =>
    show win0_5.index t (1 : Fin 3) * 16 + 1 * r.val = min (512 * (t.val / 4 + 1)) 4080 + r.val
    omega
  | ⟨2, _⟩ =>
    show win0_5.index t (2 : Fin 3) * 688 + 1 * k.val = k.val
    omega

theorem idx_pv : ∀ t : Fin cfg0.N, win0_6.index t (0 : Fin 3) = t.val%4 ∧ win0_6.index t (1 : Fin 3) = t.val/4 ∧ win0_6.index t (2 : Fin 3) = 0 :=
  (by decide +kernel : ∀ t : Fin grid0.N, win0_6.index t (0 : Fin 3) = t.val%4 ∧ win0_6.index t (1 : Fin 3) = t.val/4 ∧ win0_6.index t (2 : Fin 3) = 0)

theorem pv_at (c : Dev nD) (t : Fin cfg0.N) (r : Fin 512) (k : Fin 688) :
    iblk m c 6 t (ix3 0 r k) = V m c main_v34 (ix3 ⟨t.val%4, by have := lt32 t; omega⟩ ⟨512 * (t.val / 4) + r.val, by have := lt32 t; omega⟩ k) := by
  obtain ⟨e0, e1, e2⟩ := idx_pv t
  refine congrArg (V m c main_v34) (?_ : ((cfg0.win 6).blk t).view.emb (ix3 0 r k) = _)
  funext a
  apply Fin.ext
  match a with
  | ⟨0, _⟩ =>
    show win0_6.index t (0 : Fin 3) * 1 + 1 * 0 = t.val%4
    omega
  | ⟨1, _⟩ =>
    show win0_6.index t (1 : Fin 3) * 512 + 1 * r.val = 512 * (t.val / 4) + r.val
    omega
  | ⟨2, _⟩ =>
    show win0_6.index t (2 : Fin 3) * 688 + 1 * k.val = k.val
    omega

theorem idx_pvAhead : ∀ t : Fin cfg0.N, win0_7.index t (0 : Fin 3) = t.val%4 ∧ win0_7.index t (1 : Fin 3) = min ((t.val/4+1)*32) 255 ∧ win0_7.index t (2 : Fin 3) = 0 :=
  (by decide +kernel : ∀ t : Fin grid0.N, win0_7.index t (0 : Fin 3) = t.val%4 ∧ win0_7.index t (1 : Fin 3) = min ((t.val/4+1)*32) 255 ∧ win0_7.index t (2 : Fin 3) = 0)

theorem pvAhead_at (c : Dev nD) (t : Fin cfg0.N) (r : Fin 16) (k : Fin 688) :
    iblk m c 7 t (ix3 0 r k) = V m c main_v34 (ix3 ⟨t.val%4, by have := lt32 t; omega⟩ ⟨min (512 * (t.val / 4 + 1)) 4080 + r.val, by have := lt32 t; omega⟩ k) := by
  obtain ⟨e0, e1, e2⟩ := idx_pvAhead t
  refine congrArg (V m c main_v34) (?_ : ((cfg0.win 7).blk t).view.emb (ix3 0 r k) = _)
  funext a
  apply Fin.ext
  match a with
  | ⟨0, _⟩ =>
    show win0_7.index t (0 : Fin 3) * 1 + 1 * 0 = t.val%4
    omega
  | ⟨1, _⟩ =>
    show win0_7.index t (1 : Fin 3) * 16 + 1 * r.val = min (512 * (t.val / 4 + 1)) 4080 + r.val
    omega
  | ⟨2, _⟩ =>
    show win0_7.index t (2 : Fin 3) * 688 + 1 * k.val = k.val
    omega

theorem idx_wg : ∀ t : Fin cfg0.N, win0_8.index t (0 : Fin 3) = t.val%4 ∧ win0_8.index t (1 : Fin 3) = 0 ∧ win0_8.index t (2 : Fin 3) = 0 :=
  (by decide +kernel : ∀ t : Fin grid0.N, win0_8.index t (0 : Fin 3) = t.val%4 ∧ win0_8.index t (1 : Fin 3) = 0 ∧ win0_8.index t (2 : Fin 3) = 0)

theorem wg_at (c : Dev nD) (t : Fin cfg0.N) (r : Fin 688) (k : Fin 1024) :
    iblk m c 8 t (ix3 0 r k) = V m c main_v37 (ix3 ⟨t.val%4, by have := lt32 t; omega⟩ r k) := by
  obtain ⟨e0, e1, e2⟩ := idx_wg t
  refine congrArg (V m c main_v37) (?_ : ((cfg0.win 8).blk t).view.emb (ix3 0 r k) = _)
  funext a
  apply Fin.ext
  match a with
  | ⟨0, _⟩ =>
    show win0_8.index t (0 : Fin 3) * 1 + 1 * 0 = t.val%4
    omega
  | ⟨1, _⟩ =>
    show win0_8.index t (1 : Fin 3) * 688 + 1 * r.val = r.val
    omega
  | ⟨2, _⟩ =>
    show win0_8.index t (2 : Fin 3) * 1024 + 1 * k.val = k.val
    omega

theorem idx_wv : ∀ t : Fin cfg0.N, win0_9.index t (0 : Fin 3) = t.val%4+4 ∧ win0_9.index t (1 : Fin 3) = 0 ∧ win0_9.index t (2 : Fin 3) = 0 :=
  (by decide +kernel : ∀ t : Fin grid0.N, win0_9.index t (0 : Fin 3) = t.val%4+4 ∧ win0_9.index t (1 : Fin 3) = 0 ∧ win0_9.index t (2 : Fin 3) = 0)

theorem wv_at (c : Dev nD) (t : Fin cfg0.N) (r : Fin 688) (k : Fin 1024) :
    iblk m c 9 t (ix3 0 r k) = V m c main_v37 (ix3 ⟨t.val%4+4, by have := lt32 t; omega⟩ r k) := by
  obtain ⟨e0, e1, e2⟩ := idx_wv t
  refine congrArg (V m c main_v37) (?_ : ((cfg0.win 9).blk t).view.emb (ix3 0 r k) = _)
  funext a
  apply Fin.ext
  match a with
  | ⟨0, _⟩ =>
    show win0_9.index t (0 : Fin 3) * 1 + 1 * 0 = t.val%4+4
    omega
  | ⟨1, _⟩ =>
    show win0_9.index t (1 : Fin 3) * 688 + 1 * r.val = r.val
    omega
  | ⟨2, _⟩ =>
    show win0_9.index t (2 : Fin 3) * 1024 + 1 * k.val = k.val
    omega

theorem idx_cg : ∀ t : Fin cfg0.N, win0_10.index t (0 : Fin 3) = t.val%4 ∧ win0_10.index t (1 : Fin 3) = 0 ∧ win0_10.index t (2 : Fin 3) = 0 :=
  (by decide +kernel : ∀ t : Fin grid0.N, win0_10.index t (0 : Fin 3) = t.val%4 ∧ win0_10.index t (1 : Fin 3) = 0 ∧ win0_10.index t (2 : Fin 3) = 0)

theorem cg_at (c : Dev nD) (t : Fin cfg0.N) (r : Fin 8) (k : Fin 688) :
    iblk m c 10 t (ix3 0 r k) = V m c main_v42 (ix3 ⟨t.val%4, by have := lt32 t; omega⟩ r k) := by
  obtain ⟨e0, e1, e2⟩ := idx_cg t
  refine congrArg (V m c main_v42) (?_ : ((cfg0.win 10).blk t).view.emb (ix3 0 r k) = _)
  funext a
  apply Fin.ext
  match a with
  | ⟨0, _⟩ =>
    show win0_10.index t (0 : Fin 3) * 1 + 1 * 0 = t.val%4
    omega
  | ⟨1, _⟩ =>
    show win0_10.index t (1 : Fin 3) * 8 + 1 * r.val = r.val
    omega
  | ⟨2, _⟩ =>
    show win0_10.index t (2 : Fin 3) * 688 + 1 * k.val = k.val
    omega

theorem idx_cv : ∀ t : Fin cfg0.N, win0_11.index t (0 : Fin 3) = t.val%4+4 ∧ win0_11.index t (1 : Fin 3) = 0 ∧ win0_11.index t (2 : Fin 3) = 0 :=
  (by decide +kernel : ∀ t : Fin grid0.N, win0_11.index t (0 : Fin 3) = t.val%4+4 ∧ win0_11.index t (1 : Fin 3) = 0 ∧ win0_11.index t (2 : Fin 3) = 0)

theorem cv_at (c : Dev nD) (t : Fin cfg0.N) (r : Fin 8) (k : Fin 688) :
    iblk m c 11 t (ix3 0 r k) = V m c main_v42 (ix3 ⟨t.val%4+4, by have := lt32 t; omega⟩ r k) := by
  obtain ⟨e0, e1, e2⟩ := idx_cv t
  refine congrArg (V m c main_v42) (?_ : ((cfg0.win 11).blk t).view.emb (ix3 0 r k) = _)
  funext a
  apply Fin.ext
  match a with
  | ⟨0, _⟩ =>
    show win0_11.index t (0 : Fin 3) * 1 + 1 * 0 = t.val%4+4
    omega
  | ⟨1, _⟩ =>
    show win0_11.index t (1 : Fin 3) * 8 + 1 * r.val = r.val
    omega
  | ⟨2, _⟩ =>
    show win0_11.index t (2 : Fin 3) * 688 + 1 * k.val = k.val
    omega

theorem idx_wd : ∀ t : Fin cfg0.N, win0_12.index t (0 : Fin 3) = t.val%4 ∧ win0_12.index t (1 : Fin 3) = 0 ∧ win0_12.index t (2 : Fin 3) = 0 :=
  (by decide +kernel : ∀ t : Fin grid0.N, win0_12.index t (0 : Fin 3) = t.val%4 ∧ win0_12.index t (1 : Fin 3) = 0 ∧ win0_12.index t (2 : Fin 3) = 0)

theorem wd_at (c : Dev nD) (t : Fin cfg0.N) (r : Fin 688) (k : Fin 1024) :
    iblk m c 12 t (ix3 0 r k) = V m c main_v44 (ix3 ⟨t.val%4, by have := lt32 t; omega⟩ r k) := by
  obtain ⟨e0, e1, e2⟩ := idx_wd t
  refine congrArg (V m c main_v44) (?_ : ((cfg0.win 12).blk t).view.emb (ix3 0 r k) = _)
  funext a
  apply Fin.ext
  match a with
  | ⟨0, _⟩ =>
    show win0_12.index t (0 : Fin 3) * 1 + 1 * 0 = t.val%4
    omega
  | ⟨1, _⟩ =>
    show win0_12.index t (1 : Fin 3) * 688 + 1 * r.val = r.val
    omega
  | ⟨2, _⟩ =>
    show win0_12.index t (2 : Fin 3) * 1024 + 1 * k.val = k.val
    omega

end Cert.FfnBwd

end
-- ==== Proof.Out.lean ====
module

public import proofs.«01_k».proof.Proof.Body
public import proofs.«01_k».proof.Proof.Blocks
public import Idealize.ShloMosaic.Lib.Pipeline.ArrRel
public import Idealize.ShloMosaic.Lib.Pipeline.Value

@[expose] public section

set_option maxRecDepth 16384

noncomputable section

namespace Cert.FfnBwd

open Cert.KernelIdeal Cert.KernelIdeal.Gen
open Idealize.ShloMosaic Idealize.ShloMosaic.TcCoe
open Idealize.ShloMosaic.Pipeline (Dat RDat Cfg Window BodyObligation cellOf)
open Idealize.SL Idealize.SL.Sem

/-! # What the result arrays end holding

Every block of a result, read off the array at the end of the run, is what the body left at the point that writes it back. -/

variable {F : FTy → Type} [FloatOps F]

variable (m : (ℓ : Loc nD τ sig) → Buf (Elt F) ℓ) (ρ : Dev nD → PrngReg)

/-- Contents of the staging buffers, window by window and point by point. -/
abbrev After := (w' : Fin cfg0.W) → Fin cfg0.N → (cfg0.win w').block.Idx → Elt F (cfg0.win w').elt

theorem idx_13 : ∀ t : Fin cfg0.N, win0_13.index t (0 : Fin 3) = t.val%4 ∧ win0_13.index t (1 : Fin 3) = t.val/4 ∧ win0_13.index t (2 : Fin 3) = 0 :=
  (by decide +kernel : ∀ t : Fin grid0.N, win0_13.index t (0 : Fin 3) = t.val%4 ∧ win0_13.index t (1 : Fin 3) = t.val/4 ∧ win0_13.index t (2 : Fin 3) = 0)

theorem inj_13 : ∀ t t' : Fin cfg0.N, win0_13.index t = win0_13.index t' → t = t' :=
  (by decide +kernel : ∀ t t' : Fin grid0.N, win0_13.index t = win0_13.index t' → t = t')

theorem arr_13 (c : Dev nD) (after : After (F := F)) (t : Fin cfg0.N) (r : Fin 512) (k : Fin 688) :
    ((rdat m c).withAfter after).arrAt 13 cfg0.N (ix3 ⟨t.val % 4, by omega⟩ ⟨512 * (t.val / 4) + r.val, by have := lt32 t; omega⟩ k) = after 13 t (ix3 0 r k) := by
  have h := ((rdat m c).withAfter after).arrAt_emb_eq_flushed 13
    (fun t t' _ _ hne => (cfg0.win 13).disjoint_blk fun h => hne (inj_13 t t' h)) t (flush0_13 t) (ix3 0 r k)
  have e : ((cfg0.win 13).blk t).view.emb (ix3 0 r k) = ix3 ⟨t.val % 4, by omega⟩ ⟨512 * (t.val / 4) + r.val, by have := lt32 t; omega⟩ k := by
    obtain ⟨e0, e1, e2⟩ := idx_13 t
    funext a
    apply Fin.ext
    match a with
    | ⟨0, _⟩ =>
      show win0_13.index t (0 : Fin 3) * 1 + 1 * 0 = t.val % 4
      omega
    | ⟨1, _⟩ =>
      show win0_13.index t (1 : Fin 3) * 512 + 1 * r.val = 512 * (t.val / 4) + r.val
      omega
    | ⟨2, _⟩ =>
      show win0_13.index t (2 : Fin 3) * 688 + 1 * k.val = k.val
      omega
  rw [e] at h
  exact h

theorem idx_14 : ∀ t : Fin cfg0.N, win0_14.index t (0 : Fin 3) = t.val%4 ∧ win0_14.index t (1 : Fin 3) = t.val/4 ∧ win0_14.index t (2 : Fin 3) = 0 :=
  (by decide +kernel : ∀ t : Fin grid0.N, win0_14.index t (0 : Fin 3) = t.val%4 ∧ win0_14.index t (1 : Fin 3) = t.val/4 ∧ win0_14.index t (2 : Fin 3) = 0)

theorem inj_14 : ∀ t t' : Fin cfg0.N, win0_14.index t = win0_14.index t' → t = t' :=
  (by decide +kernel : ∀ t t' : Fin grid0.N, win0_14.index t = win0_14.index t' → t = t')

theorem arr_14 (c : Dev nD) (after : After (F := F)) (t : Fin cfg0.N) (r : Fin 512) (k : Fin 688) :
    ((rdat m c).withAfter after).arrAt 14 cfg0.N (ix3 ⟨t.val % 4, by omega⟩ ⟨512 * (t.val / 4) + r.val, by have := lt32 t; omega⟩ k) = after 14 t (ix3 0 r k) := by
  have h := ((rdat m c).withAfter after).arrAt_emb_eq_flushed 14
    (fun t t' _ _ hne => (cfg0.win 14).disjoint_blk fun h => hne (inj_14 t t' h)) t (flush0_14 t) (ix3 0 r k)
  have e : ((cfg0.win 14).blk t).view.emb (ix3 0 r k) = ix3 ⟨t.val % 4, by omega⟩ ⟨512 * (t.val / 4) + r.val, by have := lt32 t; omega⟩ k := by
    obtain ⟨e0, e1, e2⟩ := idx_14 t
    funext a
    apply Fin.ext
    match a with
    | ⟨0, _⟩ =>
      show win0_14.index t (0 : Fin 3) * 1 + 1 * 0 = t.val % 4
      omega
    | ⟨1, _⟩ =>
      show win0_14.index t (1 : Fin 3) * 512 + 1 * r.val = 512 * (t.val / 4) + r.val
      omega
    | ⟨2, _⟩ =>
      show win0_14.index t (2 : Fin 3) * 688 + 1 * k.val = k.val
      omega
  rw [e] at h
  exact h

theorem idx_15 : ∀ t : Fin cfg0.N, win0_15.index t (0 : Fin 3) = t.val%4 ∧ win0_15.index t (1 : Fin 3) = t.val/4 ∧ win0_15.index t (2 : Fin 3) = 0 :=
  (by decide +kernel : ∀ t : Fin grid0.N, win0_15.index t (0 : Fin 3) = t.val%4 ∧ win0_15.index t (1 : Fin 3) = t.val/4 ∧ win0_15.index t (2 : Fin 3) = 0)

theorem inj_15 : ∀ t t' : Fin cfg0.N, win0_15.index t = win0_15.index t' → t = t' :=
  (by decide +kernel : ∀ t t' : Fin grid0.N, win0_15.index t = win0_15.index t' → t = t')

theorem arr_15 (c : Dev nD) (after : After (F := F)) (t : Fin cfg0.N) (r : Fin 512) (k : Fin 688) :
    ((rdat m c).withAfter after).arrAt 15 cfg0.N (ix3 ⟨t.val % 4, by omega⟩ ⟨512 * (t.val / 4) + r.val, by have := lt32 t; omega⟩ k) = after 15 t (ix3 0 r k) := by
  have h := ((rdat m c).withAfter after).arrAt_emb_eq_flushed 15
    (fun t t' _ _ hne => (cfg0.win 15).disjoint_blk fun h => hne (inj_15 t t' h)) t (flush0_15 t) (ix3 0 r k)
  have e : ((cfg0.win 15).blk t).view.emb (ix3 0 r k) = ix3 ⟨t.val % 4, by omega⟩ ⟨512 * (t.val / 4) + r.val, by have := lt32 t; omega⟩ k := by
    obtain ⟨e0, e1, e2⟩ := idx_15 t
    funext a
    apply Fin.ext
    match a with
    | ⟨0, _⟩ =>
      show win0_15.index t (0 : Fin 3) * 1 + 1 * 0 = t.val % 4
      omega
    | ⟨1, _⟩ =>
      show win0_15.index t (1 : Fin 3) * 512 + 1 * r.val = 512 * (t.val / 4) + r.val
      omega
    | ⟨2, _⟩ =>
      show win0_15.index t (2 : Fin 3) * 688 + 1 * k.val = k.val
      omega
  rw [e] at h
  exact h

theorem idx_16 : ∀ t : Fin cfg0.N, win0_16.index t (0 : Fin 2) = t.val/4 ∧ win0_16.index t (1 : Fin 2) = 0 :=
  (by decide +kernel : ∀ t : Fin grid0.N, win0_16.index t (0 : Fin 2) = t.val/4 ∧ win0_16.index t (1 : Fin 2) = 0)

theorem inj_16 : ∀ t t' : Fin cfg0.N, t.val % 4 = 3 → t'.val % 4 = 3 → win0_16.index t = win0_16.index t' → t = t' :=
  (by decide +kernel : ∀ t t' : Fin grid0.N, t.val % 4 = 3 → t'.val % 4 = 3 → win0_16.index t = win0_16.index t' → t = t')

theorem arr_16 (c : Dev nD) (after : After (F := F)) (t : Fin cfg0.N) (ht : t.val % 4 = 3) (r : Fin 512) (q : Fin 1024) :
    ((rdat m c).withAfter after).arrAt 16 cfg0.N (ix2 ⟨512 * (t.val / 4) + r.val, by have := lt32 t; omega⟩ q) = after 16 t (ix2 r q) := by
  have h := ((rdat m c).withAfter after).arrAt_emb_eq_flushed 16
    (fun t t' h h' hne => (cfg0.win 16).disjoint_blk fun e => hne (inj_16 t t' ((flush0_16 t).mp h) ((flush0_16 t').mp h') e)) t ((flush0_16 t).mpr ht) (ix2 r q)
  have e : ((cfg0.win 16).blk t).view.emb (ix2 r q) = ix2 ⟨512 * (t.val / 4) + r.val, by have := lt32 t; omega⟩ q := by
    obtain ⟨e0, e1⟩ := idx_16 t
    funext a
    apply Fin.ext
    match a with
    | ⟨0, _⟩ =>
      show win0_16.index t (0 : Fin 2) * 512 + 1 * r.val = 512 * (t.val / 4) + r.val
      omega
    | ⟨1, _⟩ =>
      show win0_16.index t (1 : Fin 2) * 1024 + 1 * q.val = q.val
      omega
  rw [e] at h
  exact h

theorem idx_17 : ∀ t : Fin cfg0.N, win0_17.index t (0 : Fin 3) = 0 ∧ win0_17.index t (1 : Fin 3) = 0 ∧ win0_17.index t (2 : Fin 3) = 0 :=
  (by decide +kernel : ∀ t : Fin grid0.N, win0_17.index t (0 : Fin 3) = 0 ∧ win0_17.index t (1 : Fin 3) = 0 ∧ win0_17.index t (2 : Fin 3) = 0)

theorem arr_17 (c : Dev nD) (after : After (F := F)) (j : Fin 4) (r : Fin 8) (k : Fin 688) :
    ((rdat m c).withAfter after).arrAt 17 cfg0.N (ix3 j r k) = after 17 (pt 31) (ix3 j r k) := by
  have last : ∀ t : Fin cfg0.N, (cfg0.win 17).flush t = true → t = pt 31 := fun t h => Fin.ext (by
    have h1 := (flush0_17 t).mp h
    have h2 := lt32 t
    show t.val = 31 % 32
    omega)
  have h := ((rdat m c).withAfter after).arrAt_emb_eq_flushed 17
    (fun t t' h h' hne => absurd ((last t h).trans (last t' h').symm) hne) (pt 31) ((flush0_17 (pt 31)).mpr rfl) (ix3 j r k)
  have e : ((cfg0.win 17).blk (pt 31)).view.emb (ix3 j r k) = ix3 j r k := by
    obtain ⟨e0, e1, e2⟩ := idx_17 (pt 31)
    funext a
    apply Fin.ext
    match a with
    | ⟨0, _⟩ =>
      show win0_17.index (pt 31) (0 : Fin 3) * 4 + 1 * j.val = j.val
      omega
    | ⟨1, _⟩ =>
      show win0_17.index (pt 31) (1 : Fin 3) * 8 + 1 * r.val = r.val
      omega
    | ⟨2, _⟩ =>
      show win0_17.index (pt 31) (2 : Fin 3) * 688 + 1 * k.val = k.val
      omega
  rw [e] at h
  exact h

theorem idx_18 : ∀ t : Fin cfg0.N, win0_18.index t (0 : Fin 3) = 0 ∧ win0_18.index t (1 : Fin 3) = 0 ∧ win0_18.index t (2 : Fin 3) = 0 :=
  (by decide +kernel : ∀ t : Fin grid0.N, win0_18.index t (0 : Fin 3) = 0 ∧ win0_18.index t (1 : Fin 3) = 0 ∧ win0_18.index t (2 : Fin 3) = 0)

theorem arr_18 (c : Dev nD) (after : After (F := F)) (j : Fin 4) (r : Fin 8) (k : Fin 688) :
    ((rdat m c).withAfter after).arrAt 18 cfg0.N (ix3 j r k) = after 18 (pt 31) (ix3 j r k) := by
  have last : ∀ t : Fin cfg0.N, (cfg0.win 18).flush t = true → t = pt 31 := fun t h => Fin.ext (by
    have h1 := (flush0_18 t).mp h
    have h2 := lt32 t
    show t.val = 31 % 32
    omega)
  have h := ((rdat m c).withAfter after).arrAt_emb_eq_flushed 18
    (fun t t' h h' hne => absurd ((last t h).trans (last t' h').symm) hne) (pt 31) ((flush0_18 (pt 31)).mpr rfl) (ix3 j r k)
  have e : ((cfg0.win 18).blk (pt 31)).view.emb (ix3 j r k) = ix3 j r k := by
    obtain ⟨e0, e1, e2⟩ := idx_18 (pt 31)
    funext a
    apply Fin.ext
    match a with
    | ⟨0, _⟩ =>
      show win0_18.index (pt 31) (0 : Fin 3) * 4 + 1 * j.val = j.val
      omega
    | ⟨1, _⟩ =>
      show win0_18.index (pt 31) (1 : Fin 3) * 8 + 1 * r.val = r.val
      omega
    | ⟨2, _⟩ =>
      show win0_18.index (pt 31) (2 : Fin 3) * 688 + 1 * k.val = k.val
      omega
  rw [e] at h
  exact h

/-- Where the row of point `n`'s group sits in the block of taps. -/
theorem row_place (j : Fin 4) (r : Fin 8) (k : Fin 688) : (rowR (grid0.coords (pt (28 + j.val)))).emb (ix3 0 r k) = ix3 j r k := by
  funext a
  apply Fin.ext
  match a with
  | ⟨0, _⟩ =>
    rw [show ((rowR (grid0.coords (pt (28 + j.val)))).emb (ix3 0 r k) ⟨0, by decide⟩).val = (28 + j.val) % 4 from off2_val (28 + j.val) _]
    show (28 + j.val) % 4 = j.val
    omega
  | ⟨1, _⟩ =>
    show 0 + 1 * r.val = r.val
    omega
  | ⟨2, _⟩ =>
    show 0 + 1 * k.val = k.val
    omega

/-- What the arrays of the six results hold at the end, on one core. -/
def OutsAt (c : Dev nD) (mem : (ℓ : Loc nD τ sig) → Buf (Elt F) ℓ) : Prop :=
  (∀ (t : Fin cfg0.N) (r : Fin 512) (k : Fin 688), mem ((c.tc : Thread nD τ).loc main_v46_0)
    (ix3 ⟨t.val % 4, by omega⟩ ⟨512 * (t.val / 4) + r.val, by have := lt32 t; omega⟩ k) = ugAt m c t (ix3 0 r k))
  ∧ (∀ (t : Fin cfg0.N) (r : Fin 512) (k : Fin 688), mem ((c.tc : Thread nD τ).loc main_v46_1)
    (ix3 ⟨t.val % 4, by omega⟩ ⟨512 * (t.val / 4) + r.val, by have := lt32 t; omega⟩ k) = uvAt m c t (ix3 0 r k))
  ∧ (∀ (t : Fin cfg0.N) (r : Fin 512) (k : Fin 688), mem ((c.tc : Thread nD τ).loc main_v46_2)
    (ix3 ⟨t.val % 4, by omega⟩ ⟨512 * (t.val / 4) + r.val, by have := lt32 t; omega⟩ k) = actAt m c t (ix3 0 r k))
  ∧ (∀ (t : Fin cfg0.N) (r : Fin 512) (q : Fin 1024), t.val % 4 = 3 → mem ((c.tc : Thread nD τ).loc main_v46_3)
    (ix2 ⟨512 * (t.val / 4) + r.val, by have := lt32 t; omega⟩ q) = accAfter m c t.val (ix2 r q))
  ∧ (∀ (j : Fin 4) (r : Fin 8) (k : Fin 688), mem ((c.tc : Thread nD τ).loc main_v46_4) (ix3 j r k) = rowGAt m c (28 + j.val) (ix3 0 r k))
  ∧ (∀ (j : Fin 4) (r : Fin 8) (k : Fin 688), mem ((c.tc : Thread nD τ).loc main_v46_5) (ix3 j r k) = rowVAt m c (28 + j.val) (ix3 0 r k))

theorem outs (r : PUnit × MemSt nD τ sig (Elt F)) (h : Pipeline.RDat.FramePost (cfgs 0) (rdat m) (V m) r) (c : Dev nD) : OutsAt m c r.2.mem := by
  obtain ⟨after, hL, hA⟩ := h.exists_exact c
  have left : ∀ (w : Fin cfg0.W) (t : Fin cfg0.N), isOutW w = true → (cfg0.win w).flush t = true → Left m c w t (after w t) :=
    fun w t hw hf => (dats m 0 c).toRRel_leaves hw (hL w t hf)
  have row : ∀ (R : ℕ → FVec F S1x8x688 .f32) (X : Vec F S4x8x688 .f32), RowsAt R 31 X → ∀ (j : Fin 4) (r : Fin 8) (k : Fin 688), X (ix3 j r k) = R (28 + j.val) (ix3 0 r k) :=
    fun R X h j r k => by
      have e := congrFun (h (28 + j.val) (by omega) (by omega)) (ix3 0 r k)
      rw [← row_place j r k]
      exact e
  refine ⟨fun t r k => ?_, fun t r k => ?_, fun t r k => ?_, fun t r q ht => ?_, fun j r k => ?_, fun j r k => ?_⟩
  · exact (congrFun (hA 13) _).trans ((arr_13 m c after t r k).trans (congrFun (left 13 t rfl (flush0_13 t)) _))
  · exact (congrFun (hA 14) _).trans ((arr_14 m c after t r k).trans (congrFun (left 14 t rfl (flush0_14 t)) _))
  · exact (congrFun (hA 15) _).trans ((arr_15 m c after t r k).trans (congrFun (left 15 t rfl (flush0_15 t)) _))
  · exact (congrFun (hA 16) _).trans ((arr_16 m c after t ht r q).trans (congrFun (left 16 t rfl ((flush0_16 t).mpr ht) ht) _))
  · exact (congrFun (hA 17) _).trans ((arr_17 m c after j r k).trans (row _ _ (left 17 (pt 31) rfl ((flush0_17 (pt 31)).mpr rfl)) j r k))
  · exact (congrFun (hA 18) _).trans ((arr_18 m c after j r k).trans (row _ _ (left 18 (pt 31) rfl ((flush0_18 (pt 31)).mpr rfl)) j r k))

end Cert.FfnBwd

end
-- ==== Proof.Tile.lean ====
module

public import proofs.«01_k».proof.Proof.Data
public import Idealize.ShloMosaic.Lib.Pointwise

@[expose] public section

set_option maxRecDepth 16384

noncomputable section

namespace Cert.FfnBwd

open Cert.KernelIdeal Cert.KernelIdeal.Gen
open Idealize.ShloMosaic Idealize.ShloMosaic.TcCoe

/-! # One tile, element by element

What the body's values are at a row and a feature, from the blocks it reads. -/

/-- The test for the last tile of a sequence. -/
def endTest (i : grid0.Coords) : BitVec 1 :=
  let arg0 : BitVec 32 := BitVec.ofNat 32 (i 0).val
  let v1 : BitVec 32 := Scalar.muli (Scalar.addi arg0 1#32) 512#32
  let v3 : BitVec 32 := Scalar.select (Scalar.cmpi .eq 2048#32 0#32) 1#32 2048#32
  let v4 : BitVec 32 := Scalar.remsi v1 v3
  Scalar.cmpi .eq (Scalar.select (Scalar.andi (Scalar.xori (Scalar.cmpi .slt v4 0#32) (Scalar.cmpi .slt v3 0#32)) (Scalar.cmpi .ne v4 0#32)) (Scalar.addi v4 v3) v4) 0#32

theorem endTest_iff (i : grid0.Coords) : endTest i = 1#1 ↔ (i 0).val % 4 = 3 := by
  have h : (i 0).val < 8 := (i 0).isLt
  unfold endTest
  generalize (i 0).val = n at h
  interval_cases n <;> decide

/-- The gradient of the activation, in the tile's own rows and in the sixteen ahead, which are dropped at a sequence's end. -/
theorem pay3_at (i : grid0.Coords) (v13 : Vec Ideal S16x1024 .f32) (v17 : Vec Ideal S512x1024 .f32) (v21 : Vec Ideal S1x688x1024 .bf16)
    (r : Fin 528) (k : Fin 688) :
    k0_pay3 i v13 v17 v21 (ix2 r k)
      = if h : r.val < 512 then ∑ q : Fin 1024, (v17 (ix2 ⟨r.val, h⟩ q) : EReal) * v21 (ix3 0 k q)
        else if (i 0).val % 4 = 3 then 0 else ∑ q : Fin 1024, (v13 (ix2 ⟨r.val - 512, by omega⟩ q) : EReal) * v21 (ix3 0 k q) := by
  have e : k0_pay3 i v13 v17 v21 = matmul (F := Ideal) dot_S528x1024_S688x1024_S528x688_1_1_0_0_n_n none
      (truncf .bf16 (concatenate S528x1024 0 [⟨S512x1024, shapeCast S512x1024 v17 shapeCasts_S512x1024_S512x1024⟩,
        ⟨S16x1024, Scalar.select (endTest i) (broadcast S16x1024 (Scalar.ofBits (F := Ideal) .f32 0x00000000#32)) (shapeCast S16x1024 v13 shapeCasts_S16x1024_S16x1024)⟩] concatenates_S512x1024_S16x1024_S528x1024_d0) bitsLt_bf16_f32)
      (shapeCast S688x1024 v21 shapeCasts_S1x688x1024_S688x1024) (constant (F := Ideal) S528x688 .f32 0x00000000#32) := rfl
  rw [e]
  by_cases h : r.val < 512
  · rw [dif_pos h]
    pointwise
    exact Finset.sum_congr rfl fun q _ => by rw [dif_pos h]
  · rw [dif_neg h]
    by_cases hi : (i 0).val % 4 = 3
    · rw [if_pos hi, (endTest_iff i).mpr hi]
      pointwise
      exact Finset.sum_eq_zero fun q _ => by rw [dif_neg h, zero_mul]
    · rw [if_neg hi]
      have : endTest i = 0#1 := by
        have := (endTest_iff i).not.mpr hi
        revert this
        generalize endTest i = b
        revert b
        decide
      rw [this]
      pointwise
      exact Finset.sum_congr rfl fun q _ => by rw [dif_neg h]

theorem pay4_at (v24 : Vec Ideal S1x512x688 .bf16) (v26 : Vec Ideal S1x16x688 .bf16) (r : Fin 528) (k : Fin 688) :
    (k0_pay4 v24 v26 (ix2 r k) : EReal) = if h : r.val < 512 then v24 (ix3 0 ⟨r.val, h⟩ k) else v26 (ix3 0 ⟨r.val - 512, by omega⟩ k) := by
  pointwise [k0_pay4]

theorem pay5_at (v24 : Vec Ideal S1x512x688 .bf16) (v26 : Vec Ideal S1x16x688 .bf16) (r : Fin 528) (k : Fin 688) :
    (k0_pay5 v24 v26 (ix2 r k) : EReal) = if h : r.val < 512 then v24 (ix3 0 ⟨r.val, h⟩ k) else v26 (ix3 0 ⟨r.val - 512, by omega⟩ k) := by
  pointwise [k0_pay5]

theorem pay8_at (d g : FVec Ideal S528x688 .f32) (r : Fin 528) (k : Fin 688) :
    (k0_pay8 d g (ix2 r k) : EReal) = g (ix2 r k) * Ideal.logistic (g (ix2 r k)) * d (ix2 r k) := by
  pointwise [k0_pay8, k0_pay7, k0_pay6]

theorem pay9_at (d g : FVec Ideal S528x688 .f32) (v : Vec Ideal S1x512x688 .bf16) (v' : Vec Ideal S1x16x688 .bf16) (r : Fin 528) (k : Fin 688) :
    (k0_pay9 d g v v' (ix2 r k) : EReal) = d (ix2 r k) * k0_pay5 v v' (ix2 r k) * Ideal.logistic (g (ix2 r k))
      + g (ix2 r k) * (d (ix2 r k) * k0_pay5 v v' (ix2 r k)) * (Ideal.logistic (g (ix2 r k)) * (1 - Ideal.logistic (g (ix2 r k)))) := by
  pointwise [k0_pay9, k0_pay6]

theorem pay10_at (g : FVec Ideal S528x688 .f32) (v : Vec Ideal S1x512x688 .bf16) (v' : Vec Ideal S1x16x688 .bf16) (r : Fin 512) (k : Fin 688) :
    (k0_pay10 g v v' (ix3 0 r k) : EReal) = g (ix2 ⟨r.val, by omega⟩ k) * Ideal.logistic (g (ix2 ⟨r.val, by omega⟩ k)) * k0_pay5 v v' (ix2 ⟨r.val, by omega⟩ k) := by
  pointwise [k0_pay10, k0_pay7, k0_pay6]

/-- A row of the gradient of the convolved values, some rows ahead in the tile. -/
theorem rot_one (r : Fin 512) : (⟨(r.val + 528 - 527) % 528, Nat.mod_lt _ (by decide)⟩ : Fin 528) = ⟨r.val + 1, by omega⟩ :=
  Fin.ext (by show (r.val + 528 - 527) % 528 = r.val + 1; omega)

theorem rot_two (r : Fin 512) : (⟨(r.val + 528 - 526) % 528, Nat.mod_lt _ (by decide)⟩ : Fin 528) = ⟨r.val + 2, by omega⟩ :=
  Fin.ext (by show (r.val + 528 - 526) % 528 = r.val + 2; omega)

section Half

variable (d g : FVec Ideal S528x688 .f32) (v : Vec Ideal S1x512x688 .bf16) (v' : Vec Ideal S1x16x688 .bf16)

theorem pay12_at (r : Fin 512) (k : Fin 688) : k0_pay12 d g v v' (ix2 r k) = k0_pay9 d g v v' (ix2 ⟨r.val + 1, by omega⟩ k) := by
  generalize hq : k0_pay9 d g v v' = q
  pointwise [k0_pay12, hq]
  exact congrArg q (congrArg₂ ix2 (rot_one r) rfl)

theorem pay13_at (r : Fin 512) (k : Fin 688) : k0_pay13 d g v v' (ix2 r k) = k0_pay9 d g v v' (ix2 ⟨r.val + 2, by omega⟩ k) := by
  generalize hq : k0_pay9 d g v v' = q
  pointwise [k0_pay13, hq]
  exact congrArg q (congrArg₂ ix2 (rot_two r) rfl)

theorem pay14_at (r : Fin 512) (k : Fin 688) : k0_pay14 d g v v' (ix2 r k) = k0_pay9 d g v v' (ix2 ⟨r.val, by omega⟩ k) := by
  generalize hq : k0_pay9 d g v v' = q
  pointwise [k0_pay14, hq]

theorem pay18_at (q : FVec Ideal S528x688 .f32) (r : Fin 512) (k : Fin 688) : k0_pay18 q (ix2 r k) = q (ix2 ⟨r.val + 1, by omega⟩ k) := by
  pointwise [k0_pay18]
  exact congrArg q (congrArg₂ ix2 (rot_one r) rfl)

theorem pay19_at (q : FVec Ideal S528x688 .f32) (r : Fin 512) (k : Fin 688) : k0_pay19 q (ix2 r k) = q (ix2 ⟨r.val + 2, by omega⟩ k) := by
  pointwise [k0_pay19]
  exact congrArg q (congrArg₂ ix2 (rot_two r) rfl)

theorem pay20_at (q : FVec Ideal S528x688 .f32) (r : Fin 512) (k : Fin 688) : k0_pay20 q (ix2 r k) = q (ix2 ⟨r.val, by omega⟩ k) := by
  pointwise [k0_pay20]

/-- The gate half's gradient of the up-projection. -/
theorem pay17_at (w : Vec Ideal S1x8x688 .f32) (r : Fin 512) (k : Fin 688) :
    (k0_pay17 (k0_pay15 d g v v' w) (ix2 r k) : EReal)
      = w (ix3 0 2 k) * k0_pay9 d g v v' (ix2 ⟨r.val, by omega⟩ k) + w (ix3 0 1 k) * k0_pay9 d g v v' (ix2 ⟨r.val + 1, by omega⟩ k)
        + w (ix3 0 0 k) * k0_pay9 d g v v' (ix2 ⟨r.val + 2, by omega⟩ k) := by
  rw [← pay12_at, ← pay13_at, ← pay14_at]
  generalize hq : k0_pay12 d g v v' = q1
  generalize hq' : k0_pay13 d g v v' = q2
  generalize hq'' : k0_pay14 d g v v' = q0
  pointwise [k0_pay17, k0_pay15, hq, hq', hq'']

/-- The value half's gradient of the up-projection. -/
theorem pay27_at (q : FVec Ideal S528x688 .f32) (w : Vec Ideal S1x8x688 .f32) (r : Fin 512) (k : Fin 688) :
    (k0_pay27 (k0_pay21 q (k0_pay11 w)) (ix2 r k) : EReal)
      = w (ix3 0 2 k) * q (ix2 ⟨r.val, by omega⟩ k) + w (ix3 0 1 k) * q (ix2 ⟨r.val + 1, by omega⟩ k)
        + w (ix3 0 0 k) * q (ix2 ⟨r.val + 2, by omega⟩ k) := by
  rw [← pay18_at q, ← pay19_at q, ← pay20_at q]
  generalize hq : k0_pay18 q = q1
  generalize hq' : k0_pay19 q = q2
  generalize hq'' : k0_pay20 q = q0
  pointwise [k0_pay27, k0_pay21, k0_pay11, hq, hq', hq'']

end Half

theorem pay28_at (x : FVec Ideal S512x688 .bf16) (r : Fin 512) (k : Fin 688) : k0_pay28 x (ix3 0 r k) = x (ix2 r k) := by
  pointwise [k0_pay28]

theorem pay29_at (x : FVec Ideal S512x688 .f32) (r : Fin 512) (k : Fin 688) : k0_pay29 x (ix3 0 r k) = k0_pay27 x (ix2 r k) := by
  pointwise [k0_pay29]

/-- A tile's product with the up-projection's weights of its group, the two halves added. -/
theorem pay30_at (x : FVec Ideal S512x688 .bf16) (y : FVec Ideal S512x688 .f32) (wg wv : Vec Ideal S1x688x1024 .bf16) (r : Fin 512) (q : Fin 1024) :
    (k0_pay30 x y wg wv (ix2 r q) : EReal)
      = (∑ k : Fin 688, (x (ix2 r k) : EReal) * wg (ix3 0 k q)) + ∑ k : Fin 688, (k0_pay27 y (ix2 r k) : EReal) * wv (ix3 0 k q) := by
  generalize hy : k0_pay27 y = z
  pointwise [k0_pay30, hy]

theorem pay31_at (x : FVec Ideal S512x688 .bf16) (y : FVec Ideal S512x688 .f32) (wg wv : Vec Ideal S1x688x1024 .bf16) (r : Fin 512) (q : Fin 1024) :
    k0_pay31 x y wg wv (ix2 r q) = k0_pay30 x y wg wv (ix2 r q) := by
  generalize hy : k0_pay30 x y wg wv = z
  pointwise [k0_pay31, hy]

theorem pay32_at (x : FVec Ideal S512x688 .bf16) (y : FVec Ideal S512x688 .f32) (wg wv : Vec Ideal S1x688x1024 .bf16) (s : Vec Ideal S512x1024 .f32) (r : Fin 512) (q : Fin 1024) :
    (k0_pay32 x y wg wv s (ix2 r q) : EReal) = s (ix2 r q) + k0_pay30 x y wg wv (ix2 r q) := by
  generalize hy : k0_pay30 x y wg wv = z
  pointwise [k0_pay32, hy]

theorem pay1_at (g : FVec Ideal S8x688 .f32) (s : Vec Ideal S1x8x688 .f32) (r : Fin 8) (k : Fin 688) :
    (k0_pay1 g s (ix3 0 r k) : EReal) = s (ix3 0 r k) + g (ix2 r k) := by
  pointwise [k0_pay1]

theorem pay2_at (g : FVec Ideal S8x688 .f32) (s : Vec Ideal S1x8x688 .f32) (r : Fin 8) (k : Fin 688) :
    (k0_pay2 g s (ix3 0 r k) : EReal) = s (ix3 0 r k) + g (ix2 r k) := by
  pointwise [k0_pay2]

theorem pay33_at (r : Fin 8) (k : Fin 688) : (k0_pay33 (F := Ideal) (ix3 0 r k) : EReal) = 0 := by
  pointwise [k0_pay33]

theorem pay34_at (r : Fin 8) (k : Fin 688) : (k0_pay34 (F := Ideal) (ix3 0 r k) : EReal) = 0 := by
  pointwise [k0_pay34]

/-- A tile's part of the gradient of the taps and the bias: sums over the tile's rows. -/
def tilePart (z : Fin 528 → EReal) (u : Fin 512 → EReal) (r : ℕ) : EReal :=
  if r < 3 then ∑ n : Fin 512, z ⟨n.val + (2 - r), by omega⟩ * u n
  else if r = 3 then ∑ n : Fin 512, z ⟨n.val, by omega⟩ else 0

theorem pay16_at (d g : FVec Ideal S528x688 .f32) (v : Vec Ideal S1x512x688 .bf16) (v' : Vec Ideal S1x16x688 .bf16) (u : Vec Ideal S1x512x688 .bf16) (r : Fin 8) (k : Fin 688) :
    (k0_pay16 (k0_pay12 d g v v') (k0_pay13 d g v v') (k0_pay14 d g v v') u (ix2 r k) : EReal)
      = tilePart (fun n => k0_pay9 d g v v' (ix2 n k)) (fun n => u (ix3 0 n k)) r.val := by
  have h1 := fun n => pay12_at d g v v' n k
  have h2 := fun n => pay13_at d g v v' n k
  have h0 := fun n => pay14_at d g v v' n k
  revert h1 h2 h0
  generalize k0_pay12 d g v v' = q1
  generalize k0_pay13 d g v v' = q2
  generalize k0_pay14 d g v v' = q0
  intro h1 h2 h0
  pointwise [k0_pay16]
  unfold tilePart
  obtain ⟨r, hr⟩ := r
  rcases (by omega : r = 0 ∨ r = 1 ∨ r = 2 ∨ r = 3 ∨ 4 ≤ r) with rfl | rfl | rfl | rfl | h
  · simp [h2]
  · simp [h1]
  · simp [h0]
  · simp [h0]
  · rw [dif_neg (by simp only; omega), dif_neg (by simp only; omega), dif_neg (by simp only; omega), dif_neg (by simp only; omega),
      if_neg (by simp only; omega), if_neg (by simp only; omega)]

theorem pay22_at (u : Vec Ideal S1x512x688 .bf16) (r : Fin 512) (k : Fin 688) : (k0_pay22 u (ix2 r k) : EReal) = u (ix3 0 r k) := by
  pointwise [k0_pay22]

theorem pay26_at (q : FVec Ideal S528x688 .f32) (u : Vec Ideal S1x512x688 .bf16) (r : Fin 8) (k : Fin 688) :
    (k0_pay26 (k0_pay20 q) (k0_pay23 q u) (k0_pay24 q u) (k0_pay25 q u) (ix2 r k) : EReal)
      = tilePart (fun n => q (ix2 n k)) (fun n => u (ix3 0 n k)) r.val := by
  have h1 := fun n => pay18_at q n k
  have h2 := fun n => pay19_at q n k
  have h0 := fun n => pay20_at q n k
  unfold k0_pay23 k0_pay24 k0_pay25
  revert h1 h2 h0
  generalize k0_pay18 q = q1
  generalize k0_pay19 q = q2
  generalize k0_pay20 q = q0
  intro h1 h2 h0
  pointwise [k0_pay26]
  unfold tilePart
  obtain ⟨r, hr⟩ := r
  rcases (by omega : r = 0 ∨ r = 1 ∨ r = 2 ∨ r = 3 ∨ 4 ≤ r) with rfl | rfl | rfl | rfl | h
  · simp [h2, pay22_at]
  · simp [h1, pay22_at]
  · simp [h0, pay22_at]
  · simp [h0]
  · rw [dif_neg (by simp only; omega), dif_neg (by simp only; omega), dif_neg (by simp only; omega), dif_neg (by simp only; omega),
      if_neg (by simp only; omega), if_neg (by simp only; omega)]

end Cert.FfnBwd

end
-- ==== Proof.Spec.lean ====
module

public import proofs.«01_k».proof.Proof.Gen.ReferenceIdeal.Read
public import Idealize.ShloMosaic.Lib.Pointwise

@[expose] public section

noncomputable section

namespace Cert.FfnBwd

open Idealize.ShloMosaic
open Cert.ReferenceIdeal Cert.ReferenceIdeal.Gen Cert.ReferenceIdeal.Read

/-! # The gradients, written with plain indices

Tokens count through both sequences (`n` in 0 … 4095, token `n % 2048` of sequence `n / 2048`), features through both
halves (`f` in 0 … 5503, the gate in front), hidden features through one half (`k` in 0 … 2751). An index past its end is
counted round, so the functions below are total. -/

/-- The six arguments, at the extended reals. -/
structure Args where
  h : FVec Ideal S2x2048x1024 .f32
  up : FVec Ideal S1024x5504 .f32
  cw : FVec Ideal S3x5504 .f32
  cb : FVec Ideal S5504 .f32
  down : FVec Ideal S2752x1024 .f32
  dy : FVec Ideal S2x2048x1024 .f32

/-- Token `n`, feature `f`. -/
def tix (n f : ℕ) : S2x2048x5504.Idx :=
  ix3 ⟨n / 2048 % 2, Nat.mod_lt _ (by decide)⟩ ⟨n % 2048, Nat.mod_lt _ (by decide)⟩ ⟨f % 5504, Nat.mod_lt _ (by decide)⟩

/-- Token `n`, model dimension `q`. -/
def mix (n q : ℕ) : S2x2048x1024.Idx :=
  ix3 ⟨n / 2048 % 2, Nat.mod_lt _ (by decide)⟩ ⟨n % 2048, Nat.mod_lt _ (by decide)⟩ ⟨q % 1024, Nat.mod_lt _ (by decide)⟩

/-- The up-projection of the hidden state. -/
def U (a : Args) (n f : ℕ) : EReal := val_main_v0 (F := Ideal) a.h a.up (tix n f)

/-- The convolved up-projection, with its bias. -/
def C (a : Args) (n f : ℕ) : EReal := val_main_v26 (F := Ideal) a.h a.up a.cw a.cb (tix n f)

/-- Tap `r` of the convolution. -/
def W (a : Args) (r f : ℕ) : EReal := a.cw (ix2 ⟨r % 3, Nat.mod_lt _ (by decide)⟩ ⟨f % 5504, Nat.mod_lt _ (by decide)⟩)

/-- The up-projection's weight from model dimension `q` to feature `f`. -/
def Wu (a : Args) (q f : ℕ) : EReal := a.up (ix2 ⟨q % 1024, Nat.mod_lt _ (by decide)⟩ ⟨f % 5504, Nat.mod_lt _ (by decide)⟩)

/-- The down-projection's weight from hidden feature `k` to model dimension `q`. -/
def Wd (a : Args) (k q : ℕ) : EReal := a.down (ix2 ⟨k % 2752, Nat.mod_lt _ (by decide)⟩ ⟨q % 1024, Nat.mod_lt _ (by decide)⟩)

/-- The gradient of the activation. -/
def D (a : Args) (n k : ℕ) : EReal := ∑ q ∈ Finset.range 1024, a.dy (mix n q) * Wd a k q

/-- The gradient of the value half, from gate `g` and the activation's gradient `d`. -/
def gradVal (g d : EReal) : EReal := g * Ideal.logistic g * d

/-- The gradient of the gate half, from gate `g`, value `v` and the activation's gradient `d`. -/
def gradGate (g v d : EReal) : EReal :=
  d * v * Ideal.logistic g + g * (d * v) * (Ideal.logistic g * (1 - Ideal.logistic g))

/-- The activation from gate `g` and value `v`. -/
def actOf (g v : EReal) : EReal := g * Ideal.logistic g * v

/-- The activation of token `n`. -/
def Act (a : Args) (n k : ℕ) : EReal := actOf (C a n k) (C a n (2752 + k))

/-- The gradient of the convolved value. -/
def DC (a : Args) (n f : ℕ) : EReal :=
  if f < 2752 then gradGate (C a n f) (C a n (2752 + f)) (D a n f) else gradVal (C a n (f - 2752)) (D a n (f - 2752))

/-- The gradient of the convolved value `s` tokens ahead: nothing past the sequence's end. -/
def DCz (a : Args) (s n f : ℕ) : EReal := if n % 2048 + s < 2048 then DC a (n + s) f else 0

/-- The gradient of the up-projection: every tap reaches back to the tokens it was applied to. -/
def DU (a : Args) (n f : ℕ) : EReal := W a 2 f * DCz a 0 n f + W a 1 f * DCz a 1 n f + W a 0 f * DCz a 2 n f

/-- The gradient of the hidden state. -/
def DH (a : Args) (n q : ℕ) : EReal := ∑ f ∈ Finset.range 5504, DU a n f * Wu a q f

/-- One token's part of the gradient of the taps (rows 0 to 2) and of the bias (row 3); the rows below are zero. -/
def part (a : Args) (r n f : ℕ) : EReal :=
  if r < 3 then DCz a (2 - r) n f * U a n f else if r = 3 then DCz a 0 n f else 0

/-- The gradient of the taps and of the bias. -/
def CG (a : Args) (r f : ℕ) : EReal := ∑ n ∈ Finset.range 4096, part a r n f

/-- Two indices of a token and a feature agree when their coordinates do. -/
theorem tix_eq (x : Fin 2) (y : Fin 2048) (z : Fin 5504) (n f : ℕ) (hn : n = x.val * 2048 + y.val) (hf : f = z.val) :
    tix n f = ix3 x y z := by
  unfold tix
  congr 1 <;> apply Fin.ext <;> simp only <;> omega

theorem mix_eq (x : Fin 2) (y : Fin 2048) (z : Fin 1024) (n f : ℕ) (hn : n = x.val * 2048 + y.val) (hf : f = z.val) :
    mix n f = ix3 x y z := by
  unfold mix
  congr 1 <;> apply Fin.ext <;> simp only <;> omega

theorem DCz_zero (a : Args) (n f : ℕ) : DCz a 0 n f = DC a n f := by
  unfold DCz; rw [if_pos (by omega)]; rfl

/-- A sum over blocks of `w` terms. -/
theorem sum_blocks (F : ℕ → EReal) (b w : ℕ) : ∑ f ∈ Finset.range (w * b), F f = ∑ j ∈ Finset.range b, ∑ k ∈ Finset.range w, F (w * j + k) := by
  induction b with
  | zero => simp
  | succ b ih => rw [Finset.sum_range_succ, ← ih, Nat.mul_succ, Finset.sum_range_add]

/-- Moving a shift from one factor of a sum of products to the other. -/
theorem sum_shift (A B : ℕ → EReal) (N s : ℕ) (hs : s ≤ N) :
    ∑ y ∈ Finset.range N, (if s ≤ y then A (y - s) else 0) * B y = ∑ y ∈ Finset.range N, (if y + s < N then B (y + s) else 0) * A y := by
  obtain ⟨M, rfl⟩ : ∃ M, N = s + M := ⟨N - s, by omega⟩
  rw [Finset.sum_range_add, Finset.sum_eq_zero (s := Finset.range s) fun y hy => by
    rw [if_neg (by have := Finset.mem_range.mp hy; omega), zero_mul], zero_add]
  rw [Nat.add_comm s M, Finset.sum_range_add _ M s]
  rw [Finset.sum_eq_zero (s := Finset.range s) fun y hy => by rw [if_neg (by omega), zero_mul], add_zero]
  refine Finset.sum_congr rfl fun y hy => ?_
  rw [if_pos (by omega), if_pos (by have := Finset.mem_range.mp hy; omega), Nat.add_sub_cancel_left, mul_comm, Nat.add_comm s y]

end Cert.FfnBwd

end
-- ==== Proof.Host.lean ====
module

public import proofs.«01_k».proof.Proof.Spec
public import proofs.«01_k».proof.Proof.Data
public import Idealize.ShloMosaic.Lib.StableHlo.ReadAt

@[expose] public section

set_option maxRecDepth 16384

noncomputable section

namespace Cert.FfnBwd

open Cert.KernelIdeal Cert.KernelIdeal.Gen
open Idealize.ShloMosaic Idealize.ShloMosaic.TcCoe

/-! # What the host hands to the kernel

The arrays the kernel's windows read, at an index, from the arguments. -/

variable (m : (ℓ : Loc nD τ sig) → Buf (Elt Ideal) ℓ)

/-- The arguments as one device holds them. -/
def args (c : Dev nD) : Args where
  h := m ((c : Thread nD τ).loc main_arg0)
  up := m ((c : Thread nD τ).loc main_arg1)
  cw := m ((c : Thread nD τ).loc main_arg2)
  cb := m ((c : Thread nD τ).loc main_arg3)
  down := m ((c : Thread nD τ).loc main_arg4)
  dy := m ((c : Thread nD τ).loc main_arg5)

/-- The up-projection with two zero rows in front of each sequence, by padding. -/
def padded (u : FVec Ideal S2x2048x5504 .f32) : FVec Ideal S2x2050x5504 .f32 :=
  pad S2x2050x5504 ![0, 2, 0] ![0, 0, 0] ![0, 0, 0] u (sitofp (F := Ideal) .f32 (constantI S_ 32 0#32)) pads_S2x2048x5504_S2x2050x5504_000_200_000 h_S_

/-- Padding is what concatenating with zeros gives. -/
theorem padded_eq (x0 : FVec Ideal S2x2048x1024 .f32) (x1 : FVec Ideal S1024x5504 .f32) :
    padded (Cert.ReferenceIdeal.Read.val_main_v0 (F := Ideal) x0 x1) = Cert.ReferenceIdeal.Read.val_main_v2 (F := Ideal) x0 x1 := by
  funext i
  idx_vars i
  unfold padded Cert.ReferenceIdeal.Read.val_main_v2
  generalize Cert.ReferenceIdeal.Read.val_main_v0 (F := Ideal) x0 x1 = u
  pointwise [Cert.ReferenceIdeal.Read.val_main_v1, Cert.ReferenceIdeal.Read.val_main_cst]
  have z : (FloatOps.sitofp FTy.f32 0#32 : Ideal .f32) = 0 := by
    show ((((0#32 : BitVec 32).toInt : ℤ) : ℝ) : EReal) = 0
    simp
  by_cases h : i1.val < 2
  · rw [dif_pos h, dif_neg (by omega), z]
  · rw [dif_neg h, dif_pos (by omega)]

/-- The convolution with its bias, from the padded up-projection. -/
def convOf (p : FVec Ideal S2x2050x5504 .f32) (x2 : FVec Ideal S3x5504 .f32) (x3 : FVec Ideal S5504 .f32) : FVec Ideal S2x2048x5504 .f32 :=
  addf (addf (addf
    (mulf (extractStridedSlice S2x2048x5504 ![0, 0, 0] p slices_S2x2050x5504_S2x2048x5504_0_0_0) (Cert.ReferenceIdeal.Read.val_main_v8 (F := Ideal) x2))
    (mulf (extractStridedSlice S2x2048x5504 ![0, 1, 0] p slices_S2x2050x5504_S2x2048x5504_0_1_0) (Cert.ReferenceIdeal.Read.val_main_v14 (F := Ideal) x2)))
    (mulf (extractStridedSlice S2x2048x5504 ![0, 2, 0] p slices_S2x2050x5504_S2x2048x5504_0_2_0) (Cert.ReferenceIdeal.Read.val_main_v21 (F := Ideal) x2)))
    (Cert.ReferenceIdeal.Read.val_main_v25 (F := Ideal) x3)

theorem convOf_eq (x0 : FVec Ideal S2x2048x1024 .f32) (x1 : FVec Ideal S1024x5504 .f32) (x2 : FVec Ideal S3x5504 .f32) (x3 : FVec Ideal S5504 .f32) :
    convOf (Cert.ReferenceIdeal.Read.val_main_v2 (F := Ideal) x0 x1) x2 x3 = Cert.ReferenceIdeal.Read.val_main_v26 (F := Ideal) x0 x1 x2 x3 := rfl

theorem V_v24 (c : Dev nD) :
    (V m c main_v24 : FVec Ideal S2x2048x5504 .f32)
      = convOf (padded (Cert.ReferenceIdeal.Read.val_main_v0 (F := Ideal) (args m c).h (args m c).up)) (args m c).cw (args m c).cb := by
  unfold V
  after_reads_simp
  rfl

theorem V_v27 (c : Dev nD) :
    (V m c main_v27 : FVec Ideal S8x4096x688 .bf16)
      = (truncf .bf16 (transpose S8x4096x688 [1, 0, 2] (shapeCast S4096x8x688 (Cert.ReferenceIdeal.Read.val_main_v0 (F := Ideal) (args m c).h (args m c).up) shapeCasts_S2x2048x5504_S4096x8x688) transposes_S4096x8x688_S8x4096x688_1_0_2) bitsLt_bf16_f32 : FVec Ideal S8x4096x688 .bf16) := by
  unfold V
  after_reads_simp
  rfl

theorem V_v30 (c : Dev nD) :
    (V m c main_v30 : FVec Ideal S8x4096x688 .bf16)
      = (truncf .bf16 (transpose S8x4096x688 [1, 0, 2] (shapeCast S4096x8x688 (convOf (padded (Cert.ReferenceIdeal.Read.val_main_v0 (F := Ideal) (args m c).h (args m c).up)) (args m c).cw (args m c).cb) shapeCasts_S2x2048x5504_S4096x8x688) transposes_S4096x8x688_S8x4096x688_1_0_2) bitsLt_bf16_f32 : FVec Ideal S8x4096x688 .bf16) := by
  unfold V
  after_reads_simp
  rfl

theorem V_v31 (c : Dev nD) : (V m c main_v31 : FVec Ideal S4x4096x688 .bf16)
    = extractStridedSlice S4x4096x688 ![0, 0, 0] (V m c main_v27 : FVec Ideal S8x4096x688 .bf16) slices_S8x4096x688_S4x4096x688_0_0_0 := by
  unfold V
  after_reads_simp
theorem V_v32 (c : Dev nD) : (V m c main_v32 : FVec Ideal S4x4096x688 .bf16)
    = extractStridedSlice S4x4096x688 ![4, 0, 0] (V m c main_v27 : FVec Ideal S8x4096x688 .bf16) slices_S8x4096x688_S4x4096x688_4_0_0 := by
  unfold V
  after_reads_simp
theorem V_v33 (c : Dev nD) : (V m c main_v33 : FVec Ideal S4x4096x688 .bf16)
    = extractStridedSlice S4x4096x688 ![0, 0, 0] (V m c main_v30 : FVec Ideal S8x4096x688 .bf16) slices_S8x4096x688_S4x4096x688_0_0_0 := by
  unfold V
  after_reads_simp
theorem V_v34 (c : Dev nD) : (V m c main_v34 : FVec Ideal S4x4096x688 .bf16)
    = extractStridedSlice S4x4096x688 ![4, 0, 0] (V m c main_v30 : FVec Ideal S8x4096x688 .bf16) slices_S8x4096x688_S4x4096x688_4_0_0 := by
  unfold V
  after_reads_simp

/-- The up-projection in groups of features. -/
theorem v27_at (c : Dev nD) (j : Fin 8) (n : Fin 4096) (k : Fin 688) :
    (V m c main_v27 : FVec Ideal S8x4096x688 .bf16) (ix3 j n k) = U (args m c) n.val (688 * j.val + k.val) := by
  rw [V_v27]
  unfold U
  generalize Cert.ReferenceIdeal.Read.val_main_v0 (F := Ideal) (args m c).h (args m c).up = u
  pointwise
  refine congrArg u (tix_eq _ _ _ _ _ ?_ ?_).symm <;> simp only <;> omega

/-- The convolved values in groups of features. -/
theorem v30_at (c : Dev nD) (j : Fin 8) (n : Fin 4096) (k : Fin 688) :
    (V m c main_v30 : FVec Ideal S8x4096x688 .bf16) (ix3 j n k) = C (args m c) n.val (688 * j.val + k.val) := by
  rw [V_v30, padded_eq, convOf_eq]
  unfold C
  generalize Cert.ReferenceIdeal.Read.val_main_v26 (F := Ideal) (args m c).h (args m c).up (args m c).cw (args m c).cb = u
  pointwise
  refine congrArg u (tix_eq _ _ _ _ _ ?_ ?_).symm <;> simp only <;> omega

theorem v31_at (c : Dev nD) (j : Fin 4) (n : Fin 4096) (k : Fin 688) :
    (V m c main_v31 : FVec Ideal S4x4096x688 .bf16) (ix3 j n k) = U (args m c) n.val (688 * j.val + k.val) := by
  have h := v27_at m c ⟨j.val, by omega⟩ n k
  rw [V_v31]
  revert h
  generalize (V m c main_v27 : FVec Ideal S8x4096x688 .bf16) = u
  intro h
  pointwise
  exact h

theorem v32_at (c : Dev nD) (j : Fin 4) (n : Fin 4096) (k : Fin 688) :
    (V m c main_v32 : FVec Ideal S4x4096x688 .bf16) (ix3 j n k) = U (args m c) n.val (688 * (4 + j.val) + k.val) := by
  have h := v27_at m c ⟨4 + j.val, by omega⟩ n k
  rw [V_v32]
  revert h
  generalize (V m c main_v27 : FVec Ideal S8x4096x688 .bf16) = u
  intro h
  pointwise
  exact h

theorem v33_at (c : Dev nD) (j : Fin 4) (n : Fin 4096) (k : Fin 688) :
    (V m c main_v33 : FVec Ideal S4x4096x688 .bf16) (ix3 j n k) = C (args m c) n.val (688 * j.val + k.val) := by
  have h := v30_at m c ⟨j.val, by omega⟩ n k
  rw [V_v33]
  revert h
  generalize (V m c main_v30 : FVec Ideal S8x4096x688 .bf16) = u
  intro h
  pointwise
  exact h

theorem v34_at (c : Dev nD) (j : Fin 4) (n : Fin 4096) (k : Fin 688) :
    (V m c main_v34 : FVec Ideal S4x4096x688 .bf16) (ix3 j n k) = C (args m c) n.val (688 * (4 + j.val) + k.val) := by
  have h := v30_at m c ⟨4 + j.val, by omega⟩ n k
  rw [V_v34]
  revert h
  generalize (V m c main_v30 : FVec Ideal S8x4096x688 .bf16) = u
  intro h
  pointwise
  exact h

/-- The incoming gradient, the two sequences in one array. -/
theorem v45_at (c : Dev nD) (n : Fin 4096) (q : Fin 1024) :
    (V m c main_v45 : FVec Ideal S4096x1024 .f32) (ix2 n q) = (args m c).dy (mix n.val q.val) := by
  unfold V
  after_reads_at
  refine congrArg (args m c).dy (mix_eq _ _ _ _ _ ?_ ?_).symm <;> simp only <;> omega

/-- The down-projection's weights in groups of hidden features. -/
theorem v44_at (c : Dev nD) (j : Fin 4) (k : Fin 688) (q : Fin 1024) :
    (V m c main_v44 : FVec Ideal S4x688x1024 .bf16) (ix3 j k q) = Wd (args m c) (688 * j.val + k.val) q.val := by
  unfold V
  after_reads_at
  refine congrArg (args m c).down (congrArg₂ ix2 (Fin.ext ?_) (Fin.ext ?_)) <;> simp only <;> omega

/-- The up-projection's weights, transposed and in groups of features. -/
theorem v37_at (c : Dev nD) (j : Fin 8) (k : Fin 688) (q : Fin 1024) :
    (V m c main_v37 : FVec Ideal S8x688x1024 .bf16) (ix3 j k q) = Wu (args m c) q.val (688 * j.val + k.val) := by
  unfold V
  after_reads_at
  refine congrArg (args m c).up (congrArg₂ ix2 (Fin.ext ?_) (Fin.ext ?_)) <;> simp only <;> omega

/-- The taps in groups of features, in the first three of eight rows. -/
theorem v42_at (c : Dev nD) (j : Fin 8) (r : Fin 8) (k : Fin 688) (hr : r.val < 3) :
    (V m c main_v42 : FVec Ideal S8x8x688 .f32) (ix3 j r k) = W (args m c) r.val (688 * j.val + k.val) := by
  unfold V
  after_reads_at
  rw [dif_pos (by omega), dif_pos hr]
  after_reads_at
  refine congrArg (args m c).cw (congrArg₂ ix2 (Fin.ext ?_) (Fin.ext ?_)) <;> simp only <;> omega

end Cert.FfnBwd

end
-- ==== Proof.Values.lean ====
module

public import proofs.«01_k».proof.Proof.Tile
public import proofs.«01_k».proof.Proof.Blocks
public import proofs.«01_k».proof.Proof.Host

@[expose] public section

set_option maxRecDepth 16384

noncomputable section

namespace Cert.FfnBwd

open Cert.KernelIdeal Cert.KernelIdeal.Gen
open Idealize.ShloMosaic Idealize.ShloMosaic.TcCoe

/-! # What one grid point computes, in the arguments

Point `t` computes, for the 512 tokens of tile `t / 4` and the 688 features of group `t % 4` of either half, the gradients
that Spec.lean names. -/

variable (m : (ℓ : Loc nD τ sig) → Buf (Elt Ideal) ℓ)

/-- The gradient of the activation at point `t`, sixteen rows ahead included. -/
abbrev dTile (c : Dev nD) (t : Fin cfg0.N) : FVec Ideal S528x688 .f32 :=
  k0_pay3 (grid0.coords t) (iblk m c 1 t) (iblk m c 0 t) (iblk m c 12 t)

/-- The gate half of the convolved values at point `t`, sixteen rows ahead included. -/
abbrev cTile (c : Dev nD) (t : Fin cfg0.N) : FVec Ideal S528x688 .f32 := k0_pay4 (iblk m c 4 t) (iblk m c 5 t)

/-- The gradient of the gate half. -/
abbrev gateTile (c : Dev nD) (t : Fin cfg0.N) : FVec Ideal S528x688 .f32 :=
  k0_pay9 (dTile m c t) (cTile m c t) (iblk m c 6 t) (iblk m c 7 t)

/-- The gradient of the value half. -/
abbrev valTile (c : Dev nD) (t : Fin cfg0.N) : FVec Ideal S528x688 .f32 := k0_pay8 (dTile m c t) (cTile m c t)

theorem dTile_at (c : Dev nD) (t : Fin cfg0.N) (r : Fin 528) (k : Fin 688) :
    dTile m c t (ix2 r k) = if t.val / 4 % 4 = 3 ∧ 512 ≤ r.val then (0 : EReal) else D (args m c) (512 * (t.val / 4) + r.val) (688 * (t.val % 4) + k.val) := by
  have ht := lt32 t
  rw [dTile, pay3_at, coord_tile]
  unfold D
  by_cases h : r.val < 512
  · rw [dif_pos h, if_neg (by omega), Finset.sum_range]
    refine Finset.sum_congr rfl fun q _ => ?_
    rw [dy_at, wd_at, v45_at, v44_at]
  · rw [dif_neg h]
    by_cases h3 : t.val / 4 % 4 = 3
    · rw [if_pos h3, if_pos ⟨h3, by omega⟩]
    · rw [if_neg h3, if_neg (by omega), Finset.sum_range]
      refine Finset.sum_congr rfl fun q _ => ?_
      rw [dyAhead_at, wd_at, v45_at, v44_at]
      dsimp only
      rw [show min (512 * (t.val / 4 + 1)) 4080 + (r.val - 512) = 512 * (t.val / 4) + r.val by omega]

theorem cTile_at (c : Dev nD) (t : Fin cfg0.N) (r : Fin 528) (k : Fin 688) (h3 : ¬ (t.val / 4 % 4 = 3 ∧ 512 ≤ r.val)) :
    cTile m c t (ix2 r k) = C (args m c) (512 * (t.val / 4) + r.val) (688 * (t.val % 4) + k.val) := by
  have ht := lt32 t
  rw [cTile, pay4_at]
  by_cases h : r.val < 512
  · rw [dif_pos h, pg_at, v33_at]
  · rw [dif_neg h, pgAhead_at, v33_at]
    dsimp only
    rw [show min (512 * (t.val / 4 + 1)) 4080 + (r.val - 512) = 512 * (t.val / 4) + r.val by omega]

theorem vTile_at (c : Dev nD) (t : Fin cfg0.N) (r : Fin 528) (k : Fin 688) (h3 : ¬ (t.val / 4 % 4 = 3 ∧ 512 ≤ r.val)) :
    (k0_pay5 (F := Ideal) (iblk m c 6 t) (iblk m c 7 t) (ix2 r k) : EReal) = C (args m c) (512 * (t.val / 4) + r.val) (2752 + (688 * (t.val % 4) + k.val)) := by
  have ht := lt32 t
  rw [pay5_at, show 2752 + (688 * (t.val % 4) + k.val) = 688 * (4 + t.val % 4) + k.val by omega]
  by_cases h : r.val < 512
  · rw [dif_pos h, pv_at, v34_at]
  · rw [dif_neg h, pvAhead_at, v34_at]
    dsimp only
    rw [show min (512 * (t.val / 4 + 1)) 4080 + (r.val - 512) = 512 * (t.val / 4) + r.val by omega]

theorem gateTile_at (c : Dev nD) (t : Fin cfg0.N) (r : Fin 528) (k : Fin 688) :
    gateTile m c t (ix2 r k) = if t.val / 4 % 4 = 3 ∧ 512 ≤ r.val then (0 : EReal) else DC (args m c) (512 * (t.val / 4) + r.val) (688 * (t.val % 4) + k.val) := by
  rw [gateTile, pay9_at, dTile_at]
  by_cases h : t.val / 4 % 4 = 3 ∧ 512 ≤ r.val
  · rw [if_pos h, if_pos h]; simp only [zero_mul, mul_zero, add_zero]
  · rw [if_neg h, if_neg h, cTile_at m c t r k h, vTile_at m c t r k h]
    unfold DC
    rw [if_pos (by omega)]
    rfl

theorem valTile_at (c : Dev nD) (t : Fin cfg0.N) (r : Fin 528) (k : Fin 688) :
    valTile m c t (ix2 r k) = if t.val / 4 % 4 = 3 ∧ 512 ≤ r.val then (0 : EReal) else DC (args m c) (512 * (t.val / 4) + r.val) (688 * (4 + t.val % 4) + k.val) := by
  rw [valTile, pay8_at, dTile_at]
  by_cases h : t.val / 4 % 4 = 3 ∧ 512 ≤ r.val
  · rw [if_pos h, if_pos h, mul_zero]
  · rw [if_neg h, if_neg h, cTile_at m c t r k h]
    unfold DC
    rw [if_neg (by omega), show 688 * (4 + t.val % 4) + k.val - 2752 = 688 * (t.val % 4) + k.val by omega]
    rfl

/-- Some tokens ahead of a token of the tile: nothing past the end of the sequence. -/
theorem gate_ahead (c : Dev nD) (t : Fin cfg0.N) (r : Fin 512) (k : Fin 688) (s : ℕ) (hs : s ≤ 2) (h : r.val + s < 528) :
    gateTile m c t (ix2 ⟨r.val + s, h⟩ k) = DCz (args m c) s (512 * (t.val / 4) + r.val) (688 * (t.val % 4) + k.val) := by
  rw [gateTile_at]
  unfold DCz
  simp only
  by_cases h3 : t.val / 4 % 4 = 3 ∧ 512 ≤ r.val + s
  · rw [if_pos h3, if_neg (by omega)]
  · rw [if_neg h3, if_pos (by omega), ← Nat.add_assoc]

theorem val_ahead (c : Dev nD) (t : Fin cfg0.N) (r : Fin 512) (k : Fin 688) (s : ℕ) (hs : s ≤ 2) (h : r.val + s < 528) :
    valTile m c t (ix2 ⟨r.val + s, h⟩ k) = DCz (args m c) s (512 * (t.val / 4) + r.val) (688 * (4 + t.val % 4) + k.val) := by
  rw [valTile_at]
  unfold DCz
  simp only
  by_cases h3 : t.val / 4 % 4 = 3 ∧ 512 ≤ r.val + s
  · rw [if_pos h3, if_neg (by omega)]
  · rw [if_neg h3, if_pos (by omega), ← Nat.add_assoc]

theorem tapG_at (c : Dev nD) (t : Fin cfg0.N) (r : Fin 8) (k : Fin 688) (hr : r.val < 3) :
    (iblk m c 10 t (ix3 0 r k) : EReal) = W (args m c) r.val (688 * (t.val % 4) + k.val) := by
  rw [cg_at, v42_at m c _ r k hr]

theorem tapV_at (c : Dev nD) (t : Fin cfg0.N) (r : Fin 8) (k : Fin 688) (hr : r.val < 3) :
    (iblk m c 11 t (ix3 0 r k) : EReal) = W (args m c) r.val (688 * (4 + t.val % 4) + k.val) := by
  rw [cv_at, v42_at m c _ r k hr]
  dsimp only
  rw [Nat.add_comm (t.val % 4) 4]

/-- The gate half of the up-projection's gradient. -/
theorem duG_at (c : Dev nD) (t : Fin cfg0.N) (r : Fin 512) (k : Fin 688) :
    (k0_pay17 (k0_pay15 (dTile m c t) (cTile m c t) (iblk m c 6 t) (iblk m c 7 t) (iblk m c 10 t)) (ix2 r k) : EReal)
      = DU (args m c) (512 * (t.val / 4) + r.val) (688 * (t.val % 4) + k.val) := by
  rw [pay17_at]
  have e0 := gate_ahead m c t r k 0 (by omega) (by omega)
  have e1 := gate_ahead m c t r k 1 (by omega) (by omega)
  have e2 := gate_ahead m c t r k 2 (by omega) (by omega)
  have w0 := tapG_at m c t 0 k (by decide)
  have w1 := tapG_at m c t 1 k (by decide)
  have w2 := tapG_at m c t 2 k (by decide)
  unfold DU
  exact congrArg₂ (· + ·) (congrArg₂ (· + ·) (congrArg₂ (· * ·) w2 e0) (congrArg₂ (· * ·) w1 e1)) (congrArg₂ (· * ·) w0 e2)

/-- The value half of the up-projection's gradient. -/
theorem duV_at (c : Dev nD) (t : Fin cfg0.N) (r : Fin 512) (k : Fin 688) :
    (k0_pay27 (k0_pay21 (valTile m c t) (k0_pay11 (iblk m c 11 t))) (ix2 r k) : EReal)
      = DU (args m c) (512 * (t.val / 4) + r.val) (688 * (4 + t.val % 4) + k.val) := by
  rw [pay27_at]
  have e0 := val_ahead m c t r k 0 (by omega) (by omega)
  have e1 := val_ahead m c t r k 1 (by omega) (by omega)
  have e2 := val_ahead m c t r k 2 (by omega) (by omega)
  have w0 := tapV_at m c t 0 k (by decide)
  have w1 := tapV_at m c t 1 k (by decide)
  have w2 := tapV_at m c t 2 k (by decide)
  unfold DU
  exact congrArg₂ (· + ·) (congrArg₂ (· + ·) (congrArg₂ (· * ·) w2 e0) (congrArg₂ (· * ·) w1 e1)) (congrArg₂ (· * ·) w0 e2)

theorem ugAt_at (c : Dev nD) (t : Fin cfg0.N) (r : Fin 512) (k : Fin 688) :
    (ugAt m c t (ix3 0 r k) : EReal) = DU (args m c) (512 * (t.val / 4) + r.val) (688 * (t.val % 4) + k.val) := by
  unfold ugAt outUg
  rw [pay28_at]
  exact duG_at m c t r k

theorem uvAt_at (c : Dev nD) (t : Fin cfg0.N) (r : Fin 512) (k : Fin 688) :
    (uvAt m c t (ix3 0 r k) : EReal) = DU (args m c) (512 * (t.val / 4) + r.val) (688 * (4 + t.val % 4) + k.val) := by
  unfold uvAt outUv
  rw [pay29_at]
  exact duV_at m c t r k

theorem actAt_at (c : Dev nD) (t : Fin cfg0.N) (r : Fin 512) (k : Fin 688) :
    (actAt m c t (ix3 0 r k) : EReal) = Act (args m c) (512 * (t.val / 4) + r.val) (688 * (t.val % 4) + k.val) := by
  unfold actAt outAct Act actOf
  rw [pay10_at]
  have e0 := cTile_at m c t ⟨r.val, by omega⟩ k (by simp only; omega)
  have e1 := vTile_at m c t ⟨r.val, by omega⟩ k (by simp only; omega)
  rw [cTile] at e0
  rw [e0, e1]

/-- One tile's part of the gradient of the taps and the bias is its tokens' parts. -/
theorem tilePart_eq (a : Args) (z : Fin 528 → EReal) (u : Fin 512 → EReal) (n₀ f : ℕ) (r : ℕ)
    (hz : ∀ (n : Fin 512) (s : ℕ) (hs : s ≤ 2) (h : n.val + s < 528), z ⟨n.val + s, h⟩ = DCz a s (n₀ + n.val) f)
    (hu : ∀ n : Fin 512, u n = U a (n₀ + n.val) f) :
    tilePart z u r = ∑ n ∈ Finset.range 512, part a r (n₀ + n) f := by
  unfold tilePart part
  by_cases h : r < 3
  · rw [if_pos h, Finset.sum_range]
    refine Finset.sum_congr rfl fun n _ => ?_
    rw [if_pos h, hz n (2 - r) (by omega), hu]
  · rw [if_neg h]
    by_cases h' : r = 3
    · rw [if_pos h', Finset.sum_range]
      refine Finset.sum_congr rfl fun n _ => ?_
      rw [if_neg h, if_pos h', ← hz n 0 (by omega) (by omega)]
      rfl
    · rw [if_neg h']
      exact (Finset.sum_eq_zero fun n _ => by rw [if_neg h, if_neg h']).symm

theorem gAt_at (c : Dev nD) (t : Fin cfg0.N) (r : Fin 8) (k : Fin 688) :
    (gAt m c t (ix2 r k) : EReal) = ∑ n ∈ Finset.range 512, part (args m c) r.val (512 * (t.val / 4) + n) (688 * (t.val % 4) + k.val) := by
  unfold gAt gradG
  rw [pay16_at]
  refine tilePart_eq (args m c) _ _ _ _ r.val (fun n s hs h => gate_ahead m c t n k s hs h) fun n => ?_
  rw [ug_at, v31_at]

theorem vAt_at (c : Dev nD) (t : Fin cfg0.N) (r : Fin 8) (k : Fin 688) :
    (vAt m c t (ix2 r k) : EReal) = ∑ n ∈ Finset.range 512, part (args m c) r.val (512 * (t.val / 4) + n) (688 * (4 + t.val % 4) + k.val) := by
  unfold vAt gradV
  rw [pay26_at]
  refine tilePart_eq (args m c) _ _ _ _ r.val (fun n s hs h => val_ahead m c t n k s hs h) fun n => ?_
  rw [uv_at, v32_at]

theorem pt_of_lt (n : ℕ) (h : n < 32) : (pt n).val = n := Nat.mod_eq_of_lt h

/-- The gate taps' row after a tile: its tokens' and the earlier ones' parts. -/
theorem rowG_at (c : Dev nD) (j : ℕ) (hj : j < 4) (r : Fin 8) (k : Fin 688) (i : ℕ) (hi : i < 8) :
    (rowGAt m c (4 * i + j) (ix3 0 r k) : EReal) = ∑ n ∈ Finset.range (512 * (i + 1)), part (args m c) r.val n (688 * j + k.val) := by
  have e : (gAt m c (pt (4 * i + j)) (ix2 r k) : EReal) = ∑ n ∈ Finset.range 512, part (args m c) r.val (512 * i + n) (688 * j + k.val) := by
    rw [gAt_at, pt_of_lt _ (by omega), show (4 * i + j) / 4 = i by omega, show (4 * i + j) % 4 = j by omega]
  induction i with
  | zero =>
    rw [rowGAt_first m c _ (by omega), pay1_at, pay33_at, zero_add, e]
    exact Finset.sum_congr rfl fun n _ => by rw [Nat.mul_zero, Nat.zero_add]
  | succ i ih =>
    rw [rowGAt_rest m c _ (by omega), pay1_at, e, show 4 * (i + 1) + j - 4 = 4 * i + j by omega, ih (by omega) ?_,
      show 512 * (i + 1 + 1) = 512 * (i + 1) + 512 by omega, Finset.sum_range_add]
    rw [gAt_at, pt_of_lt _ (by omega), show (4 * i + j) / 4 = i by omega, show (4 * i + j) % 4 = j by omega]

/-- The value taps' row after a tile. -/
theorem rowV_at (c : Dev nD) (j : ℕ) (hj : j < 4) (r : Fin 8) (k : Fin 688) (i : ℕ) (hi : i < 8) :
    (rowVAt m c (4 * i + j) (ix3 0 r k) : EReal) = ∑ n ∈ Finset.range (512 * (i + 1)), part (args m c) r.val n (688 * (4 + j) + k.val) := by
  have e : (vAt m c (pt (4 * i + j)) (ix2 r k) : EReal) = ∑ n ∈ Finset.range 512, part (args m c) r.val (512 * i + n) (688 * (4 + j) + k.val) := by
    rw [vAt_at, pt_of_lt _ (by omega), show (4 * i + j) / 4 = i by omega, show (4 * i + j) % 4 = j by omega]
  induction i with
  | zero =>
    rw [rowVAt_first m c _ (by omega), pay2_at, pay34_at, zero_add, e]
    exact Finset.sum_congr rfl fun n _ => by rw [Nat.mul_zero, Nat.zero_add]
  | succ i ih =>
    rw [rowVAt_rest m c _ (by omega), pay2_at, e, show 4 * (i + 1) + j - 4 = 4 * i + j by omega, ih (by omega) ?_,
      show 512 * (i + 1 + 1) = 512 * (i + 1) + 512 by omega, Finset.sum_range_add]
    rw [vAt_at, pt_of_lt _ (by omega), show (4 * i + j) / 4 = i by omega, show (4 * i + j) % 4 = j by omega]

/-- One group's share of the hidden state's gradient: features of both halves. -/
def groupDH (a : Args) (n q j : ℕ) : EReal :=
  (∑ k ∈ Finset.range 688, DU a n (688 * j + k) * Wu a q (688 * j + k))
    + ∑ k ∈ Finset.range 688, DU a n (688 * (4 + j) + k) * Wu a q (688 * (4 + j) + k)

theorem accNext_at (c : Dev nD) (t : Fin cfg0.N) (s : Vec Ideal S512x1024 .f32) (r : Fin 512) (q : Fin 1024) :
    (accNext m c t s (ix2 r q) : EReal) = (if t.val % 4 = 0 then (0 : EReal) else s (ix2 r q)) + groupDH (args m c) (512 * (t.val / 4) + r.val) q.val (t.val % 4) := by
  have e : (k0_pay30 (k0_pay17 (k0_pay15 (dTile m c t) (cTile m c t) (iblk m c 6 t) (iblk m c 7 t) (iblk m c 10 t))) (k0_pay21 (valTile m c t) (k0_pay11 (iblk m c 11 t))) (iblk m c 8 t) (iblk m c 9 t) (ix2 r q) : EReal)
      = groupDH (args m c) (512 * (t.val / 4) + r.val) q.val (t.val % 4) := by
    rw [pay30_at]
    unfold groupDH
    rw [Finset.sum_range, Finset.sum_range]
    refine congrArg₂ (· + ·) (Finset.sum_congr rfl fun k _ => ?_) (Finset.sum_congr rfl fun k _ => ?_)
    · rw [duG_at, wg_at, v37_at]
    · rw [duV_at, wv_at, v37_at]
      dsimp only
      rw [Nat.add_comm (t.val % 4) 4]
  unfold accNext accStep
  by_cases h : t.val % 4 = 0
  · rw [if_pos ((isJ0_iff t).mpr h), if_pos h, zero_add, pay31_at]
    exact e
  · rw [if_neg (fun h' => h ((isJ0_iff t).mp h')), if_neg h, pay32_at]
    exact congrArg (s (ix2 r q) + ·) e

theorem DH_groups (a : Args) (n q : ℕ) : DH a n q = groupDH a n q 0 + groupDH a n q 1 + groupDH a n q 2 + groupDH a n q 3 := by
  unfold DH groupDH
  rw [show (5504 : ℕ) = 688 * 8 from rfl, sum_blocks]
  simp only [Finset.sum_range_succ (n := 7), Finset.sum_range_succ (n := 6), Finset.sum_range_succ (n := 5), Finset.sum_range_succ (n := 4),
    Finset.sum_range_succ (n := 3), Finset.sum_range_succ (n := 2), Finset.sum_range_succ (n := 1), Finset.sum_range_succ (n := 0), Finset.sum_range_zero, zero_add]
  abel

/-- After a tile's last group the accumulator holds the hidden state's gradient. -/
theorem acc_at (c : Dev nD) (i : ℕ) (hi : i < 8) (r : Fin 512) (q : Fin 1024) :
    (accAfter m c (4 * i + 3) (ix2 r q) : EReal) = DH (args m c) (512 * i + r.val) q.val := by
  have step : ∀ n, n < 32 → n % 4 ≠ 0 → (accAfter m c n (ix2 r q) : EReal)
      = accAfter m c (n - 1) (ix2 r q) + groupDH (args m c) (512 * (n / 4) + r.val) q.val (n % 4) := fun n hn h => by
    have e := accAfter_pos m c (pt n) (by rw [pt_of_lt n hn]; omega)
    rw [pt_of_lt n hn] at e
    rw [e, accNext_at, pt_of_lt n hn, if_neg h]
  have first : (accAfter m c (4 * i) (ix2 r q) : EReal) = groupDH (args m c) (512 * i + r.val) q.val 0 := by
    by_cases h : i = 0
    · have e := accAfter_zero m c (pt (4 * i)) (by rw [pt_of_lt _ (by omega)]; omega) (fun _ => Scalar.ofBits (F := Ideal) .f32 0#32)
      rw [pt_of_lt _ (by omega)] at e
      rw [e, accNext_at, pt_of_lt _ (by omega), if_pos (by omega), zero_add, show 4 * i / 4 = i by omega, show 4 * i % 4 = 0 by omega]
    · have e := accAfter_pos m c (pt (4 * i)) (by rw [pt_of_lt _ (by omega)]; omega)
      rw [pt_of_lt _ (by omega)] at e
      rw [e, accNext_at, pt_of_lt _ (by omega), if_pos (by omega), zero_add, show 4 * i / 4 = i by omega, show 4 * i % 4 = 0 by omega]
  rw [DH_groups, step _ (by omega) (by omega), show 4 * i + 3 - 1 = 4 * i + 2 by omega, step (4 * i + 2) (by omega) (by omega),
    show 4 * i + 2 - 1 = 4 * i + 1 by omega, step (4 * i + 1) (by omega) (by omega), show 4 * i + 1 - 1 = 4 * i by omega, first,
    show (4 * i + 1) / 4 = i by omega, show (4 * i + 2) / 4 = i by omega, show (4 * i + 3) / 4 = i by omega,
    show (4 * i + 1) % 4 = 1 by omega, show (4 * i + 2) % 4 = 2 by omega, show (4 * i + 3) % 4 = 3 by omega]

end Cert.FfnBwd

end
-- ==== Proof.RefRead.lean ====
module

public import proofs.«01_k».proof.Proof.Spec

@[expose] public section

set_option maxRecDepth 16384

noncomputable section

namespace Cert.FfnBwd

open Idealize.ShloMosaic Idealize.ShloMosaic.TcCoe
open Cert.ReferenceIdeal Cert.ReferenceIdeal.Gen Cert.ReferenceIdeal.Read

/-! # The reference's values at an index

Each stage of the reference, read at sequence `x`, token `y` and a feature, is what Spec.lean names. -/

variable (a : Args)

theorem r27 (x : Fin 2) (y : Fin 2048) (k : Fin 2752) :
    (val_main_v27 (F := Ideal) a.h a.up a.cw a.cb (ix3 x y k) : EReal) = C a (x.val * 2048 + y.val) k.val := by
  unfold val_main_v27 C
  generalize val_main_v26 (F := Ideal) a.h a.up a.cw a.cb = u
  pointwise
  exact congrArg u (tix_eq _ _ _ _ _ (by simp) (by simp)).symm

theorem r28 (x : Fin 2) (y : Fin 2048) (k : Fin 2752) :
    (val_main_v28 (F := Ideal) a.h a.up a.cw a.cb (ix3 x y k) : EReal) = C a (x.val * 2048 + y.val) (2752 + k.val) := by
  unfold val_main_v28 C
  generalize val_main_v26 (F := Ideal) a.h a.up a.cw a.cb = u
  pointwise
  exact congrArg u (tix_eq _ _ _ _ _ (by simp) (by simp)).symm

theorem r29 (x : Fin 2) (y : Fin 2048) (k : Fin 2752) :
    (val_main_v29_2 (F := Ideal) a.h a.up a.cw a.cb (ix3 x y k) : EReal) = Ideal.logistic (C a (x.val * 2048 + y.val) k.val) := by
  rw [← r27]
  unfold val_main_v29_2 val_main_call0_v3 val_main_call0_v1 val_main_call0_v0 val_main_call0_v2 val_main_call0_v4 val_main_call0_cst val_main_call0_cst_0
  generalize val_main_v27 (F := Ideal) a.h a.up a.cw a.cb = u
  pointwise
  rfl

theorem r30 (x : Fin 2) (y : Fin 2048) (k : Fin 2752) :
    (val_main_v30 (F := Ideal) a.h a.up a.cw a.cb (ix3 x y k) : EReal) = Act a (x.val * 2048 + y.val) k.val := by
  unfold Act actOf
  rw [← r29, ← r27, ← r28]
  rfl

theorem r32 (x : Fin 2) (y : Fin 2048) (k : Fin 2752) :
    (val_main_v32 (F := Ideal) a.down a.dy (ix3 x y k) : EReal) = D a (x.val * 2048 + y.val) k.val := by
  unfold D Wd val_main_v32
  rw [Finset.sum_range]
  pointwise
  refine Finset.sum_congr rfl fun q _ => ?_
  rw [mix_eq x y q _ _ rfl rfl]
  refine congrArg₂ (· * ·) rfl (congrArg a.down (congrArg₂ ix2 (Fin.ext ?_) (Fin.ext ?_))) <;> simp only <;> omega

theorem r33 (x : Fin 2) (y : Fin 2048) (k : Fin 2752) :
    (val_main_v33 (F := Ideal) a.h a.up a.cw a.cb a.down a.dy (ix3 x y k) : EReal) = gradVal (C a (x.val * 2048 + y.val) k.val) (D a (x.val * 2048 + y.val) k.val) := by
  unfold gradVal
  rw [← r29, ← r27, ← r32]
  rfl

theorem r35 (x : Fin 2) (y : Fin 2048) (k : Fin 2752) :
    (val_main_v35 (F := Ideal) a.h a.up a.cw a.cb a.down a.dy (ix3 x y k) : EReal)
      = gradGate (C a (x.val * 2048 + y.val) k.val) (C a (x.val * 2048 + y.val) (2752 + k.val)) (D a (x.val * 2048 + y.val) k.val) := by
  have h1 : (val_main_v29_1 (F := Ideal) a.h a.up a.cw a.cb (ix3 x y k) : EReal)
      = val_main_v29_2 (F := Ideal) a.h a.up a.cw a.cb (ix3 x y k) * (1 - val_main_v29_2 (F := Ideal) a.h a.up a.cw a.cb (ix3 x y k)) := by
    unfold val_main_v29_1 val_main_call0_v7 val_main_call0_v6 val_main_call0_cst_1
    generalize val_main_v29_2 (F := Ideal) a.h a.up a.cw a.cb = u
    pointwise
  unfold gradGate
  rw [← r29, ← r27, ← r32, ← r28, ← h1]
  rfl

/-- The gradient of the convolved values, both halves. -/
theorem r36 (x : Fin 2) (y : Fin 2048) (f : Fin 5504) :
    (val_main_v36 (F := Ideal) a.h a.up a.cw a.cb a.down a.dy (ix3 x y f) : EReal) = DC a (x.val * 2048 + y.val) f.val := by
  have h1 := fun k => r35 a x y k
  have h2 := fun k => r33 a x y k
  unfold val_main_v36 DC
  revert h1 h2
  generalize val_main_v35 (F := Ideal) a.h a.up a.cw a.cb a.down a.dy = u
  generalize val_main_v33 (F := Ideal) a.h a.up a.cw a.cb a.down a.dy = v
  intro h1 h2
  pointwise
  by_cases h : f.val < 2752
  · rw [dif_pos h, if_pos h, h1]
  · rw [dif_neg h, if_neg h, h2]

theorem r20 (f : Fin 5504) : (val_main_v20 (F := Ideal) a.cw (ix3 0 0 f) : EReal) = W a 2 f.val := by
  unfold W val_main_v20 val_main_v19 val_main_v18
  pointwise
  exact congrArg a.cw (congrArg₂ ix2 (Fin.ext rfl) (Fin.ext (by simp only; omega)))

theorem r13 (f : Fin 5504) : (val_main_v13 (F := Ideal) a.cw (ix3 0 0 f) : EReal) = W a 1 f.val := by
  unfold W val_main_v13 val_main_v12 val_main_v11
  pointwise
  exact congrArg a.cw (congrArg₂ ix2 (Fin.ext rfl) (Fin.ext (by simp only; omega)))

theorem r7 (f : Fin 5504) : (val_main_v7 (F := Ideal) a.cw (ix3 0 0 f) : EReal) = W a 0 f.val := by
  unfold W val_main_v7 val_main_v6 val_main_v5
  pointwise
  exact congrArg a.cw (congrArg₂ ix2 (Fin.ext rfl) (Fin.ext (by simp only; omega)))

/-- The gradient of the up-projection, before the two rows in front are dropped. -/
theorem r72 (x : Fin 2) (y : Fin 2048) (f : Fin 5504) :
    (val_main_v72 (F := Ideal) a.h a.up a.cw a.cb a.down a.dy (ix3 x y f) : EReal) = DU a (x.val * 2048 + y.val) f.val := by
  have h0 := fun y => r36 a x y f
  have w0 := r7 a f
  have w1 := r13 a f
  have w2 := r20 a f
  unfold val_main_v72 val_main_v70 val_main_v59 val_main_v48 val_main_v58 val_main_v69 val_main_v44 val_main_v53 val_main_v64
    val_main_v43 val_main_v52 val_main_v63 val_main_cst_6 val_main_cst_10 val_main_cst_14
  revert h0 w0 w1 w2
  generalize val_main_v36 (F := Ideal) a.h a.up a.cw a.cb a.down a.dy = u
  generalize val_main_v7 (F := Ideal) a.cw = t0
  generalize val_main_v13 (F := Ideal) a.cw = t1
  generalize val_main_v20 (F := Ideal) a.cw = t2
  intro h0 w0 w1 w2
  pointwise
  have e0 : (u (ix3 x y f) * t2 (ix3 0 0 f) : EReal) = W a 2 f.val * DCz a 0 (x.val * 2048 + y.val) f.val := by
    rw [h0, w2, DCz_zero, mul_comm]
  have e1 : (if h : 1 ≤ 2 + y.val ∧ 2 + y.val - 1 < 2048 then (u (ix3 x ⟨2 + y.val - 1, h.2⟩ f) * t1 (ix3 0 0 f) : EReal) else 0)
      = W a 1 f.val * DCz a 1 (x.val * 2048 + y.val) f.val := by
    unfold DCz
    by_cases h : 1 ≤ 2 + y.val ∧ 2 + y.val - 1 < 2048
    · rw [dif_pos h, if_pos (by omega), h0, w1, mul_comm, show x.val * 2048 + y.val + 1 = x.val * 2048 + (2 + y.val - 1) by omega]
    · rw [dif_neg h, if_neg (by omega), mul_zero]
  have e2 : (if h : 2 + y.val < 2048 then (u (ix3 x ⟨2 + y.val, h⟩ f) * t0 (ix3 0 0 f) : EReal) else 0)
      = W a 0 f.val * DCz a 2 (x.val * 2048 + y.val) f.val := by
    unfold DCz
    by_cases h : 2 + y.val < 2048
    · rw [dif_pos h, if_pos (by omega), h0, w0, mul_comm, show x.val * 2048 + y.val + 2 = x.val * 2048 + (2 + y.val) by omega]
    · rw [dif_neg h, if_neg (by omega), mul_zero]
  unfold DU
  exact congrArg₂ (· + ·) (congrArg₂ (· + ·) e0 e1) e2

theorem r73 (x : Fin 2) (y : Fin 2048) (q : Fin 1024) :
    (val_main_v73 (F := Ideal) a.h a.up a.cw a.cb a.down a.dy (ix3 x y q) : EReal) = DH a (x.val * 2048 + y.val) q.val := by
  have h0 := fun f => r72 a x y f
  unfold val_main_v73 DH
  rw [Finset.sum_range]
  revert h0
  generalize val_main_v72 (F := Ideal) a.h a.up a.cw a.cb a.down a.dy = u
  intro h0
  pointwise
  refine Finset.sum_congr rfl fun f _ => ?_
  rw [h0]
  unfold Wu
  refine congrArg₂ (· * ·) rfl (congrArg a.up (congrArg₂ ix2 (Fin.ext ?_) (Fin.ext ?_))) <;> simp only <;> omega

/-! ## The sums over both sequences -/

/-- The indices that drop to `j` when the first two axes of three are reduced. -/
theorem fiber_front {n0 n1 n2 : ℕ} (h : (⟨3, ![n0, n1, n2]⟩ : Shape).ReducesTo [0, 1] ⟨1, ![n2]⟩) (j : Fin n2) (i : (⟨3, ![n0, n1, n2]⟩ : Shape).Idx) :
    h.drop i = ix1 j ↔ ∃ k : Fin n0 × Fin n1, ix3 k.1 k.2 j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem reduce_front {n0 n1 n2 : ℕ} {u : Shape} (h : (⟨3, ![n0, n1, n2]⟩ : Shape).ReducesTo [0, 1] ⟨1, ![n2]⟩) (x : FVec Ideal ⟨3, ![n0, n1, n2]⟩ .f32)
    (init : u.Idx → Ideal .f32) (hu : 0 < u.numel) (j : Fin n2) :
    (Host.reduceAdd x init h hu (ix1 j) : EReal) = init (Shape.Idx.first hu) + ∑ k0 : Fin n0, ∑ k1 : Fin n1, x (ix3 k0 k1 j) := by
  refine congrArg (init (Shape.Idx.first hu) + ·) ?_
  refine (Finset.sum_filter_eq_sum_of_fiber _ (fun k : Fin n0 × Fin n1 => ix3 k.1 k.2 j)
    (fun _ _ e => Prod.ext (congrFun e 0) (congrFun e 1)) (fiber_front h j) x).trans ?_
  simp only [Fintype.sum_prod_type]

/-- A sum over both sequences' tokens. -/
theorem sum_tokens (F : ℕ → EReal) : ∑ x : Fin 2, ∑ y : Fin 2048, F (x.val * 2048 + y.val) = ∑ n ∈ Finset.range 4096, F n := by
  rw [show (4096 : ℕ) = 2048 * 2 from rfl, sum_blocks, Finset.sum_range]
  refine Finset.sum_congr rfl fun x _ => ?_
  rw [Finset.sum_range]
  exact Finset.sum_congr rfl fun y _ => by rw [Nat.mul_comm]

theorem zero_first (hu : 0 < S_.numel) : (constant (F := Ideal) S_ .f32 0x00000000#32 (Shape.Idx.first hu) : EReal) = 0 := by
  pointwise

theorem r39 (f : Fin 5504) : (val_main_v39 (F := Ideal) a.h a.up a.cw a.cb a.down a.dy (ix1 f) : EReal) = CG a 3 f.val := by
  have h0 := fun x y => r36 a x y f
  unfold val_main_v39 val_main_cst_2
  rw [reduce_front, zero_first, zero_add]
  have e : (val_main_v38 (F := Ideal) a.h a.up a.cw a.cb a.down a.dy (ix3 0 0 f) : EReal) = CG a 3 f.val := by
    have : (val_main_v37 (F := Ideal) a.h a.up a.cw a.cb a.down a.dy (ix1 f) : EReal) = CG a 3 f.val := by
      unfold val_main_v37 val_main_cst_1
      rw [reduce_front, zero_first, zero_add]
      unfold CG part
      rw [← sum_tokens]
      refine Finset.sum_congr rfl fun x _ => Finset.sum_congr rfl fun y _ => ?_
      rw [h0, if_neg (by decide), if_pos rfl, DCz_zero]
    rw [← this]
    unfold val_main_v38
    generalize val_main_v37 (F := Ideal) a.h a.up a.cw a.cb a.down a.dy = u
    pointwise
  simpa using e

theorem r0 (x : Fin 2) (y : Fin 2048) (f : Fin 5504) : (val_main_v0 (F := Ideal) a.h a.up (ix3 x y f) : EReal) = U a (x.val * 2048 + y.val) f.val := by
  unfold U
  exact congrArg (val_main_v0 (F := Ideal) a.h a.up) (tix_eq x y f _ _ rfl rfl).symm

/-- The up-projection with two rows of zeros in front of either sequence. -/
theorem r2 (x : Fin 2) (y : Fin 2050) (f : Fin 5504) :
    (val_main_v2 (F := Ideal) a.h a.up (ix3 x y f) : EReal) = if 2 ≤ y.val then U a (x.val * 2048 + (y.val - 2)) f.val else 0 := by
  have h0 := fun y => r0 a x y f
  unfold val_main_v2 val_main_v1 val_main_cst
  revert h0
  generalize val_main_v0 (F := Ideal) a.h a.up = u
  intro h0
  pointwise
  by_cases h : y.val < 2
  · rw [dif_pos h, if_neg (by omega)]
  · rw [dif_neg h]
    exact (h0 ⟨y.val - 2, by omega⟩).trans (if_pos (by omega)).symm

theorem r17 (x : Fin 2) (y : Fin 2048) (f : Fin 5504) :
    (val_main_v17 (F := Ideal) a.h a.up (ix3 x y f) : EReal) = if 0 ≤ y.val then U a (x.val * 2048 + (y.val - 0)) f.val else 0 := by
  have h := r2 a x ⟨2 + y.val, by omega⟩ f
  unfold val_main_v17
  revert h
  generalize val_main_v2 (F := Ideal) a.h a.up = u
  intro h
  pointwise
  rw [h, if_pos (by simp only; omega)]
  simp only
  rw [show 2 + y.val - 2 = y.val by omega]

theorem r10 (x : Fin 2) (y : Fin 2048) (f : Fin 5504) :
    (val_main_v10 (F := Ideal) a.h a.up (ix3 x y f) : EReal) = if 1 ≤ y.val then U a (x.val * 2048 + (y.val - 1)) f.val else 0 := by
  have h := r2 a x ⟨1 + y.val, by omega⟩ f
  unfold val_main_v10
  revert h
  generalize val_main_v2 (F := Ideal) a.h a.up = u
  intro h
  pointwise
  rw [h]
  simp only
  rw [show 1 + y.val - 2 = y.val - 1 by omega]
  exact if_congr (by omega) rfl rfl

theorem r4 (x : Fin 2) (y : Fin 2048) (f : Fin 5504) :
    (val_main_v4 (F := Ideal) a.h a.up (ix3 x y f) : EReal) = if 2 ≤ y.val then U a (x.val * 2048 + (y.val - 2)) f.val else 0 := by
  have h := r2 a x ⟨y.val, by omega⟩ f
  unfold val_main_v4
  revert h
  generalize val_main_v2 (F := Ideal) a.h a.up = u
  intro h
  pointwise
  rw [h]

/-- A tap's gradient: the sum of the convolved values' gradient against the up-projection that the tap met. -/
theorem tap_sum (f r s : ℕ) (hr : r < 3) (hs : 2 - r = s) :
    ∑ x : Fin 2, ∑ y : Fin 2048, (if s ≤ y.val then U a (x.val * 2048 + (y.val - s)) f else 0) * DC a (x.val * 2048 + y.val) f = CG a r f := by
  unfold CG
  rw [← sum_tokens]
  refine Finset.sum_congr rfl fun x _ => ?_
  have e := sum_shift (fun y => U a (x.val * 2048 + y) f) (fun y => DC a (x.val * 2048 + y) f) 2048 s (by omega)
  rw [Finset.sum_range, Finset.sum_range] at e
  refine e.trans (Finset.sum_congr rfl fun y _ => ?_)
  unfold part DCz
  rw [if_pos hr, hs, Nat.add_assoc]
  exact congrArg₂ (· * ·) (if_congr (by omega) rfl rfl) rfl

theorem r45 (f : Fin 5504) : (val_main_v45 (F := Ideal) a.h a.up a.cw a.cb a.down a.dy (ix1 f) : EReal) = CG a 2 f.val := by
  unfold val_main_v45 val_main_cst_4
  rw [reduce_front, zero_first, zero_add]
  have e : (val_main_v42 (F := Ideal) a.h a.up a.cw a.cb a.down a.dy (ix3 0 0 f) : EReal) = CG a 2 f.val := by
    have : (val_main_v41 (F := Ideal) a.h a.up a.cw a.cb a.down a.dy (ix1 f) : EReal) = CG a 2 f.val := by
      unfold val_main_v41 val_main_cst_3
      rw [reduce_front, zero_first, zero_add, ← tap_sum a f.val 2 0 (by omega) rfl]
      refine Finset.sum_congr rfl fun x _ => Finset.sum_congr rfl fun y _ => ?_
      rw [← r17, ← r36]
      rfl
    rw [← this]
    unfold val_main_v42
    generalize val_main_v41 (F := Ideal) a.h a.up a.cw a.cb a.down a.dy = u
    pointwise
  simpa using e

theorem r54 (f : Fin 5504) : (val_main_v54 (F := Ideal) a.h a.up a.cw a.cb a.down a.dy (ix1 f) : EReal) = CG a 1 f.val := by
  unfold val_main_v54 val_main_cst_8
  rw [reduce_front, zero_first, zero_add]
  have e : (val_main_v51 (F := Ideal) a.h a.up a.cw a.cb a.down a.dy (ix3 0 0 f) : EReal) = CG a 1 f.val := by
    have : (val_main_v50 (F := Ideal) a.h a.up a.cw a.cb a.down a.dy (ix1 f) : EReal) = CG a 1 f.val := by
      unfold val_main_v50 val_main_cst_7
      rw [reduce_front, zero_first, zero_add, ← tap_sum a f.val 1 1 (by omega) rfl]
      refine Finset.sum_congr rfl fun x _ => Finset.sum_congr rfl fun y _ => ?_
      rw [← r10, ← r36]
      rfl
    rw [← this]
    unfold val_main_v51
    generalize val_main_v50 (F := Ideal) a.h a.up a.cw a.cb a.down a.dy = u
    pointwise
  simpa using e

theorem r65 (f : Fin 5504) : (val_main_v65 (F := Ideal) a.h a.up a.cw a.cb a.down a.dy (ix1 f) : EReal) = CG a 0 f.val := by
  unfold val_main_v65 val_main_cst_12
  rw [reduce_front, zero_first, zero_add]
  have e : (val_main_v62 (F := Ideal) a.h a.up a.cw a.cb a.down a.dy (ix3 0 0 f) : EReal) = CG a 0 f.val := by
    have : (val_main_v61 (F := Ideal) a.h a.up a.cw a.cb a.down a.dy (ix1 f) : EReal) = CG a 0 f.val := by
      unfold val_main_v61 val_main_cst_11
      rw [reduce_front, zero_first, zero_add, ← tap_sum a f.val 0 2 (by omega) rfl]
      refine Finset.sum_congr rfl fun x _ => Finset.sum_congr rfl fun y _ => ?_
      rw [← r4, ← r36]
      rfl
    rw [← this]
    unfold val_main_v62
    generalize val_main_v61 (F := Ideal) a.h a.up a.cw a.cb a.down a.dy = u
    pointwise
  simpa using e

/-- The rows below the bias are zero. -/
theorem CG_below (r f : ℕ) (h : 4 ≤ r) : CG a r f = 0 := by
  unfold CG part
  exact Finset.sum_eq_zero fun n _ => by rw [if_neg (by omega), if_neg (by omega)]

/-- The gradients of the taps and the bias, one below the other. -/
theorem r78 (r : Fin 8) (f : Fin 5504) : (val_main_v78 (F := Ideal) a.h a.up a.cw a.cb a.down a.dy (ix2 r f) : EReal) = CG a r.val f.val := by
  have e0 := r65 a f
  have e1 := r54 a f
  have e2 := r45 a f
  have e3 := r39 a f
  unfold val_main_v78 val_main_v68 val_main_v57 val_main_v47 val_main_v56 val_main_v67 val_main_v46 val_main_v55 val_main_v66 val_main_v76 val_main_v77
    val_main_cst_5 val_main_cst_9 val_main_cst_13 val_main_cst_15
  revert e0 e1 e2 e3
  generalize val_main_v65 (F := Ideal) a.h a.up a.cw a.cb a.down a.dy = u0
  generalize val_main_v54 (F := Ideal) a.h a.up a.cw a.cb a.down a.dy = u1
  generalize val_main_v45 (F := Ideal) a.h a.up a.cw a.cb a.down a.dy = u2
  generalize val_main_v39 (F := Ideal) a.h a.up a.cw a.cb a.down a.dy = u3
  intro e0 e1 e2 e3
  pointwise
  obtain ⟨r, hr⟩ := r
  rcases (by omega : r = 0 ∨ r = 1 ∨ r = 2 ∨ r = 3 ∨ 4 ≤ r) with rfl | rfl | rfl | rfl | h
  · simp [e0]
  · simp [e1]
  · simp [e2]
  · simp [e3]
  · rw [dif_neg (by simp only; omega), dif_neg (by simp only; omega), CG_below a _ _ h]

/-! ## The six results -/

theorem r81 (j : Fin 4) (n : Fin 4096) (k : Fin 688) :
    (val_main_v81 (F := Ideal) a.h a.up a.cw a.cb a.down a.dy (ix3 j n k) : EReal) = DU a n.val (688 * j.val + k.val) := by
  have h := fun x y f => r72 a x y f
  unfold val_main_v81 val_main_v80 val_main_v79 val_main_v74
  revert h
  generalize val_main_v72 (F := Ideal) a.h a.up a.cw a.cb a.down a.dy = u
  intro h
  pointwise
  rw [h]
  congr 1 <;> simp only <;> omega

theorem r84 (j : Fin 4) (n : Fin 4096) (k : Fin 688) :
    (val_main_v84 (F := Ideal) a.h a.up a.cw a.cb a.down a.dy (ix3 j n k) : EReal) = DU a n.val (688 * (4 + j.val) + k.val) := by
  have h := fun x y f => r72 a x y f
  unfold val_main_v84 val_main_v83 val_main_v82 val_main_v75
  revert h
  generalize val_main_v72 (F := Ideal) a.h a.up a.cw a.cb a.down a.dy = u
  intro h
  pointwise
  rw [h]
  congr 1 <;> simp only <;> omega

theorem r87 (j : Fin 4) (n : Fin 4096) (k : Fin 688) :
    (val_main_v87 (F := Ideal) a.h a.up a.cw a.cb (ix3 j n k) : EReal) = Act a n.val (688 * j.val + k.val) := by
  have h := fun x y f => r30 a x y f
  unfold val_main_v87 val_main_v86 val_main_v85
  revert h
  generalize val_main_v30 (F := Ideal) a.h a.up a.cw a.cb = u
  intro h
  pointwise
  rw [h]
  congr 1 <;> simp only <;> omega

theorem r88 (n : Fin 4096) (q : Fin 1024) :
    (val_main_v88 (F := Ideal) a.h a.up a.cw a.cb a.down a.dy (ix2 n q) : EReal) = DH a n.val q.val := by
  have h := fun x y f => r73 a x y f
  unfold val_main_v88
  revert h
  generalize val_main_v73 (F := Ideal) a.h a.up a.cw a.cb a.down a.dy = u
  intro h
  pointwise
  rw [h]
  congr 1 <;> simp only <;> omega

theorem r91 (j : Fin 4) (r : Fin 8) (k : Fin 688) :
    (val_main_v91 (F := Ideal) a.h a.up a.cw a.cb a.down a.dy (ix3 j r k) : EReal) = CG a r.val (688 * j.val + k.val) := by
  have h := fun r f => r78 a r f
  unfold val_main_v91 val_main_v90 val_main_v89
  revert h
  generalize val_main_v78 (F := Ideal) a.h a.up a.cw a.cb a.down a.dy = u
  intro h
  pointwise
  rw [h]
  congr 1 <;> simp only <;> omega

theorem r94 (j : Fin 4) (r : Fin 8) (k : Fin 688) :
    (val_main_v94 (F := Ideal) a.h a.up a.cw a.cb a.down a.dy (ix3 j r k) : EReal) = CG a r.val (688 * (4 + j.val) + k.val) := by
  have h := fun r f => r78 a r f
  unfold val_main_v94 val_main_v93 val_main_v92
  revert h
  generalize val_main_v78 (F := Ideal) a.h a.up a.cw a.cb a.down a.dy = u
  intro h
  pointwise
  rw [h]
  congr 1 <;> simp only <;> omega

end Cert.FfnBwd

end
-- ==== Proof.Equal.lean ====
module

public import proofs.«01_k».proof.Proof.Out
public import proofs.«01_k».proof.Proof.Values
public import proofs.«01_k».proof.Proof.RefRead

@[expose] public section

set_option maxRecDepth 16384

noncomputable section

namespace Cert.FfnBwd

open Cert.KernelIdeal Cert.KernelIdeal.Gen
open Idealize.ShloMosaic Idealize.ShloMosaic.TcCoe

/-! # The kernel's results are the reference's -/

variable (m : (ℓ : Loc nD τ sig) → Buf (Elt Ideal) ℓ)

/-- The grid point that works on token `n` and group `j`. -/
def ptOf (j : Fin 4) (n : Fin 4096) : Fin cfg0.N := pt (4 * (n.val / 512) + j.val)

theorem ptOf_val (j : Fin 4) (n : Fin 4096) : (ptOf j n).val = 4 * (n.val / 512) + j.val := pt_of_lt _ (by omega)

theorem place (j : Fin 4) (n : Fin 4096) (k : Fin 688) :
    (ix3 ⟨(ptOf j n).val % 4, by omega⟩ ⟨512 * ((ptOf j n).val / 4) + n.val % 512, by have := lt32 (ptOf j n); omega⟩ k : S4x4096x688.Idx) = ix3 j n k := by
  have h := ptOf_val j n
  funext x
  apply Fin.ext
  match x with
  | ⟨0, _⟩ =>
    show (ptOf j n).val % 4 = j.val
    omega
  | ⟨1, _⟩ =>
    show 512 * ((ptOf j n).val / 4) + n.val % 512 = n.val
    omega
  | ⟨2, _⟩ => rfl

variable {m}
variable {c : Dev nD} {mem : (ℓ : Loc nD τ sig) → Buf (Elt Ideal) ℓ} (h : OutsAt m c mem)
include h

theorem result_0 : mem ((c.tc : Thread nD τ).loc main_v46_0)
    = Cert.ReferenceIdeal.Read.val_main_v81 (F := Ideal) (args m c).h (args m c).up (args m c).cw (args m c).cb (args m c).down (args m c).dy := by
  funext i
  obtain ⟨j, n, k, rfl⟩ : ∃ (j : Fin 4) (n : Fin 4096) (k : Fin 688), i = ix3 j n k := ⟨i 0, i 1, i 2, eq_ix3 i⟩
  have e := h.1 (ptOf j n) ⟨n.val % 512, by omega⟩ k
  have p := ptOf_val j n
  refine (congrArg (mem ((c.tc : Thread nD τ).loc main_v46_0)) (place j n k).symm).trans (e.trans ((ugAt_at m c _ _ k).trans (Eq.trans ?_ (r81 (args m c) j n k).symm)))
  congr 1 <;> (try simp only) <;> omega

theorem result_1 : mem ((c.tc : Thread nD τ).loc main_v46_1)
    = Cert.ReferenceIdeal.Read.val_main_v84 (F := Ideal) (args m c).h (args m c).up (args m c).cw (args m c).cb (args m c).down (args m c).dy := by
  funext i
  obtain ⟨j, n, k, rfl⟩ : ∃ (j : Fin 4) (n : Fin 4096) (k : Fin 688), i = ix3 j n k := ⟨i 0, i 1, i 2, eq_ix3 i⟩
  have e := h.2.1 (ptOf j n) ⟨n.val % 512, by omega⟩ k
  have p := ptOf_val j n
  refine (congrArg (mem ((c.tc : Thread nD τ).loc main_v46_1)) (place j n k).symm).trans (e.trans ((uvAt_at m c _ _ k).trans (Eq.trans ?_ (r84 (args m c) j n k).symm)))
  congr 1 <;> (try simp only) <;> omega

theorem result_2 : mem ((c.tc : Thread nD τ).loc main_v46_2)
    = Cert.ReferenceIdeal.Read.val_main_v87 (F := Ideal) (args m c).h (args m c).up (args m c).cw (args m c).cb := by
  funext i
  obtain ⟨j, n, k, rfl⟩ : ∃ (j : Fin 4) (n : Fin 4096) (k : Fin 688), i = ix3 j n k := ⟨i 0, i 1, i 2, eq_ix3 i⟩
  have e := h.2.2.1 (ptOf j n) ⟨n.val % 512, by omega⟩ k
  have p := ptOf_val j n
  refine (congrArg (mem ((c.tc : Thread nD τ).loc main_v46_2)) (place j n k).symm).trans (e.trans ((actAt_at m c _ _ k).trans (Eq.trans ?_ (r87 (args m c) j n k).symm)))
  congr 1 <;> (try simp only) <;> omega

theorem result_3 : mem ((c.tc : Thread nD τ).loc main_v46_3)
    = Cert.ReferenceIdeal.Read.val_main_v88 (F := Ideal) (args m c).h (args m c).up (args m c).cw (args m c).cb (args m c).down (args m c).dy := by
  funext i
  obtain ⟨n, q, rfl⟩ : ∃ (n : Fin 4096) (q : Fin 1024), i = ix2 n q := ⟨i 0, i 1, eq_ix2 i⟩
  have p : (pt (4 * (n.val / 512) + 3)).val = 4 * (n.val / 512) + 3 := pt_of_lt _ (by omega)
  have e := h.2.2.2.1 (pt (4 * (n.val / 512) + 3)) ⟨n.val % 512, by omega⟩ q (by omega)
  have pl : (ix2 ⟨512 * ((pt (4 * (n.val / 512) + 3)).val / 4) + n.val % 512, by omega⟩ q : S4096x1024.Idx) = ix2 n q :=
    congrArg₂ ix2 (Fin.ext (by simp only; omega)) rfl
  simp only [pl] at e
  rw [p] at e
  refine e.trans ((acc_at m c _ (by omega) _ q).trans (Eq.trans ?_ (r88 (args m c) n q).symm))
  congr 1
  simp only
  omega

theorem result_4 : mem ((c.tc : Thread nD τ).loc main_v46_4)
    = Cert.ReferenceIdeal.Read.val_main_v91 (F := Ideal) (args m c).h (args m c).up (args m c).cw (args m c).cb (args m c).down (args m c).dy := by
  funext i
  obtain ⟨j, r, k, rfl⟩ : ∃ (j : Fin 4) (r : Fin 8) (k : Fin 688), i = ix3 j r k := ⟨i 0, i 1, i 2, eq_ix3 i⟩
  exact (h.2.2.2.2.1 j r k).trans ((rowG_at m c j.val (by omega) r k 7 (by omega)).trans (r91 (args m c) j r k).symm)

theorem result_5 : mem ((c.tc : Thread nD τ).loc main_v46_5)
    = Cert.ReferenceIdeal.Read.val_main_v94 (F := Ideal) (args m c).h (args m c).up (args m c).cw (args m c).cb (args m c).down (args m c).dy := by
  funext i
  obtain ⟨j, r, k, rfl⟩ : ∃ (j : Fin 4) (r : Fin 8) (k : Fin 688), i = ix3 j r k := ⟨i 0, i 1, i 2, eq_ix3 i⟩
  exact (h.2.2.2.2.2 j r k).trans ((rowV_at m c j.val (by omega) r k 7 (by omega)).trans (r94 (args m c) j r k).symm)

end Cert.FfnBwd

end
-- ==== Proof.DwUpGate.lean ====
module

public import proofs.«01_k».proof.Proof.Gen.KernelUpGateIdeal.Value
public import proofs.«01_k».proof.Proof.Gen.ReferenceUpGateIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.DwUpGate

open Cert.KernelUpGateIdeal Cert.KernelUpGateIdeal.Gen
open Idealize.ShloMosaic Idealize.ShloMosaic.TcCoe

/-! # The gradient of the up-projection's gate half

One grid point multiplies one group of 688 features with all 4096 tokens. -/

variable (m : (ℓ : Loc nD τ sig) → Buf (Elt Ideal) ℓ)

theorem lt4 (t : Fin cfg0.N) : t.val < 4 := lt_of_lt_of_eq t.isLt (show cfg0.N = 4 from N_0)

/-- A sum over all tokens, sequence by sequence. -/
theorem sum_tokens (f : Fin 2 → Fin 2048 → EReal) :
    ∑ n : Fin 4096, f ⟨n.val / 2048, by omega⟩ ⟨n.val % 2048, by omega⟩ = ∑ x, ∑ y, f x y := by
  rw [← Fintype.sum_prod_type']
  exact Fintype.sum_equiv (finProdFinEquiv (m := 2) (n := 2048)).symm _ _ fun n => rfl

/-- The gradient the host groups, at a group, a token and a feature of the group. -/
theorem v3_at (c : Dev nD) (j : Fin 4) (n : Fin 4096) (k : Fin 688) :
    (V m c main_v3 : FVec Ideal S4x4096x688 .bf16) (ix3 j n k)
      = (m ((c : Thread nD τ).loc main_arg1) : FVec Ideal S2x2048x5504 .f32) (ix3 ⟨n.val / 2048, by omega⟩ ⟨n.val % 2048, by omega⟩ ⟨j.val * 688 + k.val, by omega⟩) := by
  unfold V
  after_reads_at

theorem v5_at (c : Dev nD) (n : Fin 4096) (q : Fin 1024) :
    (V m c main_v5 : FVec Ideal S4096x1024 .bf16) (ix2 n q)
      = (m ((c : Thread nD τ).loc main_arg0) : FVec Ideal S2x2048x1024 .f32) (ix3 ⟨n.val / 2048, by omega⟩ ⟨n.val % 2048, by omega⟩ q) := by
  unfold V
  after_reads_at

theorem idx0 : ∀ t, win0_0.index t (0 : Fin 3) = t.val ∧ win0_0.index t (1 : Fin 3) = 0 ∧ win0_0.index t (2 : Fin 3) = 0 :=
  (by decide +kernel : ∀ t : Fin grid0.N, _)
theorem idx1 : ∀ t, win0_1.index t (0 : Fin 2) = 0 ∧ win0_1.index t (1 : Fin 2) = 0 :=
  (by decide +kernel : ∀ t : Fin grid0.N, _)
theorem idx2 : ∀ t, win0_2.index t (0 : Fin 3) = t.val ∧ win0_2.index t (1 : Fin 3) = 0 ∧ win0_2.index t (2 : Fin 3) = 0 :=
  (by decide +kernel : ∀ t : Fin grid0.N, _)

theorem blk0_at (c : Dev nD) (t : Fin cfg0.N) (n : Fin 4096) (k : Fin 688) :
    (iblk m c 0 t : FVec Ideal S1x4096x688 .bf16) (ix3 0 n k) = (V m c main_v3 : FVec Ideal S4x4096x688 .bf16) (ix3 ⟨t.val, lt4 t⟩ n k) := by
  obtain ⟨h0, h1, h2⟩ := idx0 t
  refine congrArg (V m c main_v3) (?_ : ((cfg0.win 0).blk t).view.emb (ix3 0 n k) = _)
  funext d
  apply Fin.ext
  match d with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 688 + 1 * k.val = k.val; omega

theorem blk1_at (c : Dev nD) (t : Fin cfg0.N) (n : Fin 4096) (q : Fin 1024) :
    (iblk m c 1 t : FVec Ideal S4096x1024 .bf16) (ix2 n q) = (V m c main_v5 : FVec Ideal S4096x1024 .bf16) (ix2 n q) := by
  obtain ⟨h0, h1⟩ := idx1 t
  refine congrArg (V m c main_v5) (?_ : ((cfg0.win 1).blk t).view.emb (ix2 n q) = _)
  funext d
  apply Fin.ext
  match d with
  | ⟨0, _⟩ => show win0_1.index t (0 : Fin 2) * 4096 + 1 * n.val = n.val; omega
  | ⟨1, _⟩ => show win0_1.index t (1 : Fin 2) * 1024 + 1 * q.val = q.val; omega

/-- Where a grid point's block of the result lies. -/
theorem emb2 (t : Fin cfg0.N) (k : Fin 688) (q : Fin 1024) :
    ((cfg0.win 2).blk t).view.emb (ix3 0 k q) = (ix3 ⟨t.val, lt4 t⟩ k q : S4x688x1024.Idx) := by
  obtain ⟨h0, h1, h2⟩ := idx2 t
  funext d
  apply Fin.ext
  match d with
  | ⟨0, _⟩ => show win0_2.index t (0 : Fin 3) * 1 + 1 * 0 = t.val; omega
  | ⟨1, _⟩ => show win0_2.index t (1 : Fin 3) * 688 + 1 * k.val = k.val; omega
  | ⟨2, _⟩ => show win0_2.index t (2 : Fin 3) * 1024 + 1 * q.val = q.val; omega

/-- The two blocks a grid point reads. -/
abbrev blk0 (c : Dev nD) (t : Fin cfg0.N) : FVec Ideal S1x4096x688 .bf16 := iblk m c 0 t
abbrev blk1 (c : Dev nD) (t : Fin cfg0.N) : FVec Ideal S4096x1024 .bf16 := iblk m c 1 t
/-- What a grid point leaves in its block of the result. -/
abbrev left (c : Dev nD) (t : Fin cfg0.N) : FVec Ideal S1x688x1024 .bf16 := outsAt0 m c t

/-- What a grid point leaves of its group: the product over all tokens. -/
theorem point_at (c : Dev nD) (t : Fin cfg0.N) (k : Fin 688) (q : Fin 1024) :
    (left m c t (ix3 0 k q) : EReal) = ∑ n : Fin 4096, (blk0 m c t (ix3 0 n k) : EReal) * blk1 m c t (ix2 n q) := by
  unfold left outsAt0
  frame_out
  pointwise [k0_pay4, k0_pay2, k0_pay1]

/-- The reference's group of the gradient, at an index. -/
theorem ref_at (x0 : FVec Ideal S2x2048x1024 .f32) (x1 : FVec Ideal S2x2048x5504 .f32) (j : Fin 4) (k : Fin 688) (q : Fin 1024) :
    (Cert.ReferenceUpGateIdeal.Read.val_main_v7 (F := Ideal) x0 x1 (ix3 j k q) : EReal)
      = ∑ x : Fin 2, ∑ y : Fin 2048, (x1 (ix3 x y ⟨j.val * 688 + k.val, by omega⟩) : EReal) * x0 (ix3 x y q) := by
  pointwise [Cert.ReferenceUpGateIdeal.Read.val_main_v7, Cert.ReferenceUpGateIdeal.Read.val_main_v6, Cert.ReferenceUpGateIdeal.Read.val_main_v5, Cert.ReferenceUpGateIdeal.Read.val_main_v4, Cert.ReferenceUpGateIdeal.Read.val_main_v3, Cert.ReferenceUpGateIdeal.Read.val_main_v2]

/-- What a grid point leaves is its group of the reference's value. -/
theorem left_at (c : Dev nD) (t : Fin cfg0.N) (k : Fin 688) (q : Fin 1024) :
    left m c t (ix3 0 k q) = Cert.ReferenceUpGateIdeal.Read.val_main_v7 (F := Ideal) (m ((c : Thread nD τ).loc main_arg0)) (m ((c : Thread nD τ).loc main_arg1)) (ix3 ⟨t.val, lt4 t⟩ k q) := by
  refine (point_at m c t k q).trans (Eq.trans ?_ (ref_at _ _ _ _ _).symm)
  rw [← sum_tokens]
  refine Finset.sum_congr rfl fun n _ => congrArg₂ (· * ·) ?_ ?_
  · exact (blk0_at m c t n k).trans (v3_at m c _ n k)
  · exact (blk1_at m c t n q).trans (v5_at m c n q)

/-- An index of a block is its row and its column. -/
theorem idx_block (y : S1x688x1024.Idx) : ∃ (k : Fin 688) (q : Fin 1024), y = ix3 0 k q :=
  ⟨y 1, y 2, (eq_ix3 y).trans (congrArg (fun z : Fin 1 => ix3 z (y 1) (y 2)) (Subsingleton.elim _ _))⟩

/-- After the call the result is the reference's value. -/
theorem result (c : Dev nD) :
    (dats m 0 c).arrAt 2 cfg0.N = Cert.ReferenceUpGateIdeal.Read.val_main_v7 (F := Ideal) (m ((c : Thread nD τ).loc main_arg0)) (m ((c : Thread nD τ).loc main_arg1)) := by
  have key := left_at m c
  generalize Cert.ReferenceUpGateIdeal.Read.val_main_v7 (F := Ideal) (m ((c : Thread nD τ).loc main_arg0)) (m ((c : Thread nD τ).loc main_arg1)) = G at key ⊢
  refine (dats m 0 c).arrAt_eq_of_covers 2 _ (by decide +kernel) fun t hf y => ?_
  obtain ⟨k, q, rfl⟩ := idx_block y
  rw [after0_2]
  have e := (key t k q).trans (congrArg G (emb2 t k q).symm)
  revert e
  unfold left
  generalize outsAt0 m c t = f
  exact fun e => e

end Cert.DwUpGate

end
-- ==== Proof.DwUpVal.lean ====
module

public import proofs.«01_k».proof.Proof.Gen.KernelUpValIdeal.Value
public import proofs.«01_k».proof.Proof.Gen.ReferenceUpValIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.DwUpVal

open Cert.KernelUpValIdeal Cert.KernelUpValIdeal.Gen
open Idealize.ShloMosaic Idealize.ShloMosaic.TcCoe

/-! # The gradient of the up-projection's value half

One grid point multiplies one group of 688 features with all 4096 tokens. -/

variable (m : (ℓ : Loc nD τ sig) → Buf (Elt Ideal) ℓ)

theorem lt4 (t : Fin cfg0.N) : t.val < 4 := lt_of_lt_of_eq t.isLt (show cfg0.N = 4 from N_0)

/-- A sum over all tokens, sequence by sequence. -/
theorem sum_tokens (f : Fin 2 → Fin 2048 → EReal) :
    ∑ n : Fin 4096, f ⟨n.val / 2048, by omega⟩ ⟨n.val % 2048, by omega⟩ = ∑ x, ∑ y, f x y := by
  rw [← Fintype.sum_prod_type']
  exact Fintype.sum_equiv (finProdFinEquiv (m := 2) (n := 2048)).symm _ _ fun n => rfl

/-- The gradient the host groups, at a group, a token and a feature of the group. -/
theorem v3_at (c : Dev nD) (j : Fin 4) (n : Fin 4096) (k : Fin 688) :
    (V m c main_v3 : FVec Ideal S4x4096x688 .bf16) (ix3 j n k)
      = (m ((c : Thread nD τ).loc main_arg1) : FVec Ideal S2x2048x5504 .f32) (ix3 ⟨n.val / 2048, by omega⟩ ⟨n.val % 2048, by omega⟩ ⟨2752 + (j.val * 688 + k.val), by omega⟩) := by
  unfold V
  after_reads_at
  exact congrArg _ (congrArg (ix3 _ _) (Fin.ext (show (4 + j.val) * 688 + k.val = 2752 + (j.val * 688 + k.val) by omega)))

theorem v5_at (c : Dev nD) (n : Fin 4096) (q : Fin 1024) :
    (V m c main_v5 : FVec Ideal S4096x1024 .bf16) (ix2 n q)
      = (m ((c : Thread nD τ).loc main_arg0) : FVec Ideal S2x2048x1024 .f32) (ix3 ⟨n.val / 2048, by omega⟩ ⟨n.val % 2048, by omega⟩ q) := by
  unfold V
  after_reads_at

theorem idx0 : ∀ t, win0_0.index t (0 : Fin 3) = t.val ∧ win0_0.index t (1 : Fin 3) = 0 ∧ win0_0.index t (2 : Fin 3) = 0 :=
  (by decide +kernel : ∀ t : Fin grid0.N, _)
theorem idx1 : ∀ t, win0_1.index t (0 : Fin 2) = 0 ∧ win0_1.index t (1 : Fin 2) = 0 :=
  (by decide +kernel : ∀ t : Fin grid0.N, _)
theorem idx2 : ∀ t, win0_2.index t (0 : Fin 3) = t.val ∧ win0_2.index t (1 : Fin 3) = 0 ∧ win0_2.index t (2 : Fin 3) = 0 :=
  (by decide +kernel : ∀ t : Fin grid0.N, _)

theorem blk0_at (c : Dev nD) (t : Fin cfg0.N) (n : Fin 4096) (k : Fin 688) :
    (iblk m c 0 t : FVec Ideal S1x4096x688 .bf16) (ix3 0 n k) = (V m c main_v3 : FVec Ideal S4x4096x688 .bf16) (ix3 ⟨t.val, lt4 t⟩ n k) := by
  obtain ⟨h0, h1, h2⟩ := idx0 t
  refine congrArg (V m c main_v3) (?_ : ((cfg0.win 0).blk t).view.emb (ix3 0 n k) = _)
  funext d
  apply Fin.ext
  match d with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 688 + 1 * k.val = k.val; omega

theorem blk1_at (c : Dev nD) (t : Fin cfg0.N) (n : Fin 4096) (q : Fin 1024) :
    (iblk m c 1 t : FVec Ideal S4096x1024 .bf16) (ix2 n q) = (V m c main_v5 : FVec Ideal S4096x1024 .bf16) (ix2 n q) := by
  obtain ⟨h0, h1⟩ := idx1 t
  refine congrArg (V m c main_v5) (?_ : ((cfg0.win 1).blk t).view.emb (ix2 n q) = _)
  funext d
  apply Fin.ext
  match d with
  | ⟨0, _⟩ => show win0_1.index t (0 : Fin 2) * 4096 + 1 * n.val = n.val; omega
  | ⟨1, _⟩ => show win0_1.index t (1 : Fin 2) * 1024 + 1 * q.val = q.val; omega

/-- Where a grid point's block of the result lies. -/
theorem emb2 (t : Fin cfg0.N) (k : Fin 688) (q : Fin 1024) :
    ((cfg0.win 2).blk t).view.emb (ix3 0 k q) = (ix3 ⟨t.val, lt4 t⟩ k q : S4x688x1024.Idx) := by
  obtain ⟨h0, h1, h2⟩ := idx2 t
  funext d
  apply Fin.ext
  match d with
  | ⟨0, _⟩ => show win0_2.index t (0 : Fin 3) * 1 + 1 * 0 = t.val; omega
  | ⟨1, _⟩ => show win0_2.index t (1 : Fin 3) * 688 + 1 * k.val = k.val; omega
  | ⟨2, _⟩ => show win0_2.index t (2 : Fin 3) * 1024 + 1 * q.val = q.val; omega

/-- The two blocks a grid point reads. -/
abbrev blk0 (c : Dev nD) (t : Fin cfg0.N) : FVec Ideal S1x4096x688 .bf16 := iblk m c 0 t
abbrev blk1 (c : Dev nD) (t : Fin cfg0.N) : FVec Ideal S4096x1024 .bf16 := iblk m c 1 t
/-- What a grid point leaves in its block of the result. -/
abbrev left (c : Dev nD) (t : Fin cfg0.N) : FVec Ideal S1x688x1024 .bf16 := outsAt0 m c t

/-- What a grid point leaves of its group: the product over all tokens. -/
theorem point_at (c : Dev nD) (t : Fin cfg0.N) (k : Fin 688) (q : Fin 1024) :
    (left m c t (ix3 0 k q) : EReal) = ∑ n : Fin 4096, (blk0 m c t (ix3 0 n k) : EReal) * blk1 m c t (ix2 n q) := by
  unfold left outsAt0
  frame_out
  pointwise [k0_pay4, k0_pay2, k0_pay1]

/-- The reference's group of the gradient, at an index. -/
theorem ref_at (x0 : FVec Ideal S2x2048x1024 .f32) (x1 : FVec Ideal S2x2048x5504 .f32) (j : Fin 4) (k : Fin 688) (q : Fin 1024) :
    (Cert.ReferenceUpValIdeal.Read.val_main_v7 (F := Ideal) x0 x1 (ix3 j k q) : EReal)
      = ∑ x : Fin 2, ∑ y : Fin 2048, (x1 (ix3 x y ⟨2752 + (j.val * 688 + k.val), by omega⟩) : EReal) * x0 (ix3 x y q) := by
  pointwise [Cert.ReferenceUpValIdeal.Read.val_main_v7, Cert.ReferenceUpValIdeal.Read.val_main_v6, Cert.ReferenceUpValIdeal.Read.val_main_v5, Cert.ReferenceUpValIdeal.Read.val_main_v4, Cert.ReferenceUpValIdeal.Read.val_main_v3, Cert.ReferenceUpValIdeal.Read.val_main_v2]

/-- What a grid point leaves is its group of the reference's value. -/
theorem left_at (c : Dev nD) (t : Fin cfg0.N) (k : Fin 688) (q : Fin 1024) :
    left m c t (ix3 0 k q) = Cert.ReferenceUpValIdeal.Read.val_main_v7 (F := Ideal) (m ((c : Thread nD τ).loc main_arg0)) (m ((c : Thread nD τ).loc main_arg1)) (ix3 ⟨t.val, lt4 t⟩ k q) := by
  refine (point_at m c t k q).trans (Eq.trans ?_ (ref_at _ _ _ _ _).symm)
  rw [← sum_tokens]
  refine Finset.sum_congr rfl fun n _ => congrArg₂ (· * ·) ?_ ?_
  · exact (blk0_at m c t n k).trans (v3_at m c _ n k)
  · exact (blk1_at m c t n q).trans (v5_at m c n q)

/-- An index of a block is its row and its column. -/
theorem idx_block (y : S1x688x1024.Idx) : ∃ (k : Fin 688) (q : Fin 1024), y = ix3 0 k q :=
  ⟨y 1, y 2, (eq_ix3 y).trans (congrArg (fun z : Fin 1 => ix3 z (y 1) (y 2)) (Subsingleton.elim _ _))⟩

/-- After the call the result is the reference's value. -/
theorem result (c : Dev nD) :
    (dats m 0 c).arrAt 2 cfg0.N = Cert.ReferenceUpValIdeal.Read.val_main_v7 (F := Ideal) (m ((c : Thread nD τ).loc main_arg0)) (m ((c : Thread nD τ).loc main_arg1)) := by
  have key := left_at m c
  generalize Cert.ReferenceUpValIdeal.Read.val_main_v7 (F := Ideal) (m ((c : Thread nD τ).loc main_arg0)) (m ((c : Thread nD τ).loc main_arg1)) = G at key ⊢
  refine (dats m 0 c).arrAt_eq_of_covers 2 _ (by decide +kernel) fun t hf y => ?_
  obtain ⟨k, q, rfl⟩ := idx_block y
  rw [after0_2]
  have e := (key t k q).trans (congrArg G (emb2 t k q).symm)
  revert e
  unfold left
  generalize outsAt0 m c t = f
  exact fun e => e

end Cert.DwUpVal

end
-- ==== Proof.DwDown.lean ====
module

public import proofs.«01_k».proof.Proof.Gen.KernelDownIdeal.Value
public import proofs.«01_k».proof.Proof.Gen.ReferenceDownIdeal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.DwDown

open Cert.KernelDownIdeal Cert.KernelDownIdeal.Gen
open Idealize.ShloMosaic Idealize.ShloMosaic.TcCoe

/-! # The gradient of the down-projection

Two grid points, one for each half of the tokens, multiply one group of 688 features with their 2048 tokens; the first
starts the accumulator, the second adds to it and leaves the group. -/

variable (m : (ℓ : Loc nD τ sig) → Buf (Elt Ideal) ℓ)

theorem lt8 (t : Fin cfg0.N) : t.val < 8 := lt_of_lt_of_eq t.isLt (show cfg0.N = 8 from N_0)

/-- The activation the host groups, at a group, a token and a feature of the group. -/
theorem v2_at (c : Dev nD) (j : Fin 4) (x : Fin 2) (y : Fin 2048) (k : Fin 688) :
    (V m c main_v2 : FVec Ideal S4x4096x688 .bf16) (ix3 j ⟨x.val * 2048 + y.val, by omega⟩ k)
      = (m ((c : Thread nD τ).loc main_arg0) : FVec Ideal S2x2048x2752 .f32) (ix3 x y ⟨j.val * 688 + k.val, by omega⟩) := by
  unfold V
  after_reads_at
  pointwise
  exact congrArg _ (congrArg₂ (fun (a : Fin 2) (b : Fin 2048) => ix3 a b _) (Fin.ext (show (x.val * 2048 + y.val) / 2048 = x.val by omega)) (Fin.ext (show (x.val * 2048 + y.val) % 2048 = y.val by omega)))

theorem v3_at (c : Dev nD) (x : Fin 2) (y : Fin 2048) (q : Fin 1024) :
    (V m c main_v3 : FVec Ideal S4096x1024 .f32) (ix2 ⟨x.val * 2048 + y.val, by omega⟩ q)
      = (m ((c : Thread nD τ).loc main_arg1) : FVec Ideal S2x2048x1024 .f32) (ix3 x y q) := by
  unfold V
  after_reads_at

theorem idx0 : ∀ t, win0_0.index t (0 : Fin 3) = t.val / 2 ∧ win0_0.index t (1 : Fin 3) = t.val % 2 ∧ win0_0.index t (2 : Fin 3) = 0 :=
  (by decide +kernel : ∀ t : Fin grid0.N, _)
theorem idx1 : ∀ t, win0_1.index t (0 : Fin 2) = t.val % 2 ∧ win0_1.index t (1 : Fin 2) = 0 :=
  (by decide +kernel : ∀ t : Fin grid0.N, _)
theorem idx2 : ∀ t, win0_2.index t (0 : Fin 3) = t.val / 2 ∧ win0_2.index t (1 : Fin 3) = 0 ∧ win0_2.index t (2 : Fin 3) = 0 :=
  (by decide +kernel : ∀ t : Fin grid0.N, _)

/-- The two blocks a grid point reads. -/
abbrev blk0 (c : Dev nD) (t : Fin cfg0.N) : FVec Ideal S1x2048x688 .bf16 := iblk m c 0 t
abbrev blk1 (c : Dev nD) (t : Fin cfg0.N) : FVec Ideal S2048x1024 .f32 := iblk m c 1 t

theorem blk0_at (c : Dev nD) (t : Fin cfg0.N) (n : Fin 2048) (k : Fin 688) :
    blk0 m c t (ix3 0 n k) = (V m c main_v2 : FVec Ideal S4x4096x688 .bf16) (ix3 ⟨t.val / 2, by have := lt8 t; omega⟩ ⟨t.val % 2 * 2048 + n.val, by omega⟩ k) := by
  obtain ⟨h0, h1, h2⟩ := idx0 t
  refine congrArg (V m c main_v2) (?_ : ((cfg0.win 0).blk t).view.emb (ix3 0 n k) = _)
  funext d
  apply Fin.ext
  match d with
  | ⟨0, _⟩ => show win0_0.index t (0 : Fin 3) * 1 + 1 * 0 = t.val / 2; omega
  | ⟨1, _⟩ => show win0_0.index t (1 : Fin 3) * 2048 + 1 * n.val = t.val % 2 * 2048 + n.val; omega
  | ⟨2, _⟩ => show win0_0.index t (2 : Fin 3) * 688 + 1 * k.val = k.val; omega

theorem blk1_at (c : Dev nD) (t : Fin cfg0.N) (n : Fin 2048) (q : Fin 1024) :
    blk1 m c t (ix2 n q) = (V m c main_v3 : FVec Ideal S4096x1024 .f32) (ix2 ⟨t.val % 2 * 2048 + n.val, by omega⟩ q) := by
  obtain ⟨h0, h1⟩ := idx1 t
  refine congrArg (V m c main_v3) (?_ : ((cfg0.win 1).blk t).view.emb (ix2 n q) = _)
  funext d
  apply Fin.ext
  match d with
  | ⟨0, _⟩ => show win0_1.index t (0 : Fin 2) * 2048 + 1 * n.val = t.val % 2 * 2048 + n.val; omega
  | ⟨1, _⟩ => show win0_1.index t (1 : Fin 2) * 1024 + 1 * q.val = q.val; omega

/-- Where a grid point's block of the result lies. -/
theorem emb2 (t : Fin cfg0.N) (k : Fin 688) (q : Fin 1024) :
    ((cfg0.win 2).blk t).view.emb (ix3 0 k q) = (ix3 ⟨t.val / 2, by have := lt8 t; omega⟩ k q : S4x688x1024.Idx) := by
  obtain ⟨h0, h1, h2⟩ := idx2 t
  funext d
  apply Fin.ext
  match d with
  | ⟨0, _⟩ => show win0_2.index t (0 : Fin 3) * 1 + 1 * 0 = t.val / 2; omega
  | ⟨1, _⟩ => show win0_2.index t (1 : Fin 3) * 688 + 1 * k.val = k.val; omega
  | ⟨2, _⟩ => show win0_2.index t (2 : Fin 3) * 1024 + 1 * q.val = q.val; omega

/-- What a grid point leaves in its block of the result, and in the accumulator. -/
abbrev left (c : Dev nD) (t : Fin cfg0.N) : FVec Ideal S1x688x1024 .bf16 := (outsAt0 m c t.val t.isLt).1
abbrev acc (c : Dev nD) (t : Fin cfg0.N) : FVec Ideal S688x1024 .f32 := (outsAt0 m c t.val t.isLt).2

theorem acc_first (c : Dev nD) (t : Fin cfg0.N) (h : t.val % 2 = 0) (k : Fin 688) (q : Fin 1024) :
    (acc m c t (ix2 k q) : EReal) = ∑ n : Fin 2048, (blk0 m c t (ix3 0 n k) : EReal) * blk1 m c t (ix2 n q) := by
  unfold acc
  rw [outsAt0_A m c t h (by omega) (by omega)]
  frame_out
  pointwise [k0_pay2, k0_pay1]

theorem left_second (c : Dev nD) (t : Fin cfg0.N) (h : t.val % 2 = 1) (k : Fin 688) (q : Fin 1024) :
    (left m c t (ix3 0 k q) : EReal)
      = acc m c ⟨t.val - 1, by omega⟩ (ix2 k q) + ∑ n : Fin 2048, (blk0 m c t (ix3 0 n k) : EReal) * blk1 m c t (ix2 n q) := by
  unfold left
  rw [outsAt0_B m c t (by omega) h h]
  frame_out
  rw [read_unread_whole]
  generalize ho : (outsAt0 m c (t.val - 1) _).2 = o
  have e : acc m c ⟨t.val - 1, by omega⟩ = o := ho
  rw [e]
  pointwise [k0_pay4, k0_pay3, k0_pay1]

/-- The reference's group of the gradient, at an index. -/
theorem ref_at (x0 : FVec Ideal S2x2048x2752 .f32) (x1 : FVec Ideal S2x2048x1024 .f32) (j : Fin 4) (k : Fin 688) (q : Fin 1024) :
    (Cert.ReferenceDownIdeal.Read.val_main_v5 (F := Ideal) x0 x1 (ix3 j k q) : EReal)
      = ∑ x : Fin 2, ∑ y : Fin 2048, (x1 (ix3 x y q) : EReal) * x0 (ix3 x y ⟨j.val * 688 + k.val, by omega⟩) := by
  pointwise [Cert.ReferenceDownIdeal.Read.val_main_v5, Cert.ReferenceDownIdeal.Read.val_main_v4, Cert.ReferenceDownIdeal.Read.val_main_v3, Cert.ReferenceDownIdeal.Read.val_main_v2]

/-- What the second grid point of a group leaves is its group of the reference's value. -/
theorem left_at (c : Dev nD) (t : Fin cfg0.N) (h : t.val % 2 = 1) (k : Fin 688) (q : Fin 1024) :
    left m c t (ix3 0 k q) = Cert.ReferenceDownIdeal.Read.val_main_v5 (F := Ideal) (m ((c : Thread nD τ).loc main_arg0)) (m ((c : Thread nD τ).loc main_arg1)) (ix3 ⟨t.val / 2, by have := lt8 t; omega⟩ k q) := by
  have lt := lt8 t
  refine (left_second m c t h k q).trans (Eq.trans ?_ (ref_at _ _ _ _ _).symm)
  rw [acc_first m c _ (show (t.val - 1) % 2 = 0 by omega), Fin.sum_univ_two]
  refine congrArg₂ (· + ·) ?_ ?_ <;> refine Finset.sum_congr rfl fun n _ => ?_
  · rw [mul_comm]
    refine congrArg₂ (· * ·) ?_ ?_
    · refine (blk1_at m c _ n q).trans (Eq.trans (congrArg _ (congrArg₂ ix2 (Fin.ext ?_) rfl)) (v3_at m c 0 n q))
      show (t.val - 1) % 2 * 2048 + n.val = 0 * 2048 + n.val
      omega
    · refine (blk0_at m c _ n k).trans (Eq.trans (congrArg _ (congrArg₂ (fun (a : Fin 4) (b : Fin 4096) => ix3 a b k) (Fin.ext ?_) (Fin.ext ?_))) (v2_at m c ⟨t.val / 2, by omega⟩ 0 n k))
      · show (t.val - 1) / 2 = t.val / 2
        omega
      · show (t.val - 1) % 2 * 2048 + n.val = 0 * 2048 + n.val
        omega
  · rw [mul_comm]
    refine congrArg₂ (· * ·) ?_ ?_
    · refine (blk1_at m c _ n q).trans (Eq.trans (congrArg _ (congrArg₂ ix2 (Fin.ext ?_) rfl)) (v3_at m c 1 n q))
      show t.val % 2 * 2048 + n.val = 1 * 2048 + n.val
      omega
    · refine (blk0_at m c _ n k).trans (Eq.trans (congrArg _ (congrArg (fun (b : Fin 4096) => ix3 _ b k) (Fin.ext ?_))) (v2_at m c ⟨t.val / 2, by omega⟩ 1 n k))
      show t.val % 2 * 2048 + n.val = 1 * 2048 + n.val
      omega

/-- An index of a block is its row and its column. -/
theorem idx_block (y : S1x688x1024.Idx) : ∃ (k : Fin 688) (q : Fin 1024), y = ix3 0 k q :=
  ⟨y 1, y 2, (eq_ix3 y).trans (congrArg (fun z : Fin 1 => ix3 z (y 1) (y 2)) (Subsingleton.elim _ _))⟩

/-- The points that write back are the second ones. -/
theorem flush_odd : ∀ t : Fin cfg0.N, (cfg0.win 2).flush t = true → t.val % 2 = 1 :=
  (by decide +kernel : ∀ t : Fin grid0.N, win0_2.flush t = true → t.val % 2 = 1)

/-- After the call the result is the reference's value. -/
theorem result (c : Dev nD) :
    (dats m 0 c).arrAt 2 cfg0.N = Cert.ReferenceDownIdeal.Read.val_main_v5 (F := Ideal) (m ((c : Thread nD τ).loc main_arg0)) (m ((c : Thread nD τ).loc main_arg1)) := by
  have key := left_at m c
  generalize Cert.ReferenceDownIdeal.Read.val_main_v5 (F := Ideal) (m ((c : Thread nD τ).loc main_arg0)) (m ((c : Thread nD τ).loc main_arg1)) = G at key ⊢
  refine (dats m 0 c).arrAt_eq_of_covers 2 _ (by decide +kernel) fun t hf y => ?_
  obtain ⟨k, q, rfl⟩ := idx_block y
  rw [after0_2]
  have e := (key t (flush_odd t hf) k q).trans (congrArg G (emb2 t k q).symm)
  revert e
  unfold left
  generalize (outsAt0 m c t.val t.isLt).1 = f
  exact fun e => e

end Cert.DwDown

end
-- ==== Proof.Tokens.lean ====
module

public import Idealize.ShloMosaic.Lib.Pointwise

@[expose] public section

noncomputable section

namespace Cert.Tokens

open Idealize.ShloMosaic

/-! # Tokens by number

Token `n` of the 4096 is position `n % 2048` of sequence `n / 2048`. -/

/-- A sum over blocks of `w` terms. -/
theorem blocks (F : ℕ → EReal) (b w : ℕ) : ∑ j : Fin b, ∑ k : Fin w, F (w * j.val + k.val) = ∑ n ∈ Finset.range (w * b), F n := by
  have e (j : ℕ) : ∑ k : Fin w, F (w * j + k.val) = ∑ k ∈ Finset.range w, F (w * j + k) := (Finset.sum_range fun k => F (w * j + k)).symm
  simp only [e]
  rw [← Finset.sum_range fun j => ∑ k ∈ Finset.range w, F (w * j + k)]
  induction b with
  | zero => simp
  | succ b ih => rw [Finset.sum_range_succ, ih, Nat.mul_succ, Finset.sum_range_add]

/-- Two ways to cut the same range into blocks give the same sum. -/
theorem recut (F : ℕ → EReal) (b w b' w' : ℕ) (h : w * b = w' * b') :
    ∑ j : Fin b, ∑ k : Fin w, F (w * j.val + k.val) = ∑ j : Fin b', ∑ k : Fin w', F (w' * j.val + k.val) := by
  rw [blocks, blocks, h]

/-- The sequence and the position of a token. -/
def seqOf (n : ℕ) : Fin 2 := ⟨n / 2048 % 2, Nat.mod_lt _ (by decide)⟩
def posOf (n : ℕ) : Fin 2048 := ⟨n % 2048, Nat.mod_lt _ (by decide)⟩

theorem seqOf_eq (x : Fin 2) (y : Fin 2048) : seqOf (2048 * x.val + y.val) = x := Fin.ext (show (2048 * x.val + y.val) / 2048 % 2 = x.val by omega)
theorem posOf_eq (x : Fin 2) (y : Fin 2048) : posOf (2048 * x.val + y.val) = y := Fin.ext (show (2048 * x.val + y.val) % 2048 = y.val by omega)

/-- A sum over the tokens, by sequence and position, is a sum over tiles of `w` tokens. -/
theorem by_tiles (f : Fin 2 → Fin 2048 → EReal) (b w : ℕ) (h : w * b = 4096) :
    ∑ x : Fin 2, ∑ y : Fin 2048, f x y = ∑ j : Fin b, ∑ k : Fin w, f (seqOf (w * j.val + k.val)) (posOf (w * j.val + k.val)) := by
  rw [recut (fun n => f (seqOf n) (posOf n)) b w 2 2048 (by omega)]
  refine Finset.sum_congr rfl fun x _ => Finset.sum_congr rfl fun y _ => ?_
  rw [seqOf_eq, posOf_eq]

end Cert.Tokens

end
-- ==== Proof.DwIn.lean ====
module

public import proofs.«01_k».proof.Proof.Gen.KernelInIdeal.Value
public import proofs.«01_k».proof.Proof.Gen.ReferenceInIdeal.Read
public import proofs.«01_k».proof.Proof.Tokens
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.DwIn

open Cert.KernelInIdeal Cert.KernelInIdeal.Gen
open Idealize.ShloMosaic Idealize.ShloMosaic.TcCoe
open Cert.Tokens

/-! # The gradient of the input projection

Four grid points multiply, each for its 1024 tokens, all 2176 columns of the padded gradient with the input. The first
starts the accumulator, the last leaves it; of the block it leaves, the 2056 rows the result has are written. -/

variable (m : (ℓ : Loc nD τ sig) → Buf (Elt Ideal) ℓ)

theorem lt4 (t : Fin cfg0.N) : t.val < 4 := lt_of_lt_of_eq t.isLt (show cfg0.N = 4 from N_0)

/-- The two arguments as one device holds them. -/
abbrev x0 (c : Dev nD) : FVec Ideal S2x2048x1024 .f32 := m ((c : Thread nD τ).loc main_arg0)
abbrev x1 (c : Dev nD) : FVec Ideal S2x2048x2056 .f32 := m ((c : Thread nD τ).loc main_arg1)

/-- The padded gradient at a token and a column that is not padding. -/
theorem v2_at (c : Dev nD) (n : Fin 4096) (k : Fin 2056) :
    (V m c main_v2 : FVec Ideal S4096x2176 .bf16) (ix2 n ⟨k.val, by omega⟩)
      = x1 m c (ix3 (seqOf n.val) (posOf n.val) k) := by
  rw [show seqOf n.val = ⟨n.val / 2048, by omega⟩ from Fin.ext (Nat.mod_eq_of_lt (by omega)), show posOf n.val = ⟨n.val % 2048, by omega⟩ from rfl]
  unfold V
  after_reads_at

theorem v4_at (c : Dev nD) (n : Fin 4096) (q : Fin 1024) :
    (V m c main_v4 : FVec Ideal S4096x1024 .bf16) (ix2 n q)
      = x0 m c (ix3 (seqOf n.val) (posOf n.val) q) := by
  rw [show seqOf n.val = ⟨n.val / 2048, by omega⟩ from Fin.ext (Nat.mod_eq_of_lt (by omega)), show posOf n.val = ⟨n.val % 2048, by omega⟩ from rfl]
  unfold V
  after_reads_at

theorem idx0 : ∀ t, win0_0.index t (0 : Fin 2) = t.val ∧ win0_0.index t (1 : Fin 2) = 0 :=
  (by decide +kernel : ∀ t : Fin grid0.N, _)
theorem idx1 : ∀ t, win0_1.index t (0 : Fin 2) = t.val ∧ win0_1.index t (1 : Fin 2) = 0 :=
  (by decide +kernel : ∀ t : Fin grid0.N, _)
theorem idx2 : ∀ t, win0_2.index t (0 : Fin 2) = 0 ∧ win0_2.index t (1 : Fin 2) = 0 :=
  (by decide +kernel : ∀ t : Fin grid0.N, _)

/-- The two blocks a grid point reads. -/
abbrev blk0 (c : Dev nD) (t : Fin cfg0.N) : FVec Ideal S1024x2176 .bf16 := iblk m c 0 t
abbrev blk1 (c : Dev nD) (t : Fin cfg0.N) : FVec Ideal S1024x1024 .bf16 := iblk m c 1 t

theorem blk0_at (c : Dev nD) (t : Fin cfg0.N) (n : Fin 1024) (k : Fin 2176) :
    blk0 m c t (ix2 n k) = (V m c main_v2 : FVec Ideal S4096x2176 .bf16) (ix2 ⟨1024 * t.val + n.val, by have := lt4 t; omega⟩ k) := by
  obtain ⟨h0, h1⟩ := idx0 t
  refine congrArg (V m c main_v2) (?_ : ((cfg0.win 0).blk t).view.emb (ix2 n k) = _)
  funext d
  apply Fin.ext
  match d with
  | ⟨0, _⟩ => show win0_0.index t (0 : Fin 2) * 1024 + 1 * n.val = 1024 * t.val + n.val; omega
  | ⟨1, _⟩ => show win0_0.index t (1 : Fin 2) * 2176 + 1 * k.val = k.val; omega

theorem blk1_at (c : Dev nD) (t : Fin cfg0.N) (n : Fin 1024) (q : Fin 1024) :
    blk1 m c t (ix2 n q) = (V m c main_v4 : FVec Ideal S4096x1024 .bf16) (ix2 ⟨1024 * t.val + n.val, by have := lt4 t; omega⟩ q) := by
  obtain ⟨h0, h1⟩ := idx1 t
  refine congrArg (V m c main_v4) (?_ : ((cfg0.win 1).blk t).view.emb (ix2 n q) = _)
  funext d
  apply Fin.ext
  match d with
  | ⟨0, _⟩ => show win0_1.index t (0 : Fin 2) * 1024 + 1 * n.val = 1024 * t.val + n.val; omega
  | ⟨1, _⟩ => show win0_1.index t (1 : Fin 2) * 1024 + 1 * q.val = q.val; omega

/-- What a grid point leaves in its block of the result, and in the accumulator. -/
abbrev left (c : Dev nD) (t : Fin cfg0.N) : FVec Ideal S2176x1024 .bf16 := (outsAt0 m c t.val t.isLt).1
abbrev acc (c : Dev nD) (t : Fin cfg0.N) : FVec Ideal S2176x1024 .f32 := (outsAt0 m c t.val t.isLt).2

theorem acc_first (c : Dev nD) (t : Fin cfg0.N) (h : t.val = 0) (k : Fin 2176) (q : Fin 1024) :
    (acc m c t (ix2 k q) : EReal) = ∑ n : Fin 1024, (blk0 m c t (ix2 n k) : EReal) * blk1 m c t (ix2 n q) := by
  unfold acc
  rw [outsAt0_A m c t (by omega) (by omega) (by omega)]
  frame_out
  pointwise [k0_pay2, k0_pay1]

theorem acc_next (c : Dev nD) (t : Fin cfg0.N) (h : 1 ≤ t.val) (h' : t.val < 3) (k : Fin 2176) (q : Fin 1024) :
    (acc m c t (ix2 k q) : EReal)
      = acc m c ⟨t.val - 1, by omega⟩ (ix2 k q) + ∑ n : Fin 1024, (blk0 m c t (ix2 n k) : EReal) * blk1 m c t (ix2 n q) := by
  unfold acc
  rw [outsAt0_B m c t (by omega) h (by omega)]
  frame_out
  rw [read_unread_whole]
  generalize (outsAt0 m c (t.val - 1) _).2 = o
  pointwise [k0_pay3, k0_pay1]

theorem left_last (c : Dev nD) (t : Fin cfg0.N) (h : t.val = 3) (k : Fin 2176) (q : Fin 1024) :
    (left m c t (ix2 k q) : EReal)
      = acc m c ⟨t.val - 1, by omega⟩ (ix2 k q) + ∑ n : Fin 1024, (blk0 m c t (ix2 n k) : EReal) * blk1 m c t (ix2 n q) := by
  unfold left acc
  rw [outsAt0_C m c t (by omega) (by omega) (by omega)]
  frame_out
  rw [read_unread_whole]
  generalize (outsAt0 m c (t.val - 1) _).2 = o
  pointwise [k0_pay4, k0_pay3, k0_pay1]

/-- The reference's gradient at an index. -/
theorem ref_at (x0 : FVec Ideal S2x2048x1024 .f32) (x1 : FVec Ideal S2x2048x2056 .f32) (k : Fin 2056) (q : Fin 1024) :
    (Cert.ReferenceInIdeal.Read.val_main_v5 (F := Ideal) x0 x1 (ix2 k q) : EReal)
      = ∑ x : Fin 2, ∑ y : Fin 2048, (x1 (ix3 x y k) : EReal) * x0 (ix3 x y q) := by
  pointwise [Cert.ReferenceInIdeal.Read.val_main_v5, Cert.ReferenceInIdeal.Read.val_main_v4, Cert.ReferenceInIdeal.Read.val_main_v3, Cert.ReferenceInIdeal.Read.val_main_v2]

/-- A grid point's product, over its tokens' numbers. -/
theorem part_at (c : Dev nD) (t : Fin cfg0.N) (j : ℕ) (h : t.val = j) (k : Fin 2056) (q : Fin 1024) :
    ∑ n : Fin 1024, (blk0 m c t (ix2 n ⟨k.val, by omega⟩) : EReal) * blk1 m c t (ix2 n q)
      = ∑ n : Fin 1024, (x1 m c (ix3 (seqOf (1024 * j + n.val)) (posOf (1024 * j + n.val)) k) : EReal)
          * x0 m c (ix3 (seqOf (1024 * j + n.val)) (posOf (1024 * j + n.val)) q) := by
  subst h
  refine Finset.sum_congr rfl fun n _ => congrArg₂ (· * ·) ?_ ?_
  · exact (blk0_at m c t n _).trans (v2_at m c ⟨1024 * t.val + n.val, by have := lt4 t; omega⟩ k)
  · exact (blk1_at m c t n q).trans (v4_at m c ⟨1024 * t.val + n.val, by have := lt4 t; omega⟩ q)

/-- What the last grid point leaves is, in the rows the result has, the reference's value. -/
theorem left_at (c : Dev nD) (t : Fin cfg0.N) (h : t.val = 3) (k : Fin 2056) (q : Fin 1024) :
    left m c t (ix2 ⟨k.val, by omega⟩ q) = Cert.ReferenceInIdeal.Read.val_main_v5 (F := Ideal) (x0 m c) (x1 m c) (ix2 k q) := by
  refine (left_last m c t h _ q).trans (Eq.trans ?_ (ref_at _ _ k q).symm)
  rw [by_tiles _ 4 1024 (by decide), Fin.sum_univ_four, part_at m c t 3 h k q]
  have h3 := lt4 t
  rw [acc_next m c ⟨t.val - 1, by omega⟩ (show 1 ≤ t.val - 1 by omega) (show t.val - 1 < 3 by omega), part_at m c ⟨t.val - 1, by omega⟩ 2 (show t.val - 1 = 2 by omega) k q]
  rw [acc_next m c ⟨t.val - 1 - 1, by omega⟩ (show 1 ≤ t.val - 1 - 1 by omega) (show t.val - 1 - 1 < 3 by omega), part_at m c ⟨t.val - 1 - 1, by omega⟩ 1 (show t.val - 1 - 1 = 1 by omega) k q]
  rw [acc_first m c ⟨t.val - 1 - 1 - 1, by omega⟩ (show t.val - 1 - 1 - 1 = 0 by omega), part_at m c ⟨t.val - 1 - 1 - 1, by omega⟩ 0 (show t.val - 1 - 1 - 1 = 0 by omega) k q]
  rfl

/-- The point that writes back is the last one. -/
theorem flush_last : ∀ t : Fin cfg0.N, (cfg0.win 2).flush t = true → t.val = 3 :=
  (by decide +kernel : ∀ t : Fin grid0.N, win0_2.flush t = true → t.val = 3)

/-- After the call the result is the reference's value. -/
theorem result (c : Dev nD) :
    (dats m 0 c).arrAt 2 cfg0.N = Cert.ReferenceInIdeal.Read.val_main_v5 (F := Ideal) (m ((c : Thread nD τ).loc main_arg0)) (m ((c : Thread nD τ).loc main_arg1)) := by
  have key := left_at m c
  generalize Cert.ReferenceInIdeal.Read.val_main_v5 (F := Ideal) (m ((c : Thread nD τ).loc main_arg0)) (m ((c : Thread nD τ).loc main_arg1)) = G at key ⊢
  refine (dats m 0 c).arrAt_eq_of_covers 2 _ (by decide +kernel) fun t hf y => ?_
  rw [after0_2]
  obtain ⟨h0, h1⟩ := idx2 t
  have b0 : (y 0).val < 2056 := by
    have hb := ((((cfg0.win 2).blk t).view.emb y) (0 : Fin 2)).isLt
    have e : ((((cfg0.win 2).blk t).view.emb y) (0 : Fin 2)).val = win0_2.index t (0 : Fin 2) * 2176 + 1 * (y 0).val := rfl
    rw [e, h0] at hb
    have hb' : 0 * 2176 + 1 * (y 0).val < 2056 := hb
    omega
  have b1 : (y 1).val < 1024 := by
    have hb := ((((cfg0.win 2).blk t).view.emb y) (1 : Fin 2)).isLt
    have e : ((((cfg0.win 2).blk t).view.emb y) (1 : Fin 2)).val = win0_2.index t (1 : Fin 2) * 1024 + 1 * (y 1).val := rfl
    rw [e, h1] at hb
    have hb' : 0 * 1024 + 1 * (y 1).val < 1024 := hb
    omega
  have ey : ((cfg0.win 2).blk t).view.emb y = (ix2 ⟨(y 0).val, b0⟩ ⟨(y 1).val, b1⟩ : S2056x1024.Idx) := by
    funext d
    apply Fin.ext
    match d with
    | ⟨0, _⟩ => show win0_2.index t (0 : Fin 2) * 2176 + 1 * (y 0).val = (y 0).val; omega
    | ⟨1, _⟩ => show win0_2.index t (1 : Fin 2) * 1024 + 1 * (y 1).val = (y 1).val; omega
  have ex : (cfg0.win 2).xinj (cfg0.grid.coords t) y = (ix2 ⟨(y 0).val, by omega⟩ ⟨(y 1).val, b1⟩ : S2176x1024.Idx) := by
    funext d
    apply Fin.ext
    match d with
    | ⟨0, _⟩ => rfl
    | ⟨1, _⟩ => rfl
  have e := (key t (flush_last t hf) ⟨(y 0).val, b0⟩ ⟨(y 1).val, b1⟩).trans (congrArg G ey.symm)
  rw [ex]
  revert e
  unfold left
  generalize (outsAt0 m c t.val t.isLt).1 = f
  exact fun e => e

end Cert.DwIn

end
-- ==== Proof.Weights.lean ====
module

public import proofs.«01_k».proof.Defs
public import proofs.«01_k».proof.Proof.Gen.KernelUpGate
public import proofs.«01_k».proof.Proof.Gen.KernelUpGate.Frame
public import proofs.«01_k».proof.Proof.Gen.KernelUpGateIdeal
public import proofs.«01_k».proof.Proof.Gen.KernelUpGateIdeal.Frame
public import proofs.«01_k».proof.Proof.Gen.KernelUpGateIdeal.Value
public import proofs.«01_k».proof.Proof.Gen.ReferenceUpGateIdeal
public import proofs.«01_k».proof.Proof.Gen.ReferenceUpGateIdeal.Run
public import proofs.«01_k».proof.Proof.Gen.ReferenceUpGateIdeal.Read
public import proofs.«01_k».proof.Proof.Gen.KernelUpVal
public import proofs.«01_k».proof.Proof.Gen.KernelUpVal.Frame
public import proofs.«01_k».proof.Proof.Gen.KernelUpValIdeal
public import proofs.«01_k».proof.Proof.Gen.KernelUpValIdeal.Frame
public import proofs.«01_k».proof.Proof.Gen.KernelUpValIdeal.Value
public import proofs.«01_k».proof.Proof.Gen.ReferenceUpValIdeal
public import proofs.«01_k».proof.Proof.Gen.ReferenceUpValIdeal.Run
public import proofs.«01_k».proof.Proof.Gen.ReferenceUpValIdeal.Read
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.DwUpGate
public import proofs.«01_k».proof.Proof.DwUpVal
public import proofs.«01_k».proof.Proof.DwDown
public import proofs.«01_k».proof.Proof.DwIn
public import Idealize.ShloMosaic.Adequacy
public import Idealize.ShloMosaic.Init
public import Idealize.ShloMosaic.Lib.Claim

@[expose] public section

noncomputable section

namespace Cert.Dw

open Idealize.ShloMosaic Idealize.SL.Sem

/-! # The four products for the weights' gradients: frames and equal results -/

theorem frame_kernel_UpGate : Cert.quiescent_KernelUpGate := fun m ρ _ => Cert.KernelUpGate.Gen.frame (F := Bits) m ρ

theorem frame_ideal_UpGate : Cert.quiescent_KernelUpGateIdeal := fun m ρ _ => Cert.KernelUpGateIdeal.Gen.frame (F := Ideal) m ρ

theorem frame_reference_UpGate : Cert.quiescent_ReferenceUpGateIdeal := fun m ρ _ =>
  (θ_run Cert.ReferenceUpGateIdeal.defs _ _).mono (fun r h => ⟨fun c => (h c).2, sem_eq_zero_of_no_sems (by decide) r.2⟩)
    (Cert.ReferenceUpGateIdeal.Value.run (F := Ideal) m ρ)

/-- Kernel and reference end with equal results: what the reference computes from the kernel's arguments. -/
theorem algebraic_UpGate : Cert.algebraic_KernelUpGateIdeal_ReferenceUpGateIdeal := by
  intro m g m' g' _ hargs
  refine ⟨fun c => Cert.ReferenceUpGateIdeal.Read.val_main_v7 (F := Ideal)
    (m ((c.tc : Thread Cert.KernelUpGateIdeal.nD Cert.KernelUpGateIdeal.τ).loc Cert.KernelUpGateIdeal.main_arg0))
    (m ((c.tc : Thread Cert.KernelUpGateIdeal.nD Cert.KernelUpGateIdeal.τ).loc Cert.KernelUpGateIdeal.main_arg1)), ?_, ?_⟩
  · exact (θ_run Cert.KernelUpGateIdeal.defs _ _).mono (fun r h c => ⟨(h c).1.trans (Cert.DwUpGate.result m c), (h c).2⟩)
      (Cert.KernelUpGateIdeal.Value.run_blocks (F := Ideal) m g)
  · refine (θ_run Cert.ReferenceUpGateIdeal.defs _ _).mono (fun r h c => ⟨(h c).1.trans ?_, (h c).2⟩) (Cert.ReferenceUpGateIdeal.Value.run (F := Ideal) m' g')
    obtain ⟨a0, a1⟩ := hargs c
    rw [Cert.ReferenceUpGateIdeal.Read.val_main_v7_eq]
    exact congrArg₂ (Cert.ReferenceUpGateIdeal.Read.val_main_v7 (F := Ideal)) a0 a1

theorem frame_kernel_UpVal : Cert.quiescent_KernelUpVal := fun m ρ _ => Cert.KernelUpVal.Gen.frame (F := Bits) m ρ

theorem frame_ideal_UpVal : Cert.quiescent_KernelUpValIdeal := fun m ρ _ => Cert.KernelUpValIdeal.Gen.frame (F := Ideal) m ρ

theorem frame_reference_UpVal : Cert.quiescent_ReferenceUpValIdeal := fun m ρ _ =>
  (θ_run Cert.ReferenceUpValIdeal.defs _ _).mono (fun r h => ⟨fun c => (h c).2, sem_eq_zero_of_no_sems (by decide) r.2⟩)
    (Cert.ReferenceUpValIdeal.Value.run (F := Ideal) m ρ)

/-- Kernel and reference end with equal results: what the reference computes from the kernel's arguments. -/
theorem algebraic_UpVal : Cert.algebraic_KernelUpValIdeal_ReferenceUpValIdeal := by
  intro m g m' g' _ hargs
  refine ⟨fun c => Cert.ReferenceUpValIdeal.Read.val_main_v7 (F := Ideal)
    (m ((c.tc : Thread Cert.KernelUpValIdeal.nD Cert.KernelUpValIdeal.τ).loc Cert.KernelUpValIdeal.main_arg0))
    (m ((c.tc : Thread Cert.KernelUpValIdeal.nD Cert.KernelUpValIdeal.τ).loc Cert.KernelUpValIdeal.main_arg1)), ?_, ?_⟩
  · exact (θ_run Cert.KernelUpValIdeal.defs _ _).mono (fun r h c => ⟨(h c).1.trans (Cert.DwUpVal.result m c), (h c).2⟩)
      (Cert.KernelUpValIdeal.Value.run_blocks (F := Ideal) m g)
  · refine (θ_run Cert.ReferenceUpValIdeal.defs _ _).mono (fun r h c => ⟨(h c).1.trans ?_, (h c).2⟩) (Cert.ReferenceUpValIdeal.Value.run (F := Ideal) m' g')
    obtain ⟨a0, a1⟩ := hargs c
    rw [Cert.ReferenceUpValIdeal.Read.val_main_v7_eq]
    exact congrArg₂ (Cert.ReferenceUpValIdeal.Read.val_main_v7 (F := Ideal)) a0 a1

theorem frame_kernel_Down : Cert.quiescent_KernelDown := fun m ρ _ => Cert.KernelDown.Gen.frame (F := Bits) m ρ

theorem frame_ideal_Down : Cert.quiescent_KernelDownIdeal := fun m ρ _ => Cert.KernelDownIdeal.Gen.frame (F := Ideal) m ρ

theorem frame_reference_Down : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- Kernel and reference end with equal results: what the reference computes from the kernel's arguments. -/
theorem algebraic_Down : Cert.algebraic_KernelDownIdeal_ReferenceDownIdeal := by
  intro m g m' g' _ hargs
  refine ⟨fun c => Cert.ReferenceDownIdeal.Read.val_main_v5 (F := Ideal)
    (m ((c.tc : Thread Cert.KernelDownIdeal.nD Cert.KernelDownIdeal.τ).loc Cert.KernelDownIdeal.main_arg0))
    (m ((c.tc : Thread Cert.KernelDownIdeal.nD Cert.KernelDownIdeal.τ).loc Cert.KernelDownIdeal.main_arg1)), ?_, ?_⟩
  · exact (θ_run Cert.KernelDownIdeal.defs _ _).mono (fun r h c => ⟨(h c).1.trans (Cert.DwDown.result m c), (h c).2⟩)
      (Cert.KernelDownIdeal.Value.run_blocks (F := Ideal) m g)
  · refine (θ_run Cert.ReferenceDownIdeal.defs _ _).mono (fun r h c => ⟨(h c).1.trans ?_, (h c).2⟩) (Cert.ReferenceDownIdeal.Value.run (F := Ideal) m' g')
    obtain ⟨a0, a1⟩ := hargs c
    rw [Cert.ReferenceDownIdeal.Read.val_main_v5_eq]
    exact congrArg₂ (Cert.ReferenceDownIdeal.Read.val_main_v5 (F := Ideal)) a0 a1

theorem frame_kernel_In : Cert.quiescent_KernelIn := fun m ρ _ => Cert.KernelIn.Gen.frame (F := Bits) m ρ

theorem frame_ideal_In : Cert.quiescent_KernelInIdeal := fun m ρ _ => Cert.KernelInIdeal.Gen.frame (F := Ideal) m ρ

theorem frame_reference_In : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- Kernel and reference end with equal results: what the reference computes from the kernel's arguments. -/
theorem algebraic_In : Cert.algebraic_KernelInIdeal_ReferenceInIdeal := by
  intro m g m' g' _ hargs
  refine ⟨fun c => Cert.ReferenceInIdeal.Read.val_main_v5 (F := Ideal)
    (m ((c.tc : Thread Cert.KernelInIdeal.nD Cert.KernelInIdeal.τ).loc Cert.KernelInIdeal.main_arg0))
    (m ((c.tc : Thread Cert.KernelInIdeal.nD Cert.KernelInIdeal.τ).loc Cert.KernelInIdeal.main_arg1)), ?_, ?_⟩
  · exact (θ_run Cert.KernelInIdeal.defs _ _).mono (fun r h c => ⟨(h c).1.trans (Cert.DwIn.result m c), (h c).2⟩)
      (Cert.KernelInIdeal.Value.run_blocks (F := Ideal) m g)
  · refine (θ_run Cert.ReferenceInIdeal.defs _ _).mono (fun r h c => ⟨(h c).1.trans ?_, (h c).2⟩) (Cert.ReferenceInIdeal.Value.run (F := Ideal) m' g')
    obtain ⟨a0, a1⟩ := hargs c
    rw [Cert.ReferenceInIdeal.Read.val_main_v5_eq]
    exact congrArg₂ (Cert.ReferenceInIdeal.Read.val_main_v5 (F := Ideal)) a0 a1

end Cert.Dw

end
-- ==== Proof.FwdSpec.lean ====
module

public import proofs.«01_k».proof.Proof.Gen.ReferenceFwdIdeal.Read
public import Idealize.ShloMosaic.Lib.Pointwise

@[expose] public section

set_option maxRecDepth 16384

noncomputable section

namespace Cert.Fwd

open Cert.ReferenceFwdIdeal Cert.ReferenceFwdIdeal.Gen Cert.ReferenceFwdIdeal.Read
open Idealize.ShloMosaic Idealize.ShloMosaic.TcCoe

/-! # The forward pass of the ConvFFN at an index

Tokens are counted through both sequences: token `n` is position `n % 2048` of sequence `n / 2048`. -/

/-- The arguments: the input, the residual, the target, the weights, the taps and the bias of the convolution. -/
structure Args where
  h : FVec Ideal S2x2048x1024 .f32
  h1 : FVec Ideal S2x2048x1024 .f32
  tgt : FVec Ideal S2x2048x1024 .f32
  up : FVec Ideal S1024x5504 .f32
  cw : FVec Ideal S3x5504 .f32
  cb : FVec Ideal S5504 .f32
  down : FVec Ideal S2752x1024 .f32

/-- Token `n` and a model feature, token `n` and a hidden feature. -/
def hix (n : ℕ) (q : Fin 1024) : S2x2048x1024.Idx := ix3 ⟨n / 2048 % 2, by omega⟩ ⟨n % 2048, by omega⟩ q
def uix (n f : ℕ) : S2x2048x5504.Idx := ix3 ⟨n / 2048 % 2, by omega⟩ ⟨n % 2048, by omega⟩ ⟨f % 5504, by omega⟩

theorem hix_eq (n : ℕ) (x : Fin 2) (y : Fin 2048) (q : Fin 1024) (hx : x.val = n / 2048) (hy : y.val = n % 2048) :
    (ix3 x y q : S2x2048x1024.Idx) = hix n q := by
  unfold hix
  exact congrArg₂ (fun a b => ix3 a b q) (Fin.ext (by have := x.isLt; show x.val = n / 2048 % 2; omega)) (Fin.ext hy)

theorem uix_eq (n f : ℕ) (x : Fin 2) (y : Fin 2048) (k : Fin 5504) (hx : x.val = n / 2048) (hy : y.val = n % 2048) (hk : k.val = f) :
    (ix3 x y k : S2x2048x5504.Idx) = uix n f := by
  unfold uix
  have e1 : x = ⟨n / 2048 % 2, by omega⟩ := Fin.ext (by have := x.isLt; show x.val = n / 2048 % 2; omega)
  have e2 : y = ⟨n % 2048, by omega⟩ := Fin.ext hy
  have e3 : k = ⟨f % 5504, by omega⟩ := Fin.ext (by have := k.isLt; show k.val = f % 5504; omega)
  rw [e1, e2, e3]

variable (a : Args)

/-- The up-projection, -/
def U (n f : ℕ) : EReal := val_main_v0 (F := Ideal) a.h a.up (uix n f)
/-- `d` tokens before, zero before the sequence begins, -/
def Uback (d n f : ℕ) : EReal := if n % 2048 < d then 0 else U a (n - d) f
/-- a tap and the bias, -/
def T (d : Fin 3) (f : ℕ) : EReal := a.cw (ix2 d ⟨f % 5504, by omega⟩)
def B (f : ℕ) : EReal := a.cb (ix1 ⟨f % 5504, by omega⟩)
/-- the convolution, -/
def C (n f : ℕ) : EReal := Uback a 2 n f * T a 0 f + Uback a 1 n f * T a 1 f + U a n f * T a 2 f + B a f
/-- the activation, -/
def Act (n f : ℕ) : EReal := C a n f * Ideal.logistic (C a n f) * C a n (2752 + f)
/-- the down-projection, -/
def Y (n : ℕ) (q : Fin 1024) : EReal := ∑ k : Fin 2752, Act a n k.val * a.down (ix2 k q)
/-- the error. -/
def E (n : ℕ) (q : Fin 1024) : EReal := a.h1 (hix n q) + Y a n q - a.tgt (hix n q)

theorem U_eq (n f : ℕ) : U a n f = ∑ q : Fin 1024, (a.h (hix n q) : EReal) * a.up (ix2 q ⟨f % 5504, by omega⟩) := by
  unfold U uix hix
  pointwise [val_main_v0]

theorem r0 (x : Fin 2) (y : Fin 2048) (f : Fin 5504) : (val_main_v0 (F := Ideal) a.h a.up (ix3 x y f) : EReal) = U a (2048 * x.val + y.val) f.val := by
  unfold U
  rw [← uix_eq (2048 * x.val + y.val) f.val x y f (by omega) (by omega) rfl]

theorem modf (f : Fin 5504) (h : f.val % 5504 < 5504) : (⟨f.val % 5504, h⟩ : Fin 5504) = f := Fin.ext (Nat.mod_eq_of_lt f.isLt)

/-- The value the padding is filled with. -/
theorem pad_zero (i : S_.Idx) : (val_main_call0_v0 (F := Ideal) i : EReal) = 0 := by
  unfold val_main_call0_v0 val_main_c
  pointwise
  show ((((0#32 : BitVec 32).toInt : ℤ) : ℝ) : EReal) = 0
  simp

theorem r24 (x : Fin 2) (y : Fin 2048) (f : Fin 5504) : (val_main_v24 (F := Ideal) a.h a.up a.cw a.cb (ix3 x y f) : EReal) = C a (2048 * x.val + y.val) f.val := by
  unfold C Uback T B
  have e := r0 a
  generalize U a = u at e ⊢
  simp only [modf]
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1]
  refine congrArg₂ (· + ·) (congrArg₂ (· + ·) (congrArg₂ (· + ·) (congrArg₂ (· * ·) ?_ rfl) (congrArg₂ (· * ·) ?_ rfl)) (congrArg₂ (· * ·) (e x y f) rfl)) rfl
  · by_cases h : 2 ≤ y.val
    · rw [dif_pos ⟨h, by omega⟩, if_neg (by omega), e]
      exact congrArg₂ u (show 2048 * x.val + (y.val - 2) = 2048 * x.val + y.val - 2 by omega) rfl
    · rw [dif_neg (by omega), if_pos (by omega), pad_zero]
  · by_cases h : 1 ≤ y.val
    · rw [dif_pos (by omega), if_neg (by omega), e]
      exact congrArg₂ u (show 2048 * x.val + (1 + y.val - 2) = 2048 * x.val + y.val - 1 by omega) rfl
    · rw [dif_neg (by omega), if_pos (by omega), pad_zero]

theorem r28 (x : Fin 2) (y : Fin 2048) (k : Fin 2752) : (val_main_v28 (F := Ideal) a.h a.up a.cw a.cb (ix3 x y k) : EReal) = Act a (2048 * x.val + y.val) k.val := by
  unfold Act
  have e := r24 a
  unfold val_main_v28 val_main_v27 val_main_v26 val_main_call1_v5 val_main_call1_v3 val_main_call1_v4 val_main_call1_v2 val_main_call1_v1 val_main_call1_v0 val_main_call1_cst val_main_call1_cst_0 val_main_v25
  generalize val_main_v24 (F := Ideal) a.h a.up a.cw a.cb = u at e ⊢
  generalize C a = w at e ⊢
  pointwise
  rw [e, e]
  rfl

theorem r31 (x : Fin 2) (y : Fin 2048) (q : Fin 1024) : (val_main_v31 (F := Ideal) a.h a.h1 a.tgt a.up a.cw a.cb a.down (ix3 x y q) : EReal) = E a (2048 * x.val + y.val) q := by
  unfold E Y
  have e := r28 a
  rw [← hix_eq (2048 * x.val + y.val) x y q (by omega) (by omega)]
  unfold val_main_v31 val_main_v30 val_main_v29
  generalize val_main_v28 (F := Ideal) a.h a.up a.cw a.cb = u at e ⊢
  generalize Act a = w at e ⊢
  pointwise
  simp only [e]

/-- The constants of the gradient of the mean: one half, two, the number of model features, and what they make together. -/
theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem width_eq : Ideal.ofBits .f32 0x44800000#32 = ((1024 : ℝ) : EReal) := by
  simp [Ideal.ofBits, Ideal.ieee, -EReal.coe_mul]; norm_num
theorem scale_eq : Ideal.ofBits .f32 0x3A800000#32 = ((1 / 1024 : ℝ) : EReal) := by
  simp [Ideal.ofBits, Ideal.ieee, -EReal.coe_mul]; norm_num

theorem scaled (x : EReal) : Ideal.div (Ideal.ofBits .f32 0x3F000000#32) (Ideal.ofBits .f32 0x44800000#32) * (Ideal.ofBits .f32 0x40000000#32 * x)
    = x * Ideal.ofBits .f32 0x3A800000#32 := by
  rw [half_eq, two_eq, width_eq, scale_eq, Ideal.div_coe (by norm_num), ← mul_assoc, ← EReal.coe_mul, ← EReal.coe_mul, mul_comm]
  norm_num

theorem r60 (n : Fin 4096) (q : Fin 1024) : (val_main_v60 (F := Ideal) a.h a.h1 a.tgt a.up a.cw a.cb a.down (ix2 n q) : EReal) = E a n.val q * Ideal.ofBits .f32 0x3A800000#32 := by
  have e := r31 a
  unfold val_main_v60 val_main_v45 val_main_v44 val_main_v43 val_main_v42 val_main_cst_6 val_main_v41 val_main_v40 val_main_cst_5 val_main_cst_4 val_main_v34 val_main_v33 val_main_cst
  generalize val_main_v31 (F := Ideal) a.h a.h1 a.tgt a.up a.cw a.cb a.down = u at e ⊢
  generalize E a = w at e ⊢
  pointwise
  refine (scaled _).trans (congrArg (· * _) ?_)
  rw [e]
  exact congrArg₂ w (show 2048 * (n.val / 2048) + n.val % 2048 = n.val by omega) rfl

theorem r63 (i : Fin 8) (q : Fin 1024) : (val_main_v63 (F := Ideal) a.h a.h1 a.tgt a.up a.cw a.cb a.down (ix3 i 0 q) : EReal) = ∑ r : Fin 512, E a (512 * i.val + r.val) q * E a (512 * i.val + r.val) q := by
  have e := r31 a
  unfold val_main_v63 val_main_v62 val_main_v61 val_main_v32 val_main_cst_7
  generalize val_main_v31 (F := Ideal) a.h a.h1 a.tgt a.up a.cw a.cb a.down = u at e ⊢
  generalize E a = w at e ⊢
  pointwise
  refine Finset.sum_congr rfl fun r _ => ?_
  rw [e]
  have h : 2048 * (i.val / 4) + (i.val % 4 * 512 + r.val) = 512 * i.val + r.val := by omega
  exact congrArg (fun n => w n q * w n q) h

theorem r49 (j : Fin 4) (n : Fin 4096) (k : Fin 688) : (val_main_v49 (F := Ideal) a.h a.up (ix3 j n k) : EReal) = U a n.val (688 * j.val + k.val) := by
  have e := r0 a
  unfold val_main_v49 val_main_v48 val_main_v47 val_main_v46
  generalize val_main_v0 (F := Ideal) a.h a.up = u at e ⊢
  generalize U a = w at e ⊢
  pointwise
  rw [e]
  exact congrArg₂ w (show 2048 * (n.val / 2048) + n.val % 2048 = n.val by omega) (show j.val * 688 + k.val = 688 * j.val + k.val by omega)

theorem r53 (j : Fin 4) (n : Fin 4096) (k : Fin 688) : (val_main_v53 (F := Ideal) a.h a.up (ix3 j n k) : EReal) = U a n.val (2752 + (688 * j.val + k.val)) := by
  have e := r0 a
  unfold val_main_v53 val_main_v52 val_main_v51 val_main_v50
  generalize val_main_v0 (F := Ideal) a.h a.up = u at e ⊢
  generalize U a = w at e ⊢
  pointwise
  rw [e]
  exact congrArg₂ w (show 2048 * (n.val / 2048) + n.val % 2048 = n.val by omega) (show 2752 + (j.val * 688 + k.val) = 2752 + (688 * j.val + k.val) by omega)

theorem r56 (j : Fin 4) (n : Fin 4096) (k : Fin 688) : (val_main_v56 (F := Ideal) a.h a.up a.cw a.cb (ix3 j n k) : EReal) = C a n.val (688 * j.val + k.val) := by
  have e := r24 a
  unfold val_main_v56 val_main_v55 val_main_v54 val_main_v25
  generalize val_main_v24 (F := Ideal) a.h a.up a.cw a.cb = u at e ⊢
  generalize C a = w at e ⊢
  pointwise
  rw [e]
  exact congrArg₂ w (show 2048 * (n.val / 2048) + n.val % 2048 = n.val by omega) (show j.val * 688 + k.val = 688 * j.val + k.val by omega)

theorem r59 (j : Fin 4) (n : Fin 4096) (k : Fin 688) : (val_main_v59 (F := Ideal) a.h a.up a.cw a.cb (ix3 j n k) : EReal) = C a n.val (2752 + (688 * j.val + k.val)) := by
  have e := r24 a
  unfold val_main_v59 val_main_v58 val_main_v57 val_main_v26
  generalize val_main_v24 (F := Ideal) a.h a.up a.cw a.cb = u at e ⊢
  generalize C a = w at e ⊢
  pointwise
  rw [e]
  exact congrArg₂ w (show 2048 * (n.val / 2048) + n.val % 2048 = n.val by omega) (show 2752 + (j.val * 688 + k.val) = 2752 + (688 * j.val + k.val) by omega)

end Cert.Fwd

end
-- ==== Proof.FwdOut.lean ====
module

public import proofs.«01_k».proof.Proof.Gen.KernelFwdIdeal.Frame
public import Idealize.ShloMosaic.Lib.Pipeline.ValueKit
public import Idealize.ShloMosaic.Lib.Pipeline.ReadBack

@[expose] public section

set_option maxRecDepth 16384

noncomputable section

namespace Cert.Fwd

open Cert.KernelFwdIdeal Cert.KernelFwdIdeal.Gen
open Idealize.ShloMosaic Idealize.ShloMosaic.TcCoe

/-! # What a grid point of the forward call leaves

The values of the body, over the blocks the point reads: grid point `t` is tile `t / 4` of 512 tokens and group `t % 4`
of 688 features. -/

variable (m : (ℓ : Loc nD τ sig) → Buf (Elt Ideal) ℓ)

theorem lt32 (t : Fin cfg0.N) : t.val < 32 := lt_of_lt_of_eq t.isLt (show cfg0.N = 32 from N_0)

/-- The blocks a grid point reads: the tile of the input, the rows before it, the tiles of the residual and the target, -/
abbrev xMain (c : Dev nD) (t : Fin cfg0.N) : FVec Ideal S512x1024 .bf16 := iblk m c 0 t
abbrev xHalo (c : Dev nD) (t : Fin cfg0.N) : FVec Ideal S16x1024 .bf16 := iblk m c 1 t
abbrev xRes (c : Dev nD) (t : Fin cfg0.N) : FVec Ideal S512x1024 .f32 := iblk m c 2 t
abbrev xTgt (c : Dev nD) (t : Fin cfg0.N) : FVec Ideal S512x1024 .f32 := iblk m c 3 t
/-- and the group's weights, taps and rows of the down-projection. -/
abbrev wGate (c : Dev nD) (t : Fin cfg0.N) : FVec Ideal S1x688x1024 .bf16 := iblk m c 4 t
abbrev wVal (c : Dev nD) (t : Fin cfg0.N) : FVec Ideal S1x688x1024 .bf16 := iblk m c 5 t
abbrev tGate (c : Dev nD) (t : Fin cfg0.N) : FVec Ideal S1x8x688 .f32 := iblk m c 6 t
abbrev tVal (c : Dev nD) (t : Fin cfg0.N) : FVec Ideal S1x8x688 .f32 := iblk m c 7 t
abbrev wDown (c : Dev nD) (t : Fin cfg0.N) : FVec Ideal S1x688x1024 .bf16 := iblk m c 8 t

/-- The two halves of the up-projection of the tile and the rows before it, -/
def ueGate (c : Dev nD) (t : Fin cfg0.N) : FVec Ideal S528x688 .f32 := k0_pay10 (grid0.coords t) (xHalo m c t) (xMain m c t) (wGate m c t)
def ueVal (c : Dev nD) (t : Fin cfg0.N) : FVec Ideal S528x688 .f32 := k0_pay11 (grid0.coords t) (xHalo m c t) (xMain m c t) (wVal m c t)
/-- their convolutions, -/
def cvGate (c : Dev nD) (t : Fin cfg0.N) : FVec Ideal S512x688 .f32 := k0_pay15 (ueGate m c t) (tGate m c t)
def cvVal (c : Dev nD) (t : Fin cfg0.N) : FVec Ideal S512x688 .f32 := k0_pay16 (ueVal m c t) (tVal m c t)
/-- the group's share of the output, and the accumulator after the point. -/
def part (c : Dev nD) (t : Fin cfg0.N) : FVec Ideal S512x1024 .f32 := k0_pay3 (cvGate m c t) (cvVal m c t) (wDown m c t)
abbrev acc (c : Dev nD) (t : Fin cfg0.N) : FVec Ideal S512x1024 .f32 := (outsAt0 m c t.val t.isLt).2.2.2.2.2.2
/-- What the point leaves in its blocks of the six results. -/
abbrev oUg (c : Dev nD) (t : Fin cfg0.N) : FVec Ideal S1x512x688 .bf16 := (outsAt0 m c t.val t.isLt).1
abbrev oUv (c : Dev nD) (t : Fin cfg0.N) : FVec Ideal S1x512x688 .bf16 := (outsAt0 m c t.val t.isLt).2.1
abbrev oPg (c : Dev nD) (t : Fin cfg0.N) : FVec Ideal S1x512x688 .bf16 := (outsAt0 m c t.val t.isLt).2.2.1
abbrev oPv (c : Dev nD) (t : Fin cfg0.N) : FVec Ideal S1x512x688 .bf16 := (outsAt0 m c t.val t.isLt).2.2.2.1
abbrev oDy (c : Dev nD) (t : Fin cfg0.N) : FVec Ideal S512x1024 .f32 := (outsAt0 m c t.val t.isLt).2.2.2.2.1
abbrev oLoss (c : Dev nD) (t : Fin cfg0.N) : FVec Ideal S1x1x1024 .f32 := (outsAt0 m c t.val t.isLt).2.2.2.2.2.1

theorem oUg_eq (c : Dev nD) (t : Fin cfg0.N) (y : S1x512x688.Idx) : oUg m c t y = (k0_pay12 (grid0.coords t) (xHalo m c t) (xMain m c t) (wGate m c t) : FVec Ideal S1x512x688 .bf16) y := by
  unfold oUg
  rcases (by omega : t.val % 4 = 0 ∨ (1 ≤ t.val % 4 ∧ t.val % 4 ≠ 3) ∨ t.val % 4 = 3) with h | h | h
  · rw [outsAt0_A m c t h (by omega) (by omega)]
    frame_out
  · rw [outsAt0_B m c t (by omega) h.1 h.2]
    frame_out
  · rw [outsAt0_C m c t (by omega) (by omega) h]
    frame_out

theorem oUv_eq (c : Dev nD) (t : Fin cfg0.N) (y : S1x512x688.Idx) : oUv m c t y = (k0_pay14 (k0_pay13 (grid0.coords t) (xHalo m c t) (xMain m c t) (wVal m c t)) : FVec Ideal S1x512x688 .bf16) y := by
  unfold oUv
  rcases (by omega : t.val % 4 = 0 ∨ (1 ≤ t.val % 4 ∧ t.val % 4 ≠ 3) ∨ t.val % 4 = 3) with h | h | h
  · rw [outsAt0_A m c t h (by omega) (by omega)]
    frame_out
  · rw [outsAt0_B m c t (by omega) h.1 h.2]
    frame_out
  · rw [outsAt0_C m c t (by omega) (by omega) h]
    frame_out

theorem oPg_eq (c : Dev nD) (t : Fin cfg0.N) (y : S1x512x688.Idx) : oPg m c t y = (k0_pay1 (k0_pay17 (ueGate m c t) (tGate m c t)) : FVec Ideal S1x512x688 .bf16) y := by
  unfold oPg
  rcases (by omega : t.val % 4 = 0 ∨ (1 ≤ t.val % 4 ∧ t.val % 4 ≠ 3) ∨ t.val % 4 = 3) with h | h | h
  · rw [outsAt0_A m c t h (by omega) (by omega)]
    frame_out
    rfl
  · rw [outsAt0_B m c t (by omega) h.1 h.2]
    frame_out
    rfl
  · rw [outsAt0_C m c t (by omega) (by omega) h]
    frame_out
    rfl

theorem oPv_eq (c : Dev nD) (t : Fin cfg0.N) (y : S1x512x688.Idx) : oPv m c t y = (k0_pay2 (cvVal m c t) : FVec Ideal S1x512x688 .bf16) y := by
  unfold oPv
  rcases (by omega : t.val % 4 = 0 ∨ (1 ≤ t.val % 4 ∧ t.val % 4 ≠ 3) ∨ t.val % 4 = 3) with h | h | h
  · rw [outsAt0_A m c t h (by omega) (by omega)]
    frame_out
    rfl
  · rw [outsAt0_B m c t (by omega) h.1 h.2]
    frame_out
    rfl
  · rw [outsAt0_C m c t (by omega) (by omega) h]
    frame_out
    rfl

theorem acc_first (c : Dev nD) (t : Fin cfg0.N) (h : t.val % 4 = 0) (y : S512x1024.Idx) : acc m c t y = (k0_pay4 (cvGate m c t) (cvVal m c t) (wDown m c t) : FVec Ideal S512x1024 .f32) y := by
  unfold acc
  rw [outsAt0_A m c t h (by omega) (by omega)]
  frame_out
  rfl

theorem acc_next (c : Dev nD) (t : Fin cfg0.N) (h : t.val % 4 ≠ 0) (y : S512x1024.Idx) :
    acc m c t y = (k0_pay5 (cvGate m c t) (cvVal m c t) (wDown m c t) (acc m c ⟨t.val - 1, by omega⟩) : FVec Ideal S512x1024 .f32) y := by
  unfold acc
  rcases (by omega : (1 ≤ t.val % 4 ∧ t.val % 4 ≠ 3) ∨ t.val % 4 = 3) with h' | h'
  · rw [outsAt0_B m c t (by omega) h'.1 h'.2]
    frame_out
    rw [read_unread_whole]
    rfl
  · rw [outsAt0_C m c t (by omega) (by omega) h']
    frame_out
    rw [read_unread_whole]
    rfl

theorem oDy_eq (c : Dev nD) (t : Fin cfg0.N) (h : t.val % 4 = 3) (y : S512x1024.Idx) :
    oDy m c t y = (k0_pay7 (xRes m c t) (acc m c t) (xTgt m c t) : FVec Ideal S512x1024 .f32) y := by
  have e : acc m c t = (k0_pay5 (cvGate m c t) (cvVal m c t) (wDown m c t) (acc m c ⟨t.val - 1, by omega⟩) : FVec Ideal S512x1024 .f32) := funext (acc_next m c t (by omega))
  rw [e]
  unfold oDy
  rw [outsAt0_C m c t (by omega) (by omega) h]
  frame_out
  rw [read_unread_whole]
  rfl

theorem oLoss_eq (c : Dev nD) (t : Fin cfg0.N) (h : t.val % 4 = 3) (y : S1x1x1024.Idx) :
    oLoss m c t y = (k0_pay8 (xRes m c t) (acc m c t) (xTgt m c t) : FVec Ideal S1x1x1024 .f32) y := by
  have e : acc m c t = (k0_pay5 (cvGate m c t) (cvVal m c t) (wDown m c t) (acc m c ⟨t.val - 1, by omega⟩) : FVec Ideal S512x1024 .f32) := funext (acc_next m c t (by omega))
  rw [e]
  unfold oLoss
  rw [outsAt0_C m c t (by omega) (by omega) h]
  frame_out
  rw [read_unread_whole]
  rfl

end Cert.Fwd

end
-- ==== Proof.FwdHost.lean ====
module

public import proofs.«01_k».proof.Proof.FwdSpec
public import proofs.«01_k».proof.Proof.FwdOut
public import Idealize.ShloMosaic.Lib.StableHlo.ReadAt

@[expose] public section

set_option maxRecDepth 16384

noncomputable section

namespace Cert.Fwd

open Cert.KernelFwdIdeal Cert.KernelFwdIdeal.Gen
open Idealize.ShloMosaic Idealize.ShloMosaic.TcCoe

/-! # What the host hands to the forward call

The arrays the windows read, at an index, from the arguments; then the blocks of a grid point. -/

variable (m : (ℓ : Loc nD τ sig) → Buf (Elt Ideal) ℓ)

/-- The arguments as one device holds them. -/
def args (c : Dev nD) : Args where
  h := m ((c : Thread nD τ).loc main_arg0)
  h1 := m ((c : Thread nD τ).loc main_arg1)
  tgt := m ((c : Thread nD τ).loc main_arg2)
  up := m ((c : Thread nD τ).loc main_arg3)
  cw := m ((c : Thread nD τ).loc main_arg4)
  cb := m ((c : Thread nD τ).loc main_arg5)
  down := m ((c : Thread nD τ).loc main_arg6)

theorem v11_at (c : Dev nD) (n : Fin 4096) (q : Fin 1024) :
    (V m c main_v11 : FVec Ideal S4096x1024 .bf16) (ix2 n q) = (args m c).h (hix n.val q) := by
  rw [← hix_eq n.val ⟨n.val / 2048, by omega⟩ ⟨n.val % 2048, by omega⟩ q rfl rfl]
  unfold V
  after_reads_at
  rfl

theorem v12_at (c : Dev nD) (n : Fin 4096) (q : Fin 1024) :
    (V m c main_v12 : FVec Ideal S4096x1024 .f32) (ix2 n q) = (args m c).h1 (hix n.val q) := by
  rw [← hix_eq n.val ⟨n.val / 2048, by omega⟩ ⟨n.val % 2048, by omega⟩ q rfl rfl]
  unfold V
  after_reads_at
  rfl

theorem v13_at (c : Dev nD) (n : Fin 4096) (q : Fin 1024) :
    (V m c main_v13 : FVec Ideal S4096x1024 .f32) (ix2 n q) = (args m c).tgt (hix n.val q) := by
  rw [← hix_eq n.val ⟨n.val / 2048, by omega⟩ ⟨n.val % 2048, by omega⟩ q rfl rfl]
  unfold V
  after_reads_at
  rfl

theorem v2_at (c : Dev nD) (j : Fin 8) (k : Fin 688) (q : Fin 1024) :
    (V m c main_v2 : FVec Ideal S8x688x1024 .bf16) (ix3 j k q) = (args m c).up (ix2 q ⟨688 * j.val + k.val, by omega⟩) := by
  unfold V
  after_reads_at
  exact congrArg (fun f => (args m c).up (ix2 q f)) (Fin.ext (show j.val * 688 + k.val = 688 * j.val + k.val by omega))

theorem v9_at (c : Dev nD) (j : Fin 4) (k : Fin 688) (q : Fin 1024) :
    (V m c main_v9 : FVec Ideal S4x688x1024 .bf16) (ix3 j k q) = (args m c).down (ix2 ⟨688 * j.val + k.val, by omega⟩ q) := by
  unfold V
  after_reads_at
  exact congrArg (fun f => (args m c).down (ix2 f q)) (Fin.ext (show j.val * 688 + k.val = 688 * j.val + k.val by omega))

/-- The taps and, in the fourth row, the bias. -/
theorem v7_tap (c : Dev nD) (j : Fin 8) (d : Fin 3) (k : Fin 688) :
    (V m c main_v7 : FVec Ideal S8x8x688 .f32) (ix3 j ⟨d.val, by omega⟩ k) = T (args m c) d (688 * j.val + k.val) := by
  unfold V
  after_reads_at
  pointwise
  rw [dif_pos (by omega)]
  after_reads_at
  unfold T
  exact congrArg (fun f => (args m c).cw (ix2 d f)) (Fin.ext (show j.val * 688 + k.val = (688 * j.val + k.val) % 5504 by omega))

theorem v7_bias (c : Dev nD) (j : Fin 8) (k : Fin 688) :
    (V m c main_v7 : FVec Ideal S8x8x688 .f32) (ix3 j 3 k) = B (args m c) (688 * j.val + k.val) := by
  unfold V
  after_reads_at
  pointwise
  after_reads_at
  unfold B
  exact congrArg (fun f => (args m c).cb (ix1 f)) (Fin.ext (show j.val * 688 + k.val = (688 * j.val + k.val) % 5504 by omega))

end Cert.Fwd

end
-- ==== Proof.FwdPay.lean ====
module

public import proofs.«01_k».proof.Proof.FwdOut
public import Idealize.ShloMosaic.Lib.Pointwise

@[expose] public section

set_option maxRecDepth 16384

noncomputable section

namespace Cert.Fwd

open Cert.KernelFwdIdeal Cert.KernelFwdIdeal.Gen
open Idealize.ShloMosaic Idealize.ShloMosaic.TcCoe

/-! # The body of the forward call, element by element -/

/-- The test for the first tile of a sequence. -/
def startTest (i : grid0.Coords) : BitVec 1 :=
  let v0 : BitVec 32 := Scalar.muli (BitVec.ofNat 32 (i 0).val) 512#32
  let v2 : BitVec 32 := Scalar.select (Scalar.cmpi .eq 2048#32 0#32) 1#32 2048#32
  let v3 : BitVec 32 := Scalar.remsi v0 v2
  Scalar.cmpi .eq (Scalar.select (Scalar.andi (Scalar.xori (Scalar.cmpi .slt v3 0#32) (Scalar.cmpi .slt v2 0#32)) (Scalar.cmpi .ne v3 0#32)) (Scalar.addi v3 v2) v3) 0#32

theorem startTest_iff (i : grid0.Coords) : startTest i = 1#1 ↔ (i 0).val % 4 = 0 := by
  have h : (i 0).val < 8 := (i 0).isLt
  unfold startTest
  generalize (i 0).val = n at h
  interval_cases n <;> decide

/-- Sixteen rows before the tile, zero where a sequence begins, and the tile. -/
theorem pay9_at (i : grid0.Coords) (v12 : Vec Ideal S16x1024 .bf16) (v16 : Vec Ideal S512x1024 .bf16) (r : Fin 528) (q : Fin 1024) :
    (k0_pay9 i v12 v16 (ix2 r q) : EReal)
      = if h : r.val < 16 then (if (i 0).val % 4 = 0 then 0 else v12 (ix2 ⟨r.val, h⟩ q)) else v16 (ix2 ⟨r.val - 16, by omega⟩ q) := by
  have e : k0_pay9 i v12 v16 = concatenate S528x1024 0 [⟨S16x1024, (Scalar.select (startTest i) (broadcast S16x1024 (Scalar.ofBits (F := Ideal) .bf16 0x0000#16)) (shapeCast S16x1024 v12 shapeCasts_S16x1024_S16x1024) : FVec Ideal S16x1024 .bf16)⟩,
      ⟨S512x1024, (shapeCast S512x1024 v16 shapeCasts_S512x1024_S512x1024 : FVec Ideal S512x1024 .bf16)⟩] concatenates_S16x1024_S512x1024_S528x1024_d0 := rfl
  rw [e]
  by_cases h : r.val < 16
  · rw [dif_pos h]
    by_cases hi : (i 0).val % 4 = 0
    · rw [if_pos hi, (startTest_iff i).mpr hi]
      pointwise
      rw [dif_pos h]
    · rw [if_neg hi]
      have : startTest i = 0#1 := by
        have := (startTest_iff i).not.mpr hi
        revert this
        generalize startTest i = b
        revert b
        decide
      rw [this]
      pointwise
      rw [dif_pos h]
  · rw [dif_neg h]
    pointwise
    rw [dif_neg h]

/-- Their product with a group of the weights. -/
theorem pay10_at (i : grid0.Coords) (v12 : Vec Ideal S16x1024 .bf16) (v16 : Vec Ideal S512x1024 .bf16) (w : Vec Ideal S1x688x1024 .bf16) (r : Fin 528) (k : Fin 688) :
    (k0_pay10 i v12 v16 w (ix2 r k) : EReal) = ∑ q : Fin 1024, (k0_pay9 i v12 v16 (ix2 r q) : EReal) * w (ix3 0 k q) := by
  unfold k0_pay10
  generalize k0_pay9 i v12 v16 = u
  pointwise

theorem pay11_at (i : grid0.Coords) (v12 : Vec Ideal S16x1024 .bf16) (v16 : Vec Ideal S512x1024 .bf16) (w : Vec Ideal S1x688x1024 .bf16) (r : Fin 528) (k : Fin 688) :
    (k0_pay11 i v12 v16 w (ix2 r k) : EReal) = ∑ q : Fin 1024, (k0_pay9 i v12 v16 (ix2 r q) : EReal) * w (ix3 0 k q) := by
  unfold k0_pay11
  generalize k0_pay9 i v12 v16 = u
  pointwise

theorem pay12_at (i : grid0.Coords) (v12 : Vec Ideal S16x1024 .bf16) (v16 : Vec Ideal S512x1024 .bf16) (w : Vec Ideal S1x688x1024 .bf16) (r : Fin 512) (k : Fin 688) :
    (k0_pay12 i v12 v16 w (ix3 0 r k) : EReal) = k0_pay10 i v12 v16 w (ix2 ⟨16 + r.val, by omega⟩ k) := by
  unfold k0_pay12
  generalize k0_pay10 i v12 v16 w = u
  pointwise

theorem pay14_at (i : grid0.Coords) (v12 : Vec Ideal S16x1024 .bf16) (v16 : Vec Ideal S512x1024 .bf16) (w : Vec Ideal S1x688x1024 .bf16) (r : Fin 512) (k : Fin 688) :
    (k0_pay14 (k0_pay13 i v12 v16 w) (ix3 0 r k) : EReal) = k0_pay11 i v12 v16 w (ix2 ⟨16 + r.val, by omega⟩ k) := by
  unfold k0_pay14 k0_pay13
  generalize k0_pay11 i v12 v16 w = u
  pointwise

/-- A row of the tile, some rows back. -/
theorem rot1 (r : Fin 512) (h : (16 + r.val + 528 - 1) % 528 < 528) : (⟨(16 + r.val + 528 - 1) % 528, h⟩ : Fin 528) = ⟨15 + r.val, by omega⟩ :=
  Fin.ext (by show (16 + r.val + 528 - 1) % 528 = 15 + r.val; omega)

theorem rot2 (r : Fin 512) (h : (16 + r.val + 528 - 2) % 528 < 528) : (⟨(16 + r.val + 528 - 2) % 528, h⟩ : Fin 528) = ⟨14 + r.val, by omega⟩ :=
  Fin.ext (by show (16 + r.val + 528 - 2) % 528 = 14 + r.val; omega)

/-- The convolution along the rows, with its bias. -/
theorem pay15_at (u : FVec Ideal S528x688 .f32) (w : Vec Ideal S1x8x688 .f32) (r : Fin 512) (k : Fin 688) :
    (k0_pay15 u w (ix2 r k) : EReal)
      = w (ix3 0 2 k) * u (ix2 ⟨16 + r.val, by omega⟩ k) + w (ix3 0 1 k) * u (ix2 ⟨15 + r.val, by omega⟩ k)
        + w (ix3 0 0 k) * u (ix2 ⟨14 + r.val, by omega⟩ k) + w (ix3 0 3 k) := by
  pointwise [k0_pay15]
  rw [rot1, rot2]

theorem pay16_at (u : FVec Ideal S528x688 .f32) (w : Vec Ideal S1x8x688 .f32) (r : Fin 512) (k : Fin 688) :
    (k0_pay16 u w (ix2 r k) : EReal)
      = w (ix3 0 2 k) * u (ix2 ⟨16 + r.val, by omega⟩ k) + w (ix3 0 1 k) * u (ix2 ⟨15 + r.val, by omega⟩ k)
        + w (ix3 0 0 k) * u (ix2 ⟨14 + r.val, by omega⟩ k) + w (ix3 0 3 k) := by
  pointwise [k0_pay16]
  rw [rot1, rot2]

theorem pay1_at (u : FVec Ideal S528x688 .f32) (w : Vec Ideal S1x8x688 .f32) (r : Fin 512) (k : Fin 688) :
    (k0_pay1 (k0_pay17 u w) (ix3 0 r k) : EReal) = k0_pay15 u w (ix2 r k) := by
  unfold k0_pay1 k0_pay17
  generalize k0_pay15 u w = z
  pointwise

theorem pay2_at (x : FVec Ideal S512x688 .f32) (r : Fin 512) (k : Fin 688) : (k0_pay2 x (ix3 0 r k) : EReal) = x (ix2 r k) := by
  pointwise [k0_pay2]

/-- The activation's product with a group of rows of the down-projection. -/
theorem pay3_at (x y : FVec Ideal S512x688 .f32) (w : Vec Ideal S1x688x1024 .bf16) (r : Fin 512) (q : Fin 1024) :
    (k0_pay3 x y w (ix2 r q) : EReal)
      = ∑ k : Fin 688, ((x (ix2 r k) : EReal) * Ideal.logistic (x (ix2 r k)) * y (ix2 r k)) * w (ix3 0 k q) := by
  pointwise [k0_pay3]

theorem pay4_at (x y : FVec Ideal S512x688 .f32) (w : Vec Ideal S1x688x1024 .bf16) (r : Fin 512) (q : Fin 1024) :
    (k0_pay4 x y w (ix2 r q) : EReal) = k0_pay3 x y w (ix2 r q) := by
  unfold k0_pay4
  generalize k0_pay3 x y w = z
  pointwise

theorem pay5_at (x y : FVec Ideal S512x688 .f32) (w : Vec Ideal S1x688x1024 .bf16) (s : Vec Ideal S512x1024 .f32) (r : Fin 512) (q : Fin 1024) :
    (k0_pay5 x y w s (ix2 r q) : EReal) = s (ix2 r q) + k0_pay3 x y w (ix2 r q) := by
  unfold k0_pay5
  generalize k0_pay3 x y w = z
  pointwise

theorem pay7_at (x s y : Vec Ideal S512x1024 .f32) (r : Fin 512) (q : Fin 1024) :
    (k0_pay7 x s y (ix2 r q) : EReal) = ((x (ix2 r q) : EReal) + s (ix2 r q) - y (ix2 r q)) * Ideal.ofBits .f32 0x3A800000#32 := by
  pointwise [k0_pay7, k0_pay6]

theorem pay8_at (x s y : Vec Ideal S512x1024 .f32) (q : Fin 1024) :
    (k0_pay8 x s y (ix3 0 0 q) : EReal)
      = ∑ r : Fin 512, ((x (ix2 r q) : EReal) + s (ix2 r q) - y (ix2 r q)) * ((x (ix2 r q) : EReal) + s (ix2 r q) - y (ix2 r q)) := by
  pointwise [k0_pay8, k0_pay6]

end Cert.Fwd

end
-- ==== Proof.FwdTile.lean ====
module

public import proofs.«01_k».proof.Proof.FwdHost
public import proofs.«01_k».proof.Proof.FwdPay

@[expose] public section

set_option maxRecDepth 16384

noncomputable section

namespace Cert.Fwd

open Cert.KernelFwdIdeal Cert.KernelFwdIdeal.Gen
open Idealize.ShloMosaic Idealize.ShloMosaic.TcCoe

/-! # A grid point of the forward call, from the arguments

The blocks the point reads, then what it computes from them: row `r` of the point's tile is token `512 * (t / 4) + r`,
feature `k` of its group is hidden feature `688 * (t % 4) + k` of the gate half, and that plus 2752 of the value half. -/

variable (m : (ℓ : Loc nD τ sig) → Buf (Elt Ideal) ℓ)

theorem coord (t : Fin cfg0.N) : (grid0.coords t 0).val = t.val / 4 :=
  (by decide +kernel : ∀ t : Fin grid0.N, (grid0.coords t 0).val = t.val / 4) t

theorem idx0 : ∀ t, win0_0.index t (0 : Fin 2) = t.val / 4 ∧ win0_0.index t (1 : Fin 2) = 0 :=
  (by decide +kernel : ∀ t : Fin grid0.N, _)
theorem idx1 : ∀ t, win0_1.index t (0 : Fin 2) = 32 * (t.val / 4) - 1 ∧ win0_1.index t (1 : Fin 2) = 0 :=
  (by decide +kernel : ∀ t : Fin grid0.N, _)
theorem idx2 : ∀ t, win0_2.index t (0 : Fin 2) = t.val / 4 ∧ win0_2.index t (1 : Fin 2) = 0 :=
  (by decide +kernel : ∀ t : Fin grid0.N, _)
theorem idx3 : ∀ t, win0_3.index t (0 : Fin 2) = t.val / 4 ∧ win0_3.index t (1 : Fin 2) = 0 :=
  (by decide +kernel : ∀ t : Fin grid0.N, _)
theorem idx4 : ∀ t, win0_4.index t (0 : Fin 3) = t.val % 4 ∧ win0_4.index t (1 : Fin 3) = 0 ∧ win0_4.index t (2 : Fin 3) = 0 :=
  (by decide +kernel : ∀ t : Fin grid0.N, _)
theorem idx5 : ∀ t, win0_5.index t (0 : Fin 3) = t.val % 4 + 4 ∧ win0_5.index t (1 : Fin 3) = 0 ∧ win0_5.index t (2 : Fin 3) = 0 :=
  (by decide +kernel : ∀ t : Fin grid0.N, _)
theorem idx6 : ∀ t, win0_6.index t (0 : Fin 3) = t.val % 4 ∧ win0_6.index t (1 : Fin 3) = 0 ∧ win0_6.index t (2 : Fin 3) = 0 :=
  (by decide +kernel : ∀ t : Fin grid0.N, _)
theorem idx7 : ∀ t, win0_7.index t (0 : Fin 3) = t.val % 4 + 4 ∧ win0_7.index t (1 : Fin 3) = 0 ∧ win0_7.index t (2 : Fin 3) = 0 :=
  (by decide +kernel : ∀ t : Fin grid0.N, _)
theorem idx8 : ∀ t, win0_8.index t (0 : Fin 3) = t.val % 4 ∧ win0_8.index t (1 : Fin 3) = 0 ∧ win0_8.index t (2 : Fin 3) = 0 :=
  (by decide +kernel : ∀ t : Fin grid0.N, _)

theorem xMain_blk (c : Dev nD) (t : Fin cfg0.N) (r : Fin 512) (q : Fin 1024) :
    xMain m c t (ix2 r q) = (V m c main_v11 : FVec Ideal S4096x1024 .bf16) (ix2 ⟨512 * (t.val / 4) + r.val, by have := lt32 t; omega⟩ q) := by
  have lt := lt32 t
  obtain ⟨h0, h1⟩ := idx0 t
  refine congrArg (V m c main_v11) (?_ : ((cfg0.win 0).blk t).view.emb (ix2 r q) = _)
  funext d
  apply Fin.ext
  match d with
  | ⟨0, _⟩ => show win0_0.index t (0 : Fin 2) * 512 + 1 * r.val = 512 * (t.val / 4) + r.val; omega
  | ⟨1, _⟩ => show win0_0.index t (1 : Fin 2) * 1024 + 1 * q.val = q.val; omega

theorem xHalo_blk (c : Dev nD) (t : Fin cfg0.N) (r : Fin 16) (q : Fin 1024) :
    xHalo m c t (ix2 r q) = (V m c main_v11 : FVec Ideal S4096x1024 .bf16) (ix2 ⟨16 * (32 * (t.val / 4) - 1) + r.val, by have := lt32 t; omega⟩ q) := by
  have lt := lt32 t
  obtain ⟨h0, h1⟩ := idx1 t
  refine congrArg (V m c main_v11) (?_ : ((cfg0.win 1).blk t).view.emb (ix2 r q) = _)
  funext d
  apply Fin.ext
  match d with
  | ⟨0, _⟩ => show win0_1.index t (0 : Fin 2) * 16 + 1 * r.val = 16 * (32 * (t.val / 4) - 1) + r.val; omega
  | ⟨1, _⟩ => show win0_1.index t (1 : Fin 2) * 1024 + 1 * q.val = q.val; omega

theorem xRes_blk (c : Dev nD) (t : Fin cfg0.N) (r : Fin 512) (q : Fin 1024) :
    xRes m c t (ix2 r q) = (V m c main_v12 : FVec Ideal S4096x1024 .f32) (ix2 ⟨512 * (t.val / 4) + r.val, by have := lt32 t; omega⟩ q) := by
  have lt := lt32 t
  obtain ⟨h0, h1⟩ := idx2 t
  refine congrArg (V m c main_v12) (?_ : ((cfg0.win 2).blk t).view.emb (ix2 r q) = _)
  funext d
  apply Fin.ext
  match d with
  | ⟨0, _⟩ => show win0_2.index t (0 : Fin 2) * 512 + 1 * r.val = 512 * (t.val / 4) + r.val; omega
  | ⟨1, _⟩ => show win0_2.index t (1 : Fin 2) * 1024 + 1 * q.val = q.val; omega

theorem xTgt_blk (c : Dev nD) (t : Fin cfg0.N) (r : Fin 512) (q : Fin 1024) :
    xTgt m c t (ix2 r q) = (V m c main_v13 : FVec Ideal S4096x1024 .f32) (ix2 ⟨512 * (t.val / 4) + r.val, by have := lt32 t; omega⟩ q) := by
  have lt := lt32 t
  obtain ⟨h0, h1⟩ := idx3 t
  refine congrArg (V m c main_v13) (?_ : ((cfg0.win 3).blk t).view.emb (ix2 r q) = _)
  funext d
  apply Fin.ext
  match d with
  | ⟨0, _⟩ => show win0_3.index t (0 : Fin 2) * 512 + 1 * r.val = 512 * (t.val / 4) + r.val; omega
  | ⟨1, _⟩ => show win0_3.index t (1 : Fin 2) * 1024 + 1 * q.val = q.val; omega

theorem wGate_blk (c : Dev nD) (t : Fin cfg0.N) (k : Fin 688) (q : Fin 1024) :
    wGate m c t (ix3 0 k q) = (V m c main_v2 : FVec Ideal S8x688x1024 .bf16) (ix3 ⟨t.val % 4, by omega⟩ k q) := by
  obtain ⟨h0, h1, h2⟩ := idx4 t
  refine congrArg (V m c main_v2) (?_ : ((cfg0.win 4).blk t).view.emb (ix3 0 k q) = _)
  funext d
  apply Fin.ext
  match d with
  | ⟨0, _⟩ => show win0_4.index t (0 : Fin 3) * 1 + 1 * 0 = t.val % 4; omega
  | ⟨1, _⟩ => show win0_4.index t (1 : Fin 3) * 688 + 1 * k.val = k.val; omega
  | ⟨2, _⟩ => show win0_4.index t (2 : Fin 3) * 1024 + 1 * q.val = q.val; omega

theorem wVal_blk (c : Dev nD) (t : Fin cfg0.N) (k : Fin 688) (q : Fin 1024) :
    wVal m c t (ix3 0 k q) = (V m c main_v2 : FVec Ideal S8x688x1024 .bf16) (ix3 ⟨t.val % 4 + 4, by omega⟩ k q) := by
  obtain ⟨h0, h1, h2⟩ := idx5 t
  refine congrArg (V m c main_v2) (?_ : ((cfg0.win 5).blk t).view.emb (ix3 0 k q) = _)
  funext d
  apply Fin.ext
  match d with
  | ⟨0, _⟩ => show win0_5.index t (0 : Fin 3) * 1 + 1 * 0 = t.val % 4 + 4; omega
  | ⟨1, _⟩ => show win0_5.index t (1 : Fin 3) * 688 + 1 * k.val = k.val; omega
  | ⟨2, _⟩ => show win0_5.index t (2 : Fin 3) * 1024 + 1 * q.val = q.val; omega

theorem tGate_blk (c : Dev nD) (t : Fin cfg0.N) (k : Fin 8) (q : Fin 688) :
    tGate m c t (ix3 0 k q) = (V m c main_v7 : FVec Ideal S8x8x688 .f32) (ix3 ⟨t.val % 4, by omega⟩ k q) := by
  obtain ⟨h0, h1, h2⟩ := idx6 t
  refine congrArg (V m c main_v7) (?_ : ((cfg0.win 6).blk t).view.emb (ix3 0 k q) = _)
  funext d
  apply Fin.ext
  match d with
  | ⟨0, _⟩ => show win0_6.index t (0 : Fin 3) * 1 + 1 * 0 = t.val % 4; omega
  | ⟨1, _⟩ => show win0_6.index t (1 : Fin 3) * 8 + 1 * k.val = k.val; omega
  | ⟨2, _⟩ => show win0_6.index t (2 : Fin 3) * 688 + 1 * q.val = q.val; omega

theorem tVal_blk (c : Dev nD) (t : Fin cfg0.N) (k : Fin 8) (q : Fin 688) :
    tVal m c t (ix3 0 k q) = (V m c main_v7 : FVec Ideal S8x8x688 .f32) (ix3 ⟨t.val % 4 + 4, by omega⟩ k q) := by
  obtain ⟨h0, h1, h2⟩ := idx7 t
  refine congrArg (V m c main_v7) (?_ : ((cfg0.win 7).blk t).view.emb (ix3 0 k q) = _)
  funext d
  apply Fin.ext
  match d with
  | ⟨0, _⟩ => show win0_7.index t (0 : Fin 3) * 1 + 1 * 0 = t.val % 4 + 4; omega
  | ⟨1, _⟩ => show win0_7.index t (1 : Fin 3) * 8 + 1 * k.val = k.val; omega
  | ⟨2, _⟩ => show win0_7.index t (2 : Fin 3) * 688 + 1 * q.val = q.val; omega

theorem wDown_blk (c : Dev nD) (t : Fin cfg0.N) (k : Fin 688) (q : Fin 1024) :
    wDown m c t (ix3 0 k q) = (V m c main_v9 : FVec Ideal S4x688x1024 .bf16) (ix3 ⟨t.val % 4, by omega⟩ k q) := by
  obtain ⟨h0, h1, h2⟩ := idx8 t
  refine congrArg (V m c main_v9) (?_ : ((cfg0.win 8).blk t).view.emb (ix3 0 k q) = _)
  funext d
  apply Fin.ext
  match d with
  | ⟨0, _⟩ => show win0_8.index t (0 : Fin 3) * 1 + 1 * 0 = t.val % 4; omega
  | ⟨1, _⟩ => show win0_8.index t (1 : Fin 3) * 688 + 1 * k.val = k.val; omega
  | ⟨2, _⟩ => show win0_8.index t (2 : Fin 3) * 1024 + 1 * q.val = q.val; omega

/-- The hidden feature of a group's feature, in the gate half and in the value half. -/
def fG (t : Fin cfg0.N) (k : Fin 688) : ℕ := 688 * (t.val % 4) + k.val
def fV (t : Fin cfg0.N) (k : Fin 688) : ℕ := 2752 + (688 * (t.val % 4) + k.val)
/-- The token of a row of the tile. -/
def tok (t : Fin cfg0.N) (r : Fin 512) : ℕ := 512 * (t.val / 4) + r.val

theorem wGate_at (c : Dev nD) (t : Fin cfg0.N) (k : Fin 688) (q : Fin 1024) :
    (wGate m c t (ix3 0 k q) : EReal) = (args m c).up (ix2 q ⟨fG t k % 5504, by omega⟩) :=
  (wGate_blk m c t k q).trans ((v2_at m c _ k q).trans (congrArg (fun f => (args m c).up (ix2 q f)) (Fin.ext (by
    show 688 * (t.val % 4) + k.val = (688 * (t.val % 4) + k.val) % 5504; omega))))

theorem wVal_at (c : Dev nD) (t : Fin cfg0.N) (k : Fin 688) (q : Fin 1024) :
    (wVal m c t (ix3 0 k q) : EReal) = (args m c).up (ix2 q ⟨fV t k % 5504, by omega⟩) :=
  (wVal_blk m c t k q).trans ((v2_at m c _ k q).trans (congrArg (fun f => (args m c).up (ix2 q f)) (Fin.ext (by
    show 688 * (t.val % 4 + 4) + k.val = (2752 + (688 * (t.val % 4) + k.val)) % 5504; omega))))

theorem tGate_tap (c : Dev nD) (t : Fin cfg0.N) (d : Fin 3) (k : Fin 688) :
    (tGate m c t (ix3 0 ⟨d.val, by omega⟩ k) : EReal) = T (args m c) d (fG t k) :=
  (tGate_blk m c t _ k).trans (v7_tap m c _ d k)

theorem tGate_bias (c : Dev nD) (t : Fin cfg0.N) (k : Fin 688) : (tGate m c t (ix3 0 3 k) : EReal) = B (args m c) (fG t k) :=
  (tGate_blk m c t _ k).trans (v7_bias m c _ k)

theorem tVal_tap (c : Dev nD) (t : Fin cfg0.N) (d : Fin 3) (k : Fin 688) :
    (tVal m c t (ix3 0 ⟨d.val, by omega⟩ k) : EReal) = T (args m c) d (fV t k) :=
  (tVal_blk m c t _ k).trans ((v7_tap m c _ d k).trans (congrArg (T (args m c) d) (by
    show 688 * (t.val % 4 + 4) + k.val = 2752 + (688 * (t.val % 4) + k.val); omega)))

theorem tVal_bias (c : Dev nD) (t : Fin cfg0.N) (k : Fin 688) : (tVal m c t (ix3 0 3 k) : EReal) = B (args m c) (fV t k) :=
  (tVal_blk m c t _ k).trans ((v7_bias m c _ k).trans (congrArg (B (args m c)) (by
    show 688 * (t.val % 4 + 4) + k.val = 2752 + (688 * (t.val % 4) + k.val); omega)))

theorem wDown_at (c : Dev nD) (t : Fin cfg0.N) (k : Fin 688) (q : Fin 1024) :
    (wDown m c t (ix3 0 k q) : EReal) = (args m c).down (ix2 ⟨688 * (t.val % 4) + k.val, by omega⟩ q) :=
  (wDown_blk m c t k q).trans (v9_at m c _ k q)

theorem xRes_at (c : Dev nD) (t : Fin cfg0.N) (r : Fin 512) (q : Fin 1024) : (xRes m c t (ix2 r q) : EReal) = (args m c).h1 (hix (tok t r) q) :=
  (xRes_blk m c t r q).trans (v12_at m c _ q)

theorem xTgt_at (c : Dev nD) (t : Fin cfg0.N) (r : Fin 512) (q : Fin 1024) : (xTgt m c t (ix2 r q) : EReal) = (args m c).tgt (hix (tok t r) q) :=
  (xTgt_blk m c t r q).trans (v13_at m c _ q)

/-- The rows the point multiplies: the tile's tokens and the sixteen before them, which are zero where a sequence begins. -/
theorem rows_at (c : Dev nD) (t : Fin cfg0.N) (r : Fin 528) (q : Fin 1024) :
    (k0_pay9 (F := Ideal) (grid0.coords t) (xHalo m c t) (xMain m c t) (ix2 r q) : EReal)
      = if r.val < 16 ∧ t.val / 4 % 4 = 0 then 0 else (args m c).h (hix (512 * (t.val / 4) + r.val - 16) q) := by
  rw [pay9_at, coord]
  by_cases h : r.val < 16
  · rw [dif_pos h]
    by_cases hi : t.val / 4 % 4 = 0
    · rw [if_pos hi, if_pos ⟨h, hi⟩]
    · rw [if_neg hi, if_neg (fun e => hi e.2)]
      exact (xHalo_blk m c t _ q).trans ((v11_at m c _ q).trans (congrArg (fun n => (args m c).h (hix n q)) (by
        show 16 * (32 * (t.val / 4) - 1) + r.val = 512 * (t.val / 4) + r.val - 16; omega)))
  · rw [dif_neg h, if_neg (fun e => h e.1)]
    exact (xMain_blk m c t _ q).trans ((v11_at m c _ q).trans (congrArg (fun n => (args m c).h (hix n q)) (by
      show 512 * (t.val / 4) + (r.val - 16) = 512 * (t.val / 4) + r.val - 16; omega)))

/-- A row's product with one feature's weights. -/
theorem row_sum (c : Dev nD) (t : Fin cfg0.N) (r : Fin 528) (f : ℕ) :
    (∑ q : Fin 1024, (k0_pay9 (F := Ideal) (grid0.coords t) (xHalo m c t) (xMain m c t) (ix2 r q) : EReal) * (args m c).up (ix2 q ⟨f % 5504, by omega⟩))
      = if r.val < 16 ∧ t.val / 4 % 4 = 0 then 0 else U (args m c) (512 * (t.val / 4) + r.val - 16) f := by
  by_cases h : r.val < 16 ∧ t.val / 4 % 4 = 0
  · rw [if_pos h]
    exact Finset.sum_eq_zero fun q _ => by rw [rows_at, if_pos h, zero_mul]
  · rw [if_neg h, U_eq]
    exact Finset.sum_congr rfl fun q _ => by rw [rows_at, if_neg h]

theorem ueGate_at (c : Dev nD) (t : Fin cfg0.N) (r : Fin 528) (k : Fin 688) :
    (ueGate m c t (ix2 r k) : EReal) = if r.val < 16 ∧ t.val / 4 % 4 = 0 then 0 else U (args m c) (512 * (t.val / 4) + r.val - 16) (fG t k) := by
  rw [← row_sum]
  unfold ueGate
  rw [pay10_at]
  exact Finset.sum_congr rfl fun q _ => by rw [wGate_at]

theorem ueVal_at (c : Dev nD) (t : Fin cfg0.N) (r : Fin 528) (k : Fin 688) :
    (ueVal m c t (ix2 r k) : EReal) = if r.val < 16 ∧ t.val / 4 % 4 = 0 then 0 else U (args m c) (512 * (t.val / 4) + r.val - 16) (fV t k) := by
  rw [← row_sum]
  unfold ueVal
  rw [pay11_at]
  exact Finset.sum_congr rfl fun q _ => by rw [wVal_at]

/-- A row of the tile is its token's up-projection, and the rows before it are the tokens before. -/
theorem here (a : Args) (t : Fin cfg0.N) (r : Fin 512) (f : ℕ) :
    (if 16 + r.val < 16 ∧ t.val / 4 % 4 = 0 then 0 else U a (512 * (t.val / 4) + (16 + r.val) - 16) f : EReal) = U a (tok t r) f := by
  rw [if_neg (by omega)]
  exact congrArg (fun n => U a n f) (show 512 * (t.val / 4) + (16 + r.val) - 16 = 512 * (t.val / 4) + r.val by omega)

theorem back1 (a : Args) (t : Fin cfg0.N) (r : Fin 512) (f : ℕ) :
    (if 15 + r.val < 16 ∧ t.val / 4 % 4 = 0 then 0 else U a (512 * (t.val / 4) + (15 + r.val) - 16) f : EReal) = Uback a 1 (tok t r) f := by
  unfold Uback tok
  by_cases h : 15 + r.val < 16 ∧ t.val / 4 % 4 = 0
  · rw [if_pos h, if_pos (by omega)]
  · rw [if_neg h, if_neg (by omega)]
    exact congrArg (fun n => U a n f) (by omega)

theorem back2 (a : Args) (t : Fin cfg0.N) (r : Fin 512) (f : ℕ) :
    (if 14 + r.val < 16 ∧ t.val / 4 % 4 = 0 then 0 else U a (512 * (t.val / 4) + (14 + r.val) - 16) f : EReal) = Uback a 2 (tok t r) f := by
  unfold Uback tok
  by_cases h : 14 + r.val < 16 ∧ t.val / 4 % 4 = 0
  · rw [if_pos h, if_pos (by omega)]
  · rw [if_neg h, if_neg (by omega)]
    exact congrArg (fun n => U a n f) (by omega)

theorem conv_order (t2 u t1 u1 t0 u2 b : EReal) : t2 * u + t1 * u1 + t0 * u2 + b = u2 * t0 + u1 * t1 + u * t2 + b := by
  rw [mul_comm t2, mul_comm t1, mul_comm t0, add_comm (u * t2), add_comm _ (u2 * t0), ← add_assoc]

theorem cvGate_at (c : Dev nD) (t : Fin cfg0.N) (r : Fin 512) (k : Fin 688) :
    (cvGate m c t (ix2 r k) : EReal) = C (args m c) (tok t r) (fG t k) := by
  unfold cvGate
  rw [pay15_at, ueGate_at, ueGate_at, ueGate_at, here, back1, back2, tGate_bias]
  have e0 := tGate_tap m c t 0 k
  have e1 := tGate_tap m c t 1 k
  have e2 := tGate_tap m c t 2 k
  unfold C
  rw [← e0, ← e1, ← e2]
  exact conv_order _ _ _ _ _ _ _

theorem cvVal_at (c : Dev nD) (t : Fin cfg0.N) (r : Fin 512) (k : Fin 688) :
    (cvVal m c t (ix2 r k) : EReal) = C (args m c) (tok t r) (fV t k) := by
  unfold cvVal
  rw [pay16_at, ueVal_at, ueVal_at, ueVal_at, here, back1, back2, tVal_bias]
  have e0 := tVal_tap m c t 0 k
  have e1 := tVal_tap m c t 1 k
  have e2 := tVal_tap m c t 2 k
  unfold C
  rw [← e0, ← e1, ← e2]
  exact conv_order _ _ _ _ _ _ _

/-- One group's share of the down-projection. -/
def Grp (a : Args) (n : ℕ) (q : Fin 1024) (j : ℕ) : EReal :=
  ∑ k : Fin 688, Act a n (688 * j + k.val) * a.down (ix2 ⟨(688 * j + k.val) % 2752, by omega⟩ q)

/-- The four groups make the down-projection. -/
theorem Y_eq (a : Args) (n : ℕ) (q : Fin 1024) : Y a n q = ∑ j ∈ Finset.range 4, Grp a n q j := by
  rw [Finset.sum_range]
  unfold Y Grp
  rw [← Fintype.sum_prod_type']
  refine (Fintype.sum_equiv (finProdFinEquiv (m := 4) (n := 688)) _ _ fun p => ?_).symm
  obtain ⟨j, k⟩ := p
  have e : (finProdFinEquiv (m := 4) (n := 688) (j, k)).val = 688 * j.val + k.val := by
    show k.val + 688 * j.val = _
    omega
  have e' : (⟨(688 * j.val + k.val) % 2752, by omega⟩ : Fin 2752) = finProdFinEquiv (m := 4) (n := 688) (j, k) := Fin.ext (by rw [e]; exact Nat.mod_eq_of_lt (by omega))
  show Act a n (688 * j.val + k.val) * a.down (ix2 ⟨(688 * j.val + k.val) % 2752, _⟩ q) = _
  rw [e', ← e]

theorem part_at (c : Dev nD) (t : Fin cfg0.N) (r : Fin 512) (q : Fin 1024) :
    (part m c t (ix2 r q) : EReal) = Grp (args m c) (tok t r) q (t.val % 4) := by
  unfold part
  rw [pay3_at]
  unfold Grp
  refine Finset.sum_congr rfl fun k _ => ?_
  rw [cvGate_at, cvVal_at, wDown_at]
  refine congrArg₂ (· * ·) rfl (congrArg (fun f => (args m c).down (ix2 f q)) (Fin.ext ?_))
  show 688 * (t.val % 4) + k.val = (688 * (t.val % 4) + k.val) % 2752
  omega

/-- After a point the accumulator holds the groups up to its own. -/
theorem acc_at (c : Dev nD) (r : Fin 512) (q : Fin 1024) (j : ℕ) : ∀ t : Fin cfg0.N, t.val % 4 = j →
    (acc m c t (ix2 r q) : EReal) = ∑ x ∈ Finset.range (j + 1), Grp (args m c) (tok t r) q x := by
  induction j with
  | zero =>
    intro t h
    rw [acc_first m c t h, pay4_at, Finset.sum_range_one, ← h]
    exact part_at m c t r q
  | succ j ih =>
    intro t h
    have lt := lt32 t
    rw [acc_next m c t (by omega), pay5_at, Finset.sum_range_succ, ih ⟨t.val - 1, by omega⟩ (show (t.val - 1) % 4 = j by omega)]
    refine congrArg₂ (· + ·) (Finset.sum_congr rfl fun x _ => congrArg (fun n => Grp (args m c) n q x) ?_) ((part_at m c t r q).trans (by rw [h]))
    show 512 * ((t.val - 1) / 4) + r.val = 512 * (t.val / 4) + r.val
    omega

theorem err_at (c : Dev nD) (t : Fin cfg0.N) (h : t.val % 4 = 3) (r : Fin 512) (q : Fin 1024) :
    (xRes m c t (ix2 r q) : EReal) + acc m c t (ix2 r q) - xTgt m c t (ix2 r q) = E (args m c) (tok t r) q := by
  rw [xRes_at, xTgt_at, acc_at m c r q 3 t h, ← Y_eq]
  rfl

/-! ## What the point leaves in its blocks of the results -/

theorem oUg_at (c : Dev nD) (t : Fin cfg0.N) (r : Fin 512) (k : Fin 688) : (oUg m c t (ix3 0 r k) : EReal) = U (args m c) (tok t r) (fG t k) := by
  rw [oUg_eq, pay12_at]
  exact (ueGate_at m c t _ k).trans (here _ t r _)

theorem oUv_at (c : Dev nD) (t : Fin cfg0.N) (r : Fin 512) (k : Fin 688) : (oUv m c t (ix3 0 r k) : EReal) = U (args m c) (tok t r) (fV t k) := by
  rw [oUv_eq, pay14_at]
  exact (ueVal_at m c t _ k).trans (here _ t r _)

theorem oPg_at (c : Dev nD) (t : Fin cfg0.N) (r : Fin 512) (k : Fin 688) : (oPg m c t (ix3 0 r k) : EReal) = C (args m c) (tok t r) (fG t k) := by
  rw [oPg_eq, pay1_at]
  exact cvGate_at m c t r k

theorem oPv_at (c : Dev nD) (t : Fin cfg0.N) (r : Fin 512) (k : Fin 688) : (oPv m c t (ix3 0 r k) : EReal) = C (args m c) (tok t r) (fV t k) := by
  rw [oPv_eq, pay2_at]
  exact cvVal_at m c t r k

theorem oDy_at (c : Dev nD) (t : Fin cfg0.N) (h : t.val % 4 = 3) (r : Fin 512) (q : Fin 1024) :
    (oDy m c t (ix2 r q) : EReal) = E (args m c) (tok t r) q * Ideal.ofBits .f32 0x3A800000#32 := by
  rw [oDy_eq m c t h, pay7_at, err_at m c t h]

theorem oLoss_at (c : Dev nD) (t : Fin cfg0.N) (h : t.val % 4 = 3) (q : Fin 1024) :
    (oLoss m c t (ix3 0 0 q) : EReal) = ∑ r : Fin 512, E (args m c) (tok t r) q * E (args m c) (tok t r) q := by
  rw [oLoss_eq m c t h, pay8_at]
  exact Finset.sum_congr rfl fun r _ => by rw [err_at m c t h]

end Cert.Fwd

end
-- ==== Proof.FwdResult.lean ====
module

public import proofs.«01_k».proof.Proof.FwdTile

@[expose] public section

set_option maxRecDepth 16384

noncomputable section

namespace Cert.Fwd

open Cert.KernelFwdIdeal Cert.KernelFwdIdeal.Gen
open Idealize.ShloMosaic Idealize.ShloMosaic.TcCoe

/-! # The six results of the forward call

Each result's blocks cover it, so it is the reference's value wherever the points that write back leave that value. -/

variable (m : (ℓ : Loc nD τ sig) → Buf (Elt Ideal) ℓ)

/-- An index of a block, by its coordinates. -/
theorem idx_group (y : S1x512x688.Idx) : ∃ (r : Fin 512) (k : Fin 688), y = ix3 0 r k :=
  ⟨y 1, y 2, (eq_ix3 y).trans (congrArg (fun z : Fin 1 => ix3 z (y 1) (y 2)) (Subsingleton.elim _ _))⟩
theorem idx_tile (y : S512x1024.Idx) : ∃ (r : Fin 512) (q : Fin 1024), y = ix2 r q := ⟨y 0, y 1, eq_ix2 y⟩
theorem idx_row (y : S1x1x1024.Idx) : ∃ q : Fin 1024, y = ix3 0 0 q :=
  ⟨y 2, (eq_ix3 y).trans (congrArg₂ (fun z w : Fin 1 => ix3 z w (y 2)) (Subsingleton.elim _ _) (Subsingleton.elim _ _))⟩

theorem idx9 : ∀ t, win0_9.index t (0 : Fin 3) = t.val % 4 ∧ win0_9.index t (1 : Fin 3) = t.val / 4 ∧ win0_9.index t (2 : Fin 3) = 0 :=
  (by decide +kernel : ∀ t : Fin grid0.N, _)
theorem idx10 : ∀ t, win0_10.index t (0 : Fin 3) = t.val % 4 ∧ win0_10.index t (1 : Fin 3) = t.val / 4 ∧ win0_10.index t (2 : Fin 3) = 0 :=
  (by decide +kernel : ∀ t : Fin grid0.N, _)
theorem idx11 : ∀ t, win0_11.index t (0 : Fin 3) = t.val % 4 ∧ win0_11.index t (1 : Fin 3) = t.val / 4 ∧ win0_11.index t (2 : Fin 3) = 0 :=
  (by decide +kernel : ∀ t : Fin grid0.N, _)
theorem idx12 : ∀ t, win0_12.index t (0 : Fin 3) = t.val % 4 ∧ win0_12.index t (1 : Fin 3) = t.val / 4 ∧ win0_12.index t (2 : Fin 3) = 0 :=
  (by decide +kernel : ∀ t : Fin grid0.N, _)
theorem idx13 : ∀ t, win0_13.index t (0 : Fin 2) = t.val / 4 ∧ win0_13.index t (1 : Fin 2) = 0 :=
  (by decide +kernel : ∀ t : Fin grid0.N, _)
theorem idx14 : ∀ t, win0_14.index t (0 : Fin 3) = t.val / 4 ∧ win0_14.index t (1 : Fin 3) = 0 ∧ win0_14.index t (2 : Fin 3) = 0 :=
  (by decide +kernel : ∀ t : Fin grid0.N, _)

/-- Where a point's blocks lie. -/
theorem emb9 (t : Fin cfg0.N) (r : Fin 512) (k : Fin 688) :
    ((cfg0.win 9).blk t).view.emb (ix3 0 r k) = (ix3 ⟨t.val % 4, by omega⟩ ⟨tok t r, by have := lt32 t; unfold tok; omega⟩ k : S4x4096x688.Idx) := by
  obtain ⟨h0, h1, h2⟩ := idx9 t
  funext d
  apply Fin.ext
  match d with
  | ⟨0, _⟩ => show win0_9.index t (0 : Fin 3) * 1 + 1 * 0 = t.val % 4; omega
  | ⟨1, _⟩ => show win0_9.index t (1 : Fin 3) * 512 + 1 * r.val = 512 * (t.val / 4) + r.val; omega
  | ⟨2, _⟩ => show win0_9.index t (2 : Fin 3) * 688 + 1 * k.val = k.val; omega

theorem emb10 (t : Fin cfg0.N) (r : Fin 512) (k : Fin 688) :
    ((cfg0.win 10).blk t).view.emb (ix3 0 r k) = (ix3 ⟨t.val % 4, by omega⟩ ⟨tok t r, by have := lt32 t; unfold tok; omega⟩ k : S4x4096x688.Idx) := by
  obtain ⟨h0, h1, h2⟩ := idx10 t
  funext d
  apply Fin.ext
  match d with
  | ⟨0, _⟩ => show win0_10.index t (0 : Fin 3) * 1 + 1 * 0 = t.val % 4; omega
  | ⟨1, _⟩ => show win0_10.index t (1 : Fin 3) * 512 + 1 * r.val = 512 * (t.val / 4) + r.val; omega
  | ⟨2, _⟩ => show win0_10.index t (2 : Fin 3) * 688 + 1 * k.val = k.val; omega

theorem emb11 (t : Fin cfg0.N) (r : Fin 512) (k : Fin 688) :
    ((cfg0.win 11).blk t).view.emb (ix3 0 r k) = (ix3 ⟨t.val % 4, by omega⟩ ⟨tok t r, by have := lt32 t; unfold tok; omega⟩ k : S4x4096x688.Idx) := by
  obtain ⟨h0, h1, h2⟩ := idx11 t
  funext d
  apply Fin.ext
  match d with
  | ⟨0, _⟩ => show win0_11.index t (0 : Fin 3) * 1 + 1 * 0 = t.val % 4; omega
  | ⟨1, _⟩ => show win0_11.index t (1 : Fin 3) * 512 + 1 * r.val = 512 * (t.val / 4) + r.val; omega
  | ⟨2, _⟩ => show win0_11.index t (2 : Fin 3) * 688 + 1 * k.val = k.val; omega

theorem emb12 (t : Fin cfg0.N) (r : Fin 512) (k : Fin 688) :
    ((cfg0.win 12).blk t).view.emb (ix3 0 r k) = (ix3 ⟨t.val % 4, by omega⟩ ⟨tok t r, by have := lt32 t; unfold tok; omega⟩ k : S4x4096x688.Idx) := by
  obtain ⟨h0, h1, h2⟩ := idx12 t
  funext d
  apply Fin.ext
  match d with
  | ⟨0, _⟩ => show win0_12.index t (0 : Fin 3) * 1 + 1 * 0 = t.val % 4; omega
  | ⟨1, _⟩ => show win0_12.index t (1 : Fin 3) * 512 + 1 * r.val = 512 * (t.val / 4) + r.val; omega
  | ⟨2, _⟩ => show win0_12.index t (2 : Fin 3) * 688 + 1 * k.val = k.val; omega

theorem emb13 (t : Fin cfg0.N) (r : Fin 512) (q : Fin 1024) :
    ((cfg0.win 13).blk t).view.emb (ix2 r q) = (ix2 ⟨tok t r, by have := lt32 t; unfold tok; omega⟩ q : S4096x1024.Idx) := by
  obtain ⟨h0, h1⟩ := idx13 t
  funext d
  apply Fin.ext
  match d with
  | ⟨0, _⟩ => show win0_13.index t (0 : Fin 2) * 512 + 1 * r.val = 512 * (t.val / 4) + r.val; omega
  | ⟨1, _⟩ => show win0_13.index t (1 : Fin 2) * 1024 + 1 * q.val = q.val; omega

theorem emb14 (t : Fin cfg0.N) (q : Fin 1024) :
    ((cfg0.win 14).blk t).view.emb (ix3 0 0 q) = (ix3 ⟨t.val / 4, by have := lt32 t; omega⟩ 0 q : S8x1x1024.Idx) := by
  obtain ⟨h0, h1, h2⟩ := idx14 t
  funext d
  apply Fin.ext
  match d with
  | ⟨0, _⟩ => show win0_14.index t (0 : Fin 3) * 1 + 1 * 0 = t.val / 4; omega
  | ⟨1, _⟩ => show win0_14.index t (1 : Fin 3) * 1 + 1 * 0 = 0; omega
  | ⟨2, _⟩ => show win0_14.index t (2 : Fin 3) * 1024 + 1 * q.val = q.val; omega

/-- The points that write back the gradient and the loss are the last of their tile. -/
theorem flush13 : ∀ t : Fin cfg0.N, (cfg0.win 13).flush t = true → t.val % 4 = 3 :=
  (by decide +kernel : ∀ t : Fin grid0.N, win0_13.flush t = true → t.val % 4 = 3)
theorem flush14 : ∀ t : Fin cfg0.N, (cfg0.win 14).flush t = true → t.val % 4 = 3 :=
  (by decide +kernel : ∀ t : Fin grid0.N, win0_14.flush t = true → t.val % 4 = 3)

/-- The reference's six results from the arguments of one device. -/
abbrev ref0 (a : Args) : FVec Ideal S4x4096x688 .bf16 := Cert.ReferenceFwdIdeal.Read.val_main_v49 (F := Ideal) a.h a.up
abbrev ref1 (a : Args) : FVec Ideal S4x4096x688 .bf16 := Cert.ReferenceFwdIdeal.Read.val_main_v53 (F := Ideal) a.h a.up
abbrev ref2 (a : Args) : FVec Ideal S4x4096x688 .bf16 := Cert.ReferenceFwdIdeal.Read.val_main_v56 (F := Ideal) a.h a.up a.cw a.cb
abbrev ref3 (a : Args) : FVec Ideal S4x4096x688 .bf16 := Cert.ReferenceFwdIdeal.Read.val_main_v59 (F := Ideal) a.h a.up a.cw a.cb
abbrev ref4 (a : Args) : FVec Ideal S4096x1024 .f32 := Cert.ReferenceFwdIdeal.Read.val_main_v60 (F := Ideal) a.h a.h1 a.tgt a.up a.cw a.cb a.down
abbrev ref5 (a : Args) : FVec Ideal S8x1x1024 .f32 := Cert.ReferenceFwdIdeal.Read.val_main_v63 (F := Ideal) a.h a.h1 a.tgt a.up a.cw a.cb a.down

theorem left0 (c : Dev nD) (t : Fin cfg0.N) (r : Fin 512) (k : Fin 688) :
    oUg m c t (ix3 0 r k) = ref0 (args m c) (ix3 ⟨t.val % 4, by omega⟩ ⟨tok t r, by have := lt32 t; unfold tok; omega⟩ k) := by
  have e := oUg_at m c t r k
  have e' : (ref0 (args m c) (ix3 ⟨t.val % 4, by omega⟩ ⟨tok t r, by have := lt32 t; unfold tok; omega⟩ k) : EReal) = U (args m c) (tok t r) (fG t k) :=
    r49 (args m c) ⟨t.val % 4, by omega⟩ ⟨tok t r, by have := lt32 t; unfold tok; omega⟩ k
  generalize ref0 (args m c) = G at e' ⊢
  unfold oUg at e ⊢
  generalize (outsAt0 m c t.val t.isLt).1 = f at e ⊢
  exact e.trans e'.symm

/-- The call's array for the gate half of the up-projection is the reference's. -/
theorem result0 (c : Dev nD) : (dats m 0 c).arrAt 9 cfg0.N = ref0 (args m c) := by
  have key := left0 m c
  generalize ref0 (args m c) = G at key ⊢
  refine (dats m 0 c).arrAt_eq_of_covers 9 _ (by decide +kernel) fun t hf y => ?_
  obtain ⟨r, k, rfl⟩ := idx_group y
  rw [after0_9]
  have e := (key t r k).trans (congrArg G (emb9 t r k).symm)
  revert e
  unfold oUg
  generalize (outsAt0 m c t.val t.isLt).1 = f
  exact fun e => e

theorem left1 (c : Dev nD) (t : Fin cfg0.N) (r : Fin 512) (k : Fin 688) :
    oUv m c t (ix3 0 r k) = ref1 (args m c) (ix3 ⟨t.val % 4, by omega⟩ ⟨tok t r, by have := lt32 t; unfold tok; omega⟩ k) := by
  have e := oUv_at m c t r k
  have e' : (ref1 (args m c) (ix3 ⟨t.val % 4, by omega⟩ ⟨tok t r, by have := lt32 t; unfold tok; omega⟩ k) : EReal) = U (args m c) (tok t r) (fV t k) :=
    r53 (args m c) ⟨t.val % 4, by omega⟩ ⟨tok t r, by have := lt32 t; unfold tok; omega⟩ k
  generalize ref1 (args m c) = G at e' ⊢
  unfold oUv at e ⊢
  generalize (outsAt0 m c t.val t.isLt).2.1 = f at e ⊢
  exact e.trans e'.symm

/-- The call's array for the value half of the up-projection is the reference's. -/
theorem result1 (c : Dev nD) : (dats m 0 c).arrAt 10 cfg0.N = ref1 (args m c) := by
  have key := left1 m c
  generalize ref1 (args m c) = G at key ⊢
  refine (dats m 0 c).arrAt_eq_of_covers 10 _ (by decide +kernel) fun t hf y => ?_
  obtain ⟨r, k, rfl⟩ := idx_group y
  rw [after0_10]
  have e := (key t r k).trans (congrArg G (emb10 t r k).symm)
  revert e
  unfold oUv
  generalize (outsAt0 m c t.val t.isLt).2.1 = f
  exact fun e => e

theorem left2 (c : Dev nD) (t : Fin cfg0.N) (r : Fin 512) (k : Fin 688) :
    oPg m c t (ix3 0 r k) = ref2 (args m c) (ix3 ⟨t.val % 4, by omega⟩ ⟨tok t r, by have := lt32 t; unfold tok; omega⟩ k) := by
  have e := oPg_at m c t r k
  have e' : (ref2 (args m c) (ix3 ⟨t.val % 4, by omega⟩ ⟨tok t r, by have := lt32 t; unfold tok; omega⟩ k) : EReal) = C (args m c) (tok t r) (fG t k) :=
    r56 (args m c) ⟨t.val % 4, by omega⟩ ⟨tok t r, by have := lt32 t; unfold tok; omega⟩ k
  generalize ref2 (args m c) = G at e' ⊢
  unfold oPg at e ⊢
  generalize (outsAt0 m c t.val t.isLt).2.2.1 = f at e ⊢
  exact e.trans e'.symm

/-- The call's array for the gate half of the convolution is the reference's. -/
theorem result2 (c : Dev nD) : (dats m 0 c).arrAt 11 cfg0.N = ref2 (args m c) := by
  have key := left2 m c
  generalize ref2 (args m c) = G at key ⊢
  refine (dats m 0 c).arrAt_eq_of_covers 11 _ (by decide +kernel) fun t hf y => ?_
  obtain ⟨r, k, rfl⟩ := idx_group y
  rw [after0_11]
  have e := (key t r k).trans (congrArg G (emb11 t r k).symm)
  revert e
  unfold oPg
  generalize (outsAt0 m c t.val t.isLt).2.2.1 = f
  exact fun e => e

theorem left3 (c : Dev nD) (t : Fin cfg0.N) (r : Fin 512) (k : Fin 688) :
    oPv m c t (ix3 0 r k) = ref3 (args m c) (ix3 ⟨t.val % 4, by omega⟩ ⟨tok t r, by have := lt32 t; unfold tok; omega⟩ k) := by
  have e := oPv_at m c t r k
  have e' : (ref3 (args m c) (ix3 ⟨t.val % 4, by omega⟩ ⟨tok t r, by have := lt32 t; unfold tok; omega⟩ k) : EReal) = C (args m c) (tok t r) (fV t k) :=
    r59 (args m c) ⟨t.val % 4, by omega⟩ ⟨tok t r, by have := lt32 t; unfold tok; omega⟩ k
  generalize ref3 (args m c) = G at e' ⊢
  unfold oPv at e ⊢
  generalize (outsAt0 m c t.val t.isLt).2.2.2.1 = f at e ⊢
  exact e.trans e'.symm

/-- The call's array for the value half of the convolution is the reference's. -/
theorem result3 (c : Dev nD) : (dats m 0 c).arrAt 12 cfg0.N = ref3 (args m c) := by
  have key := left3 m c
  generalize ref3 (args m c) = G at key ⊢
  refine (dats m 0 c).arrAt_eq_of_covers 12 _ (by decide +kernel) fun t hf y => ?_
  obtain ⟨r, k, rfl⟩ := idx_group y
  rw [after0_12]
  have e := (key t r k).trans (congrArg G (emb12 t r k).symm)
  revert e
  unfold oPv
  generalize (outsAt0 m c t.val t.isLt).2.2.2.1 = f
  exact fun e => e

theorem left4 (c : Dev nD) (t : Fin cfg0.N) (h : t.val % 4 = 3) (r : Fin 512) (q : Fin 1024) :
    oDy m c t (ix2 r q) = ref4 (args m c) (ix2 ⟨tok t r, by have := lt32 t; unfold tok; omega⟩ q) := by
  have e := oDy_at m c t h r q
  have e' : (ref4 (args m c) (ix2 ⟨tok t r, by have := lt32 t; unfold tok; omega⟩ q) : EReal) = E (args m c) (tok t r) q * Ideal.ofBits .f32 0x3A800000#32 :=
    r60 (args m c) ⟨tok t r, by have := lt32 t; unfold tok; omega⟩ q
  generalize ref4 (args m c) = G at e' ⊢
  unfold oDy at e ⊢
  generalize (outsAt0 m c t.val t.isLt).2.2.2.2.1 = f at e ⊢
  exact e.trans e'.symm

/-- The call's array for the gradient of the loss is the reference's. -/
theorem result4 (c : Dev nD) : (dats m 0 c).arrAt 13 cfg0.N = ref4 (args m c) := by
  have key := left4 m c
  generalize ref4 (args m c) = G at key ⊢
  refine (dats m 0 c).arrAt_eq_of_covers 13 _ (by decide +kernel) fun t hf y => ?_
  obtain ⟨r, q, rfl⟩ := idx_tile y
  rw [after0_13]
  have e := (key t (flush13 t hf) r q).trans (congrArg G (emb13 t r q).symm)
  revert e
  unfold oDy
  generalize (outsAt0 m c t.val t.isLt).2.2.2.2.1 = f
  exact fun e => e

theorem left5 (c : Dev nD) (t : Fin cfg0.N) (h : t.val % 4 = 3) (q : Fin 1024) :
    oLoss m c t (ix3 0 0 q) = ref5 (args m c) (ix3 ⟨t.val / 4, by have := lt32 t; omega⟩ 0 q) := by
  have e := oLoss_at m c t h q
  have e' : (ref5 (args m c) (ix3 ⟨t.val / 4, by have := lt32 t; omega⟩ 0 q) : EReal) = ∑ r : Fin 512, E (args m c) (tok t r) q * E (args m c) (tok t r) q :=
    r63 (args m c) ⟨t.val / 4, by have := lt32 t; omega⟩ q
  generalize ref5 (args m c) = G at e' ⊢
  unfold oLoss at e ⊢
  generalize (outsAt0 m c t.val t.isLt).2.2.2.2.2.1 = f at e ⊢
  exact e.trans e'.symm

/-- The call's array for the sums of the squared errors is the reference's. -/
theorem result5 (c : Dev nD) : (dats m 0 c).arrAt 14 cfg0.N = ref5 (args m c) := by
  have key := left5 m c
  generalize ref5 (args m c) = G at key ⊢
  refine (dats m 0 c).arrAt_eq_of_covers 14 _ (by decide +kernel) fun t hf y => ?_
  obtain ⟨q, rfl⟩ := idx_row y
  rw [after0_14]
  have e := (key t (flush14 t hf) q).trans (congrArg G (emb14 t q).symm)
  revert e
  unfold oLoss
  generalize (outsAt0 m c t.val t.isLt).2.2.2.2.2.1 = f
  exact fun e => e

end Cert.Fwd

end
-- ==== Proof.Fwd.lean ====
module

public import proofs.«01_k».proof.Defs
public import proofs.«01_k».proof.Proof.Gen.KernelFwd
public import proofs.«01_k».proof.Proof.Gen.KernelFwd.Frame
public import proofs.«01_k».proof.Proof.Gen.KernelFwdIdeal
public import proofs.«01_k».proof.Proof.Gen.KernelFwdIdeal.Frame
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.FwdResult
public import Idealize.ShloMosaic.Adequacy
public import Idealize.ShloMosaic.Init
public import Idealize.ShloMosaic.Lib.Claim

@[expose] public section

noncomputable section

namespace Cert.Fwd

open Idealize.ShloMosaic Idealize.SL.Sem

/-! # The forward call: frames and equal results -/

theorem frame_kernel_Fwd : Cert.quiescent_KernelFwd := fun m ρ _ => Cert.KernelFwd.Gen.frame (F := Bits) m ρ

theorem frame_ideal_Fwd : Cert.quiescent_KernelFwdIdeal := fun m ρ _ => Cert.KernelFwdIdeal.Gen.frame (F := Ideal) m ρ

theorem frame_reference_Fwd : Cert.quiescent_ReferenceFwdIdeal := fun m ρ _ =>
  (θ_run Cert.ReferenceFwdIdeal.defs _ _).mono (fun r h => ⟨fun c => (h c).2.2.2.2.2.2, sem_eq_zero_of_no_sems (by decide) r.2⟩)
    (Cert.ReferenceFwdIdeal.Value.run (F := Ideal) m ρ)

/-- Kernel and reference end with equal results: what the reference computes from the kernel's arguments. -/
theorem algebraic_Fwd : Cert.algebraic_KernelFwdIdeal_ReferenceFwdIdeal := by
  intro m g m' g' _ hargs
  refine ⟨fun c => ref0 (args m c), fun c => ref1 (args m c), fun c => ref2 (args m c), fun c => ref3 (args m c),
    fun c => ref4 (args m c), fun c => ref5 (args m c), ?_, ?_⟩
  · exact (θ_run Cert.KernelFwdIdeal.defs _ _).mono (fun r h c =>
      ⟨((h.1 c).1 9).trans (result0 m c), ((h.1 c).1 10).trans (result1 m c), ((h.1 c).1 11).trans (result2 m c),
        ((h.1 c).1 12).trans (result3 m c), ((h.1 c).1 13).trans (result4 m c), ((h.1 c).1 14).trans (result5 m c), h.2 c⟩)
      (θ_run_and (Cert.KernelFwdIdeal.Gen.run_main (F := Ideal) m g) (Cert.KernelFwdIdeal.Gen.unchanged (F := Ideal) m g))
  · refine (θ_run Cert.ReferenceFwdIdeal.defs _ _).mono (fun r h c => ?_) (Cert.ReferenceFwdIdeal.Value.run (F := Ideal) m' g')
    obtain ⟨h0, h1, h2, h3, h4, h5, hr⟩ := h c
    obtain ⟨a0, a1, a2, a3, a4, a5, a6⟩ := hargs c
    refine ⟨h0.trans ?_, h1.trans ?_, h2.trans ?_, h3.trans ?_, h4.trans ?_, h5.trans ?_, hr⟩
    · rw [Cert.ReferenceFwdIdeal.Read.val_main_v49_eq, a0, a3]
      rfl
    · rw [Cert.ReferenceFwdIdeal.Read.val_main_v53_eq, a0, a3]
      rfl
    · rw [Cert.ReferenceFwdIdeal.Read.val_main_v56_eq, a0, a3, a4, a5]
      rfl
    · rw [Cert.ReferenceFwdIdeal.Read.val_main_v59_eq, a0, a3, a4, a5]
      rfl
    · rw [Cert.ReferenceFwdIdeal.Read.val_main_v60_eq, a0, a1, a2, a3, a4, a5, a6]
      rfl
    · rw [Cert.ReferenceFwdIdeal.Read.val_main_v63_eq, a0, a1, a2, a3, a4, a5, a6]
      rfl

end Cert.Fwd

end
-- ==== Proof.MixSpec.lean ====
module

public import Idealize.ShloMosaic.Lib.Pointwise

@[expose] public section

noncomputable section

namespace Cert.MixSpec

open Idealize.ShloMosaic

/-! # The mixer's output side, one token at a time

A token's row is a function of its columns. What is computed of a token before the sums over the tokens needs that
token's rows and the weights only. -/

/-- The weights, entry by entry. -/
structure Wts where
  wg : Fin 512 → Fin 512 → EReal
  bg : Fin 512 → EReal
  gs : Fin 512 → EReal
  ga : Fin 512 → EReal
  wo : Fin 1024 → Fin 1024 → EReal
  gf : Fin 1024 → EReal

/-- The lengths of the two kinds of normalised row, as floating-point constants. -/
abbrev n512 : EReal := Ideal.ofBits .f32 0x44000000#32
abbrev n1024 : EReal := Ideal.ofBits .f32 0x44800000#32
abbrev half : EReal := Ideal.ofBits .f32 0x3F000000#32

/-- The mean of the squares of a row, and a small constant. -/
def ms {w : ℕ} (N : EReal) (x : Fin w → EReal) : EReal := Ideal.div (∑ k, x k * x k) N + Ideal.ofBits .f32 0x358637BD#32
/-- A row normalised by its root mean square, and scaled. -/
def rms {w : ℕ} (N : EReal) (x g : Fin w → EReal) (q : Fin w) : EReal := x q * Ideal.rsqrt (ms N x) * g q

/-- The hyperbolic tangent in the gelu, and the gelu. -/
def th (y : Fin 512 → EReal) (q : Fin 512) : EReal :=
  Ideal.tanh (Ideal.ofBits .f32 0x3F4C422A#32 * (y q + Ideal.ofBits .f32 0x3D372713#32 * (y q * y q * y q)))
def gl (y : Fin 512 → EReal) (q : Fin 512) : EReal := y q * (half * (1 + th y q))

variable (W : Wts)

/-- The gate's logit, the gate, and the gated row. -/
def zz (y : Fin 512 → EReal) (q : Fin 512) : EReal := (∑ k, gl y k * W.wg k q) + W.bg q
def sg (y : Fin 512 → EReal) (q : Fin 512) : EReal := Ideal.logistic (zz W y q)
def ys (y : Fin 512 → EReal) (q : Fin 512) : EReal := gl y q * sg W y q

/-- The two normalised halves side by side. -/
def mixed (y a : Fin 512 → EReal) (j : Fin 1024) : EReal :=
  if h : j.val < 512 then rms n512 (ys W y) W.gs ⟨j.val, h⟩ else rms n512 a W.ga ⟨j.val - 512, by omega⟩

theorem mixed_lo (y a : Fin 512 → EReal) (q : Fin 512) : mixed W y a ⟨q.val, by omega⟩ = rms n512 (ys W y) W.gs q := dif_pos q.isLt
theorem mixed_hi (y a : Fin 512 → EReal) (q : Fin 512) : mixed W y a ⟨512 + q.val, by omega⟩ = rms n512 a W.ga q :=
  (dif_neg (show ¬ 512 + q.val < 512 by omega)).trans (congrArg (rms n512 a W.ga) (Fin.ext (show 512 + q.val - 512 = q.val by omega)))

/-- The residual stream after the mixer, and its normalised row. -/
def hh (x : Fin 1024 → EReal) (y a : Fin 512 → EReal) (q : Fin 1024) : EReal := x q + ∑ j, mixed W y a j * W.wo j q
def hn (x : Fin 1024 → EReal) (y a : Fin 512 → EReal) (q : Fin 1024) : EReal := rms n1024 (hh W x y a) W.gf q

/-- A column of the wide row lies in one half or the other. -/
theorem halves (j : Fin 1024) : (∃ q : Fin 512, j = ⟨q.val, by omega⟩) ∨ ∃ q : Fin 512, j = ⟨512 + q.val, by omega⟩ := by
  by_cases h : j.val < 512
  · exact Or.inl ⟨⟨j.val, h⟩, rfl⟩
  · exact Or.inr ⟨⟨j.val - 512, by omega⟩, Fin.ext (show j.val = 512 + (j.val - 512) by omega)⟩

/-- The cube either way. -/
theorem cube (x : EReal) : x * (x * x) = x * x * x := mul_comm _ _

end Cert.MixSpec

end
-- ==== Proof.MixRef.lean ====
module

public import proofs.«01_k».proof.Proof.Gen.ReferenceMixIdeal.Read
public import proofs.«01_k».proof.Proof.MixSpec
public import proofs.«01_k».proof.Proof.Tokens

@[expose] public section

set_option maxRecDepth 16384

noncomputable section

namespace Cert.Mix

open Cert.ReferenceMixIdeal Cert.ReferenceMixIdeal.Read
open Idealize.ShloMosaic
open Cert.MixSpec Cert.Tokens

/-! # The reference's three results, token by token -/

/-- The nine arguments as one device holds them. -/
structure Args where
  x : FVec Ideal S2x2048x1024 .f32
  yc : FVec Ideal S2x2048x512 .f32
  ya : FVec Ideal S2x2048x512 .f32
  wg : FVec Ideal S512x512 .f32
  bg : FVec Ideal S1x512 .f32
  gs : FVec Ideal S1x512 .f32
  ga : FVec Ideal S1x512 .f32
  wo : FVec Ideal S1024x1024 .f32
  gf : FVec Ideal S1x1024 .f32

/-- Their weights by entries, and their rows by tokens. -/
def Args.w (a : Args) : Wts :=
  ⟨fun k q => a.wg (ix2 k q), fun q => a.bg (ix2 0 q), fun q => a.gs (ix2 0 q), fun q => a.ga (ix2 0 q), fun k q => a.wo (ix2 k q), fun q => a.gf (ix2 0 q)⟩
def Args.xr (a : Args) (b : Fin 2) (s : Fin 2048) : Fin 1024 → EReal := fun q => a.x (ix3 b s q)
def Args.yr (a : Args) (b : Fin 2) (s : Fin 2048) : Fin 512 → EReal := fun q => a.yc (ix3 b s q)
def Args.ar (a : Args) (b : Fin 2) (s : Fin 2048) : Fin 512 → EReal := fun q => a.ya (ix3 b s q)

variable (a : Args) (b : Fin 2) (s : Fin 2048)

theorem r12 (q : Fin 512) : (val_main_v12 (F := Ideal) a.yc (ix3 b s q) : EReal) = gl (a.yr b s) q := by
  unfold gl th Args.yr
  pointwise [val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]

theorem r17 (q : Fin 512) : (val_main_v17 (F := Ideal) a.yc a.wg a.bg (ix3 b s q) : EReal) = zz a.w (a.yr b s) q := by
  unfold zz
  simp only [← r12]
  unfold Args.w
  pointwise [val_main_v17, val_main_v16, val_main_v15, val_main_v14, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]

theorem r24 (q : Fin 512) : (val_main_v24 (F := Ideal) a.yc a.wg a.bg (ix3 b s q) : EReal) = ys a.w (a.yr b s) q := by
  unfold ys sg
  simp only [← r12, ← r17]
  pointwise [val_main_v24, val_main_v23, val_main_v22, val_main_v21, val_main_v20, val_main_v19, val_main_v18, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  rfl

theorem r38 (q : Fin 512) : (val_main_v38 (F := Ideal) a.yc a.wg a.bg a.gs (ix3 b s q) : EReal) = rms n512 (ys a.w (a.yr b s)) a.w.gs q := by
  unfold rms ms
  simp only [← r24]
  unfold Args.w
  pointwise [val_main_v38, val_main_v37, val_main_v36, val_main_v35, val_main_v34, val_main_v33, val_main_v32, val_main_v31, val_main_v30, val_main_v29, val_main_v28, val_main_v27, val_main_v26, val_main_v25, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]

theorem r52 (q : Fin 512) : (val_main_v52 (F := Ideal) a.ya a.ga (ix3 b s q) : EReal) = rms n512 (a.ar b s) a.w.ga q := by
  unfold rms ms Args.ar Args.w
  pointwise [val_main_v52, val_main_v51, val_main_v50, val_main_v49, val_main_v48, val_main_v47, val_main_v46, val_main_v45, val_main_v44, val_main_v43, val_main_v42, val_main_v41, val_main_v40, val_main_v39, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]

theorem r53 (j : Fin 1024) : (val_main_v53 (F := Ideal) a.yc a.ya a.wg a.bg a.gs a.ga (ix3 b s j) : EReal) = mixed a.w (a.yr b s) (a.ar b s) j := by
  obtain ⟨q, rfl⟩ | ⟨q, rfl⟩ := halves j
  · rw [mixed_lo, ← r38]
    pointwise [val_main_v53]
  · rw [mixed_hi, ← r52]
    pointwise [val_main_v53]

theorem r55 (q : Fin 1024) : (val_main_v55 (F := Ideal) a.x a.yc a.ya a.wg a.bg a.gs a.ga a.wo (ix3 b s q) : EReal) = hh a.w (a.xr b s) (a.yr b s) (a.ar b s) q := by
  unfold hh
  simp only [← r53]
  unfold Args.w Args.xr
  pointwise [val_main_v55, val_main_v54]

theorem r70 (q : Fin 1024) : (val_main_v70 (F := Ideal) a.x a.yc a.ya a.wg a.bg a.gs a.ga a.wo a.gf (ix3 b s q) : EReal) = hn a.w (a.xr b s) (a.yr b s) (a.ar b s) q := by
  unfold hn rms ms
  simp only [← r55]
  unfold Args.w
  pointwise [val_main_v70, val_main_v69, val_main_v68, val_main_v67, val_main_v66, val_main_v65, val_main_v64, val_main_v63, val_main_v62, val_main_v61, val_main_v60, val_main_v59, val_main_v58, val_main_v57, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]

/-- The three results, by a token's number. -/
theorem r56 (n : Fin 4096) (q : Fin 1024) :
    (val_main_v56 (F := Ideal) a.x a.yc a.ya a.wg a.bg a.gs a.ga a.wo (ix2 n q) : EReal)
      = hh a.w (a.xr (seqOf n.val) (posOf n.val)) (a.yr (seqOf n.val) (posOf n.val)) (a.ar (seqOf n.val) (posOf n.val)) q := by
  rw [show seqOf n.val = ⟨n.val / 2048, by omega⟩ from Fin.ext (Nat.mod_eq_of_lt (by omega)), show posOf n.val = ⟨n.val % 2048, by omega⟩ from rfl, ← r55]
  pointwise [val_main_v56]

theorem r72 (n : Fin 4096) (q : Fin 1024) :
    (val_main_v72 (F := Ideal) a.x a.yc a.ya a.wg a.bg a.gs a.ga a.wo a.gf (ix2 n q) : EReal)
      = hn a.w (a.xr (seqOf n.val) (posOf n.val)) (a.yr (seqOf n.val) (posOf n.val)) (a.ar (seqOf n.val) (posOf n.val)) q := by
  rw [show seqOf n.val = ⟨n.val / 2048, by omega⟩ from Fin.ext (Nat.mod_eq_of_lt (by omega)), show posOf n.val = ⟨n.val % 2048, by omega⟩ from rfl, ← r70]
  pointwise [val_main_v72, val_main_v71]

theorem r74 (n : Fin 4096) (q : Fin 1024) :
    (val_main_v74 (F := Ideal) a.yc a.ya a.wg a.bg a.gs a.ga (ix2 n q) : EReal)
      = mixed a.w (a.yr (seqOf n.val) (posOf n.val)) (a.ar (seqOf n.val) (posOf n.val)) q := by
  rw [show seqOf n.val = ⟨n.val / 2048, by omega⟩ from Fin.ext (Nat.mod_eq_of_lt (by omega)), show posOf n.val = ⟨n.val % 2048, by omega⟩ from rfl, ← r53]
  pointwise [val_main_v74, val_main_v73]

end Cert.Mix

end
-- ==== Proof.MixResult.lean ====
module

public import proofs.«01_k».proof.Proof.Gen.KernelMixIdeal.Value
public import proofs.«01_k».proof.Proof.MixRef
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Mix

open Cert.KernelMixIdeal Cert.KernelMixIdeal.Gen
open Idealize.ShloMosaic Idealize.ShloMosaic.TcCoe
open Cert.MixSpec Cert.Tokens

/-! # The forward mixer call, tile by tile

Eight grid points each take 512 tokens. Row `r` of point `t`'s blocks is token `512 t + r`. -/

/-- Blocks of weights, by entries, and a row of a block. -/
def wts (wg : FVec Ideal S512x512 .bf16) (bg gs ga : FVec Ideal S1x512 .f32) (wo : FVec Ideal S1024x1024 .bf16) (gf : FVec Ideal S1x1024 .f32) : Wts :=
  ⟨fun k q => wg (ix2 k q), fun q => bg (ix2 0 q), fun q => gs (ix2 0 q), fun q => ga (ix2 0 q), fun k q => wo (ix2 k q), fun q => gf (ix2 0 q)⟩
def row (x : FVec Ideal S512x512 .f32) (r : Fin 512) : Fin 512 → EReal := fun q => x (ix2 r q)
def wide (x : FVec Ideal S512x1024 .f32) (r : Fin 512) : Fin 1024 → EReal := fun q => x (ix2 r q)

section Values

variable (x : FVec Ideal S512x1024 .f32) (yc ya : FVec Ideal S512x512 .f32) (wg : FVec Ideal S512x512 .bf16) (bg gs ga : FVec Ideal S1x512 .f32)
  (wo : FVec Ideal S1024x1024 .bf16) (gf : FVec Ideal S1x1024 .f32) (r : Fin 512)

theorem p1 (q : Fin 512) : (k0_pay1 (F := Ideal) yc wg bg gs (ix2 r q) : EReal) = rms n512 (ys (wts wg bg gs ga wo gf) (row yc r)) (wts wg bg gs ga wo gf).gs q := by
  pointwise [k0_pay1]
  simp only [cube]
  rfl

theorem p2 (q : Fin 512) : (k0_pay2 (F := Ideal) ya (ix2 r q) : EReal) = ya (ix2 r q) := by
  pointwise [k0_pay2]

theorem p3 (j : Fin 1024) : (k0_pay3 (F := Ideal) (k0_pay1 (F := Ideal) yc wg bg gs) (k0_pay2 (F := Ideal) ya) ga (ix2 r j) : EReal)
    = mixed (wts wg bg gs ga wo gf) (row yc r) (row ya r) j := by
  have e1 := p1 yc wg bg gs ga wo gf r
  have e2 := p2 ya r
  generalize k0_pay1 (F := Ideal) yc wg bg gs = u at e1 ⊢
  generalize k0_pay2 (F := Ideal) ya = v at e2 ⊢
  obtain ⟨q, rfl⟩ | ⟨q, rfl⟩ := halves j
  · rw [mixed_lo]
    refine Eq.trans ?_ (e1 q)
    pointwise [k0_pay3]
  · rw [mixed_hi]
    pointwise [k0_pay3]
    simp only [e2]
    rfl

theorem p4 (q : Fin 1024) : (k0_pay4 (F := Ideal) (k0_pay1 (F := Ideal) yc wg bg gs) (k0_pay2 (F := Ideal) ya) ga x wo (ix2 r q) : EReal)
    = hh (wts wg bg gs ga wo gf) (wide x r) (row yc r) (row ya r) q := by
  have e := p3 yc ya wg bg gs ga wo gf r
  generalize k0_pay1 (F := Ideal) yc wg bg gs = u at e ⊢
  generalize k0_pay2 (F := Ideal) ya = v at e ⊢
  pointwise [k0_pay4]
  simp only [e]
  rfl

theorem p5 (q : Fin 1024) : (k0_pay5 (F := Ideal) (k0_pay1 (F := Ideal) yc wg bg gs) (k0_pay2 (F := Ideal) ya) ga x wo gf (ix2 r q) : EReal)
    = hn (wts wg bg gs ga wo gf) (wide x r) (row yc r) (row ya r) q := by
  have e := p4 x yc ya wg bg gs ga wo gf r
  generalize k0_pay1 (F := Ideal) yc wg bg gs = u at e ⊢
  generalize k0_pay2 (F := Ideal) ya = v at e ⊢
  pointwise [k0_pay5]
  simp only [e]
  rfl

end Values

variable (m : (ℓ : Loc nD τ sig) → Buf (Elt Ideal) ℓ)

theorem lt8 (t : Fin cfg0.N) : t.val < 8 := lt_of_lt_of_eq t.isLt (show cfg0.N = 8 from N_0)

/-- The arguments of one device. -/
def args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4),
    m ((c : Thread nD τ).loc main_arg5), m ((c : Thread nD τ).loc main_arg6), m ((c : Thread nD τ).loc main_arg7), m ((c : Thread nD τ).loc main_arg8)⟩

theorem v0_at (c : Dev nD) (n : Fin 4096) (q : Fin 1024) :
    (V m c main_v0 : FVec Ideal S4096x1024 .f32) (ix2 n q) = (args m c).xr (seqOf n.val) (posOf n.val) q := by
  unfold Args.xr args
  rw [show seqOf n.val = ⟨n.val / 2048, by omega⟩ from Fin.ext (Nat.mod_eq_of_lt (by omega)), show posOf n.val = ⟨n.val % 2048, by omega⟩ from rfl]
  unfold V
  after_reads_at

theorem v1_at (c : Dev nD) (n : Fin 4096) (q : Fin 512) :
    (V m c main_v1 : FVec Ideal S4096x512 .f32) (ix2 n q) = (args m c).yr (seqOf n.val) (posOf n.val) q := by
  unfold Args.yr args
  rw [show seqOf n.val = ⟨n.val / 2048, by omega⟩ from Fin.ext (Nat.mod_eq_of_lt (by omega)), show posOf n.val = ⟨n.val % 2048, by omega⟩ from rfl]
  unfold V
  after_reads_at

theorem v2_at (c : Dev nD) (n : Fin 4096) (q : Fin 512) :
    (V m c main_v2 : FVec Ideal S4096x512 .f32) (ix2 n q) = (args m c).ar (seqOf n.val) (posOf n.val) q := by
  unfold Args.ar args
  rw [show seqOf n.val = ⟨n.val / 2048, by omega⟩ from Fin.ext (Nat.mod_eq_of_lt (by omega)), show posOf n.val = ⟨n.val % 2048, by omega⟩ from rfl]
  unfold V
  after_reads_at

theorem v3_at (c : Dev nD) (k q : Fin 512) : (V m c main_v3 : FVec Ideal S512x512 .bf16) (ix2 k q) = (args m c).w.wg k q := by
  unfold Args.w args
  unfold V
  after_reads_at

theorem v4_at (c : Dev nD) (k q : Fin 1024) : (V m c main_v4 : FVec Ideal S1024x1024 .bf16) (ix2 k q) = (args m c).w.wo k q := by
  unfold Args.w args
  unfold V
  after_reads_at

theorem arg4_at (c : Dev nD) (q : Fin 512) : (V m c main_arg4 : FVec Ideal S1x512 .f32) (ix2 0 q) = (args m c).w.bg q := by
  unfold Args.w args
  unfold V
  after_reads_at

theorem arg5_at (c : Dev nD) (q : Fin 512) : (V m c main_arg5 : FVec Ideal S1x512 .f32) (ix2 0 q) = (args m c).w.gs q := by
  unfold Args.w args
  unfold V
  after_reads_at

theorem arg6_at (c : Dev nD) (q : Fin 512) : (V m c main_arg6 : FVec Ideal S1x512 .f32) (ix2 0 q) = (args m c).w.ga q := by
  unfold Args.w args
  unfold V
  after_reads_at

theorem arg8_at (c : Dev nD) (q : Fin 1024) : (V m c main_arg8 : FVec Ideal S1x1024 .f32) (ix2 0 q) = (args m c).w.gf q := by
  unfold Args.w args
  unfold V
  after_reads_at

theorem idx0 : ∀ t, win0_0.index t (0 : Fin 2) = t.val ∧ win0_0.index t (1 : Fin 2) = 0 :=
  (by decide +kernel : ∀ t : Fin grid0.N, _)
theorem idx1 : ∀ t, win0_1.index t (0 : Fin 2) = t.val ∧ win0_1.index t (1 : Fin 2) = 0 :=
  (by decide +kernel : ∀ t : Fin grid0.N, _)
theorem idx2 : ∀ t, win0_2.index t (0 : Fin 2) = t.val ∧ win0_2.index t (1 : Fin 2) = 0 :=
  (by decide +kernel : ∀ t : Fin grid0.N, _)
theorem idx3 : ∀ t, win0_3.index t (0 : Fin 2) = 0 ∧ win0_3.index t (1 : Fin 2) = 0 :=
  (by decide +kernel : ∀ t : Fin grid0.N, _)
theorem idx4 : ∀ t, win0_4.index t (0 : Fin 2) = 0 ∧ win0_4.index t (1 : Fin 2) = 0 :=
  (by decide +kernel : ∀ t : Fin grid0.N, _)
theorem idx5 : ∀ t, win0_5.index t (0 : Fin 2) = 0 ∧ win0_5.index t (1 : Fin 2) = 0 :=
  (by decide +kernel : ∀ t : Fin grid0.N, _)
theorem idx6 : ∀ t, win0_6.index t (0 : Fin 2) = 0 ∧ win0_6.index t (1 : Fin 2) = 0 :=
  (by decide +kernel : ∀ t : Fin grid0.N, _)
theorem idx7 : ∀ t, win0_7.index t (0 : Fin 2) = 0 ∧ win0_7.index t (1 : Fin 2) = 0 :=
  (by decide +kernel : ∀ t : Fin grid0.N, _)
theorem idx8 : ∀ t, win0_8.index t (0 : Fin 2) = 0 ∧ win0_8.index t (1 : Fin 2) = 0 :=
  (by decide +kernel : ∀ t : Fin grid0.N, _)
theorem idx9 : ∀ t, win0_9.index t (0 : Fin 2) = t.val ∧ win0_9.index t (1 : Fin 2) = 0 :=
  (by decide +kernel : ∀ t : Fin grid0.N, _)
theorem idx10 : ∀ t, win0_10.index t (0 : Fin 2) = t.val ∧ win0_10.index t (1 : Fin 2) = 0 :=
  (by decide +kernel : ∀ t : Fin grid0.N, _)
theorem idx11 : ∀ t, win0_11.index t (0 : Fin 2) = t.val ∧ win0_11.index t (1 : Fin 2) = 0 :=
  (by decide +kernel : ∀ t : Fin grid0.N, _)

/-- The blocks a grid point reads. -/
abbrev blk0 (c : Dev nD) (t : Fin cfg0.N) : FVec Ideal S512x1024 .f32 := iblk m c 0 t
abbrev blk1 (c : Dev nD) (t : Fin cfg0.N) : FVec Ideal S512x512 .f32 := iblk m c 1 t
abbrev blk2 (c : Dev nD) (t : Fin cfg0.N) : FVec Ideal S512x512 .f32 := iblk m c 2 t
abbrev blk3 (c : Dev nD) (t : Fin cfg0.N) : FVec Ideal S512x512 .bf16 := iblk m c 3 t
abbrev blk4 (c : Dev nD) (t : Fin cfg0.N) : FVec Ideal S1x512 .f32 := iblk m c 4 t
abbrev blk5 (c : Dev nD) (t : Fin cfg0.N) : FVec Ideal S1x512 .f32 := iblk m c 5 t
abbrev blk6 (c : Dev nD) (t : Fin cfg0.N) : FVec Ideal S1x512 .f32 := iblk m c 6 t
abbrev blk7 (c : Dev nD) (t : Fin cfg0.N) : FVec Ideal S1024x1024 .bf16 := iblk m c 7 t
abbrev blk8 (c : Dev nD) (t : Fin cfg0.N) : FVec Ideal S1x1024 .f32 := iblk m c 8 t

theorem blk0_at (c : Dev nD) (t : Fin cfg0.N) (n : Fin 512) (q : Fin 1024) :
    blk0 m c t (ix2 n q) = (V m c main_v0 : FVec Ideal S4096x1024 .f32) (ix2 ⟨512 * t.val + n.val, by have := lt8 t; omega⟩ q) := by
  obtain ⟨h0, h1⟩ := idx0 t
  refine congrArg (V m c main_v0) (?_ : ((cfg0.win 0).blk t).view.emb (ix2 n q) = _)
  funext d
  apply Fin.ext
  match d with
  | ⟨0, _⟩ => show win0_0.index t (0 : Fin 2) * 512 + 1 * n.val = 512 * t.val + n.val; omega
  | ⟨1, _⟩ => show win0_0.index t (1 : Fin 2) * 1024 + 1 * q.val = q.val; omega

theorem blk1_at (c : Dev nD) (t : Fin cfg0.N) (n : Fin 512) (q : Fin 512) :
    blk1 m c t (ix2 n q) = (V m c main_v1 : FVec Ideal S4096x512 .f32) (ix2 ⟨512 * t.val + n.val, by have := lt8 t; omega⟩ q) := by
  obtain ⟨h0, h1⟩ := idx1 t
  refine congrArg (V m c main_v1) (?_ : ((cfg0.win 1).blk t).view.emb (ix2 n q) = _)
  funext d
  apply Fin.ext
  match d with
  | ⟨0, _⟩ => show win0_1.index t (0 : Fin 2) * 512 + 1 * n.val = 512 * t.val + n.val; omega
  | ⟨1, _⟩ => show win0_1.index t (1 : Fin 2) * 512 + 1 * q.val = q.val; omega

theorem blk2_at (c : Dev nD) (t : Fin cfg0.N) (n : Fin 512) (q : Fin 512) :
    blk2 m c t (ix2 n q) = (V m c main_v2 : FVec Ideal S4096x512 .f32) (ix2 ⟨512 * t.val + n.val, by have := lt8 t; omega⟩ q) := by
  obtain ⟨h0, h1⟩ := idx2 t
  refine congrArg (V m c main_v2) (?_ : ((cfg0.win 2).blk t).view.emb (ix2 n q) = _)
  funext d
  apply Fin.ext
  match d with
  | ⟨0, _⟩ => show win0_2.index t (0 : Fin 2) * 512 + 1 * n.val = 512 * t.val + n.val; omega
  | ⟨1, _⟩ => show win0_2.index t (1 : Fin 2) * 512 + 1 * q.val = q.val; omega

theorem blk3_at (c : Dev nD) (t : Fin cfg0.N) (n : Fin 512) (q : Fin 512) :
    blk3 m c t (ix2 n q) = (V m c main_v3 : FVec Ideal S512x512 .bf16) (ix2 n q) := by
  obtain ⟨h0, h1⟩ := idx3 t
  refine congrArg (V m c main_v3) (?_ : ((cfg0.win 3).blk t).view.emb (ix2 n q) = _)
  funext d
  apply Fin.ext
  match d with
  | ⟨0, _⟩ => show win0_3.index t (0 : Fin 2) * 512 + 1 * n.val = n.val; omega
  | ⟨1, _⟩ => show win0_3.index t (1 : Fin 2) * 512 + 1 * q.val = q.val; omega

theorem blk4_at (c : Dev nD) (t : Fin cfg0.N) (n : Fin 1) (q : Fin 512) :
    blk4 m c t (ix2 n q) = (V m c main_arg4 : FVec Ideal S1x512 .f32) (ix2 n q) := by
  obtain ⟨h0, h1⟩ := idx4 t
  refine congrArg (V m c main_arg4) (?_ : ((cfg0.win 4).blk t).view.emb (ix2 n q) = _)
  funext d
  apply Fin.ext
  match d with
  | ⟨0, _⟩ => show win0_4.index t (0 : Fin 2) * 1 + 1 * n.val = n.val; omega
  | ⟨1, _⟩ => show win0_4.index t (1 : Fin 2) * 512 + 1 * q.val = q.val; omega

theorem blk5_at (c : Dev nD) (t : Fin cfg0.N) (n : Fin 1) (q : Fin 512) :
    blk5 m c t (ix2 n q) = (V m c main_arg5 : FVec Ideal S1x512 .f32) (ix2 n q) := by
  obtain ⟨h0, h1⟩ := idx5 t
  refine congrArg (V m c main_arg5) (?_ : ((cfg0.win 5).blk t).view.emb (ix2 n q) = _)
  funext d
  apply Fin.ext
  match d with
  | ⟨0, _⟩ => show win0_5.index t (0 : Fin 2) * 1 + 1 * n.val = n.val; omega
  | ⟨1, _⟩ => show win0_5.index t (1 : Fin 2) * 512 + 1 * q.val = q.val; omega

theorem blk6_at (c : Dev nD) (t : Fin cfg0.N) (n : Fin 1) (q : Fin 512) :
    blk6 m c t (ix2 n q) = (V m c main_arg6 : FVec Ideal S1x512 .f32) (ix2 n q) := by
  obtain ⟨h0, h1⟩ := idx6 t
  refine congrArg (V m c main_arg6) (?_ : ((cfg0.win 6).blk t).view.emb (ix2 n q) = _)
  funext d
  apply Fin.ext
  match d with
  | ⟨0, _⟩ => show win0_6.index t (0 : Fin 2) * 1 + 1 * n.val = n.val; omega
  | ⟨1, _⟩ => show win0_6.index t (1 : Fin 2) * 512 + 1 * q.val = q.val; omega

theorem blk7_at (c : Dev nD) (t : Fin cfg0.N) (n : Fin 1024) (q : Fin 1024) :
    blk7 m c t (ix2 n q) = (V m c main_v4 : FVec Ideal S1024x1024 .bf16) (ix2 n q) := by
  obtain ⟨h0, h1⟩ := idx7 t
  refine congrArg (V m c main_v4) (?_ : ((cfg0.win 7).blk t).view.emb (ix2 n q) = _)
  funext d
  apply Fin.ext
  match d with
  | ⟨0, _⟩ => show win0_7.index t (0 : Fin 2) * 1024 + 1 * n.val = n.val; omega
  | ⟨1, _⟩ => show win0_7.index t (1 : Fin 2) * 1024 + 1 * q.val = q.val; omega

theorem blk8_at (c : Dev nD) (t : Fin cfg0.N) (n : Fin 1) (q : Fin 1024) :
    blk8 m c t (ix2 n q) = (V m c main_arg8 : FVec Ideal S1x1024 .f32) (ix2 n q) := by
  obtain ⟨h0, h1⟩ := idx8 t
  refine congrArg (V m c main_arg8) (?_ : ((cfg0.win 8).blk t).view.emb (ix2 n q) = _)
  funext d
  apply Fin.ext
  match d with
  | ⟨0, _⟩ => show win0_8.index t (0 : Fin 2) * 1 + 1 * n.val = n.val; omega
  | ⟨1, _⟩ => show win0_8.index t (1 : Fin 2) * 1024 + 1 * q.val = q.val; omega

/-- The number of a tile's token. -/
def tok (t : Fin cfg0.N) (r : Fin 512) : Fin 4096 := ⟨512 * t.val + r.val, by have := lt8 t; omega⟩

theorem wts_at (c : Dev nD) (t : Fin cfg0.N) : wts (blk3 m c t) (blk4 m c t) (blk5 m c t) (blk6 m c t) (blk7 m c t) (blk8 m c t) = (args m c).w := by
  have e3 : (fun k q => (blk3 m c t (ix2 k q) : EReal)) = (args m c).w.wg := funext fun k => funext fun q => (blk3_at m c t k q).trans (v3_at m c k q)
  have e4 : (fun q => (blk4 m c t (ix2 0 q) : EReal)) = (args m c).w.bg := funext fun q => (blk4_at m c t 0 q).trans (arg4_at m c q)
  have e5 : (fun q => (blk5 m c t (ix2 0 q) : EReal)) = (args m c).w.gs := funext fun q => (blk5_at m c t 0 q).trans (arg5_at m c q)
  have e6 : (fun q => (blk6 m c t (ix2 0 q) : EReal)) = (args m c).w.ga := funext fun q => (blk6_at m c t 0 q).trans (arg6_at m c q)
  have e7 : (fun k q => (blk7 m c t (ix2 k q) : EReal)) = (args m c).w.wo := funext fun k => funext fun q => (blk7_at m c t k q).trans (v4_at m c k q)
  have e8 : (fun q => (blk8 m c t (ix2 0 q) : EReal)) = (args m c).w.gf := funext fun q => (blk8_at m c t 0 q).trans (arg8_at m c q)
  unfold wts
  rw [e3, e4, e5, e6, e7, e8]

theorem xr_at (c : Dev nD) (t : Fin cfg0.N) (r : Fin 512) : wide (blk0 m c t) r = (args m c).xr (seqOf (tok t r).val) (posOf (tok t r).val) :=
  funext fun q => (blk0_at m c t r q).trans (v0_at m c (tok t r) q)
theorem yr_at (c : Dev nD) (t : Fin cfg0.N) (r : Fin 512) : row (blk1 m c t) r = (args m c).yr (seqOf (tok t r).val) (posOf (tok t r).val) :=
  funext fun q => (blk1_at m c t r q).trans (v1_at m c (tok t r) q)
theorem ar_at (c : Dev nD) (t : Fin cfg0.N) (r : Fin 512) : row (blk2 m c t) r = (args m c).ar (seqOf (tok t r).val) (posOf (tok t r).val) :=
  funext fun q => (blk2_at m c t r q).trans (v2_at m c (tok t r) q)

/-- What a grid point leaves in its blocks of the three results. -/
abbrev left0 (c : Dev nD) (t : Fin cfg0.N) : FVec Ideal S512x1024 .f32 := out0_9 (iblk m c 0 t) (iblk m c 1 t) (iblk m c 2 t) (iblk m c 3 t) (iblk m c 4 t) (iblk m c 5 t) (iblk m c 6 t) (iblk m c 7 t) (iblk m c 8 t)
abbrev left1 (c : Dev nD) (t : Fin cfg0.N) : FVec Ideal S512x1024 .bf16 := out0_10 (iblk m c 0 t) (iblk m c 1 t) (iblk m c 2 t) (iblk m c 3 t) (iblk m c 4 t) (iblk m c 5 t) (iblk m c 6 t) (iblk m c 7 t) (iblk m c 8 t)
abbrev left2 (c : Dev nD) (t : Fin cfg0.N) : FVec Ideal S512x1024 .bf16 := out0_11 (iblk m c 0 t) (iblk m c 1 t) (iblk m c 2 t) (iblk m c 3 t) (iblk m c 4 t) (iblk m c 5 t) (iblk m c 6 t) (iblk m c 7 t) (iblk m c 8 t)

/-- The reference's three results from the arguments of one device. -/
abbrev ref0 (a : Args) : FVec Ideal S4096x1024 .f32 := Cert.ReferenceMixIdeal.Read.val_main_v56 (F := Ideal) a.x a.yc a.ya a.wg a.bg a.gs a.ga a.wo
abbrev ref1 (a : Args) : FVec Ideal S4096x1024 .bf16 := Cert.ReferenceMixIdeal.Read.val_main_v72 (F := Ideal) a.x a.yc a.ya a.wg a.bg a.gs a.ga a.wo a.gf
abbrev ref2 (a : Args) : FVec Ideal S4096x1024 .bf16 := Cert.ReferenceMixIdeal.Read.val_main_v74 (F := Ideal) a.yc a.ya a.wg a.bg a.gs a.ga

theorem left0_eq (c : Dev nD) (t : Fin cfg0.N) : left0 m c t = k0_pay4 (F := Ideal) (k0_pay1 (F := Ideal) (blk1 m c t) (blk3 m c t) (blk4 m c t) (blk5 m c t)) (k0_pay2 (F := Ideal) (blk2 m c t)) (blk6 m c t) (blk0 m c t) (blk7 m c t) := by
  unfold left0 out0_9 k0_pay7 k0_pay6
  frame_out

theorem left0_row (c : Dev nD) (t : Fin cfg0.N) (r : Fin 512) (q : Fin 1024) :
    (left0 m c t (ix2 r q) : EReal) = hh (args m c).w ((args m c).xr (seqOf (tok t r).val) (posOf (tok t r).val)) ((args m c).yr (seqOf (tok t r).val) (posOf (tok t r).val)) ((args m c).ar (seqOf (tok t r).val) (posOf (tok t r).val)) q := by
  have e := p4 (blk0 m c t) (blk1 m c t) (blk2 m c t) (blk3 m c t) (blk4 m c t) (blk5 m c t) (blk6 m c t) (blk7 m c t) (blk8 m c t) r q
  rw [wts_at, xr_at, yr_at, ar_at] at e
  rw [left0_eq]
  exact e

theorem left0_at (c : Dev nD) (t : Fin cfg0.N) (r : Fin 512) (q : Fin 1024) : left0 m c t (ix2 r q) = ref0 (args m c) (ix2 (tok t r) q) := by
  have e := left0_row m c t r q
  have e' : (ref0 (args m c) (ix2 (tok t r) q) : EReal) = hh (args m c).w ((args m c).xr (seqOf (tok t r).val) (posOf (tok t r).val)) ((args m c).yr (seqOf (tok t r).val) (posOf (tok t r).val)) ((args m c).ar (seqOf (tok t r).val) (posOf (tok t r).val)) q := r56 (args m c) (tok t r) q
  generalize ref0 (args m c) = G at e' ⊢
  generalize left0 m c t = f at e ⊢
  exact e.trans e'.symm

theorem emb9 (t : Fin cfg0.N) (r : Fin 512) (q : Fin 1024) : ((cfg0.win 9).blk t).view.emb (ix2 r q) = (ix2 (tok t r) q : S4096x1024.Idx) := by
  obtain ⟨h0, h1⟩ := idx9 t
  funext d
  apply Fin.ext
  match d with
  | ⟨0, _⟩ => show win0_9.index t (0 : Fin 2) * 512 + 1 * r.val = 512 * t.val + r.val; omega
  | ⟨1, _⟩ => show win0_9.index t (1 : Fin 2) * 1024 + 1 * q.val = q.val; omega

/-- The call's array for the residual stream is the reference's. -/
theorem result0 (c : Dev nD) : (dats m 0 c).arrAt 9 cfg0.N = ref0 (args m c) := by
  have key := left0_at m c
  generalize ref0 (args m c) = G at key ⊢
  refine (dats m 0 c).arrAt_eq_of_covers 9 _ (by decide +kernel) fun t hf y => ?_
  obtain ⟨r, q, rfl⟩ : ∃ (r : Fin 512) (q : Fin 1024), y = ix2 r q := ⟨y 0, y 1, eq_ix2 y⟩
  rw [after0_9]
  have e := (key t r q).trans (congrArg G (emb9 t r q).symm)
  revert e
  unfold left0
  generalize out0_9 (iblk m c 0 t) (iblk m c 1 t) (iblk m c 2 t) (iblk m c 3 t) (iblk m c 4 t) (iblk m c 5 t) (iblk m c 6 t) (iblk m c 7 t) (iblk m c 8 t) = f
  exact fun e => e

theorem left1_eq (c : Dev nD) (t : Fin cfg0.N) : left1 m c t = k0_pay5 (F := Ideal) (k0_pay1 (F := Ideal) (blk1 m c t) (blk3 m c t) (blk4 m c t) (blk5 m c t)) (k0_pay2 (F := Ideal) (blk2 m c t)) (blk6 m c t) (blk0 m c t) (blk7 m c t) (blk8 m c t) := by
  unfold left1 out0_10 k0_pay7 k0_pay6
  frame_out

theorem left1_row (c : Dev nD) (t : Fin cfg0.N) (r : Fin 512) (q : Fin 1024) :
    (left1 m c t (ix2 r q) : EReal) = hn (args m c).w ((args m c).xr (seqOf (tok t r).val) (posOf (tok t r).val)) ((args m c).yr (seqOf (tok t r).val) (posOf (tok t r).val)) ((args m c).ar (seqOf (tok t r).val) (posOf (tok t r).val)) q := by
  have e := p5 (blk0 m c t) (blk1 m c t) (blk2 m c t) (blk3 m c t) (blk4 m c t) (blk5 m c t) (blk6 m c t) (blk7 m c t) (blk8 m c t) r q
  rw [wts_at, xr_at, yr_at, ar_at] at e
  rw [left1_eq]
  exact e

theorem left1_at (c : Dev nD) (t : Fin cfg0.N) (r : Fin 512) (q : Fin 1024) : left1 m c t (ix2 r q) = ref1 (args m c) (ix2 (tok t r) q) := by
  have e := left1_row m c t r q
  have e' : (ref1 (args m c) (ix2 (tok t r) q) : EReal) = hn (args m c).w ((args m c).xr (seqOf (tok t r).val) (posOf (tok t r).val)) ((args m c).yr (seqOf (tok t r).val) (posOf (tok t r).val)) ((args m c).ar (seqOf (tok t r).val) (posOf (tok t r).val)) q := r72 (args m c) (tok t r) q
  generalize ref1 (args m c) = G at e' ⊢
  generalize left1 m c t = f at e ⊢
  exact e.trans e'.symm

theorem emb10 (t : Fin cfg0.N) (r : Fin 512) (q : Fin 1024) : ((cfg0.win 10).blk t).view.emb (ix2 r q) = (ix2 (tok t r) q : S4096x1024.Idx) := by
  obtain ⟨h0, h1⟩ := idx10 t
  funext d
  apply Fin.ext
  match d with
  | ⟨0, _⟩ => show win0_10.index t (0 : Fin 2) * 512 + 1 * r.val = 512 * t.val + r.val; omega
  | ⟨1, _⟩ => show win0_10.index t (1 : Fin 2) * 1024 + 1 * q.val = q.val; omega

/-- The call's array for the normalised residual stream is the reference's. -/
theorem result1 (c : Dev nD) : (dats m 0 c).arrAt 10 cfg0.N = ref1 (args m c) := by
  have key := left1_at m c
  generalize ref1 (args m c) = G at key ⊢
  refine (dats m 0 c).arrAt_eq_of_covers 10 _ (by decide +kernel) fun t hf y => ?_
  obtain ⟨r, q, rfl⟩ : ∃ (r : Fin 512) (q : Fin 1024), y = ix2 r q := ⟨y 0, y 1, eq_ix2 y⟩
  rw [after0_10]
  have e := (key t r q).trans (congrArg G (emb10 t r q).symm)
  revert e
  unfold left1
  generalize out0_10 (iblk m c 0 t) (iblk m c 1 t) (iblk m c 2 t) (iblk m c 3 t) (iblk m c 4 t) (iblk m c 5 t) (iblk m c 6 t) (iblk m c 7 t) (iblk m c 8 t) = f
  exact fun e => e

theorem left2_eq (c : Dev nD) (t : Fin cfg0.N) : left2 m c t = k0_pay3 (F := Ideal) (k0_pay1 (F := Ideal) (blk1 m c t) (blk3 m c t) (blk4 m c t) (blk5 m c t)) (k0_pay2 (F := Ideal) (blk2 m c t)) (blk6 m c t) := by
  unfold left2 out0_11 k0_pay7 k0_pay6
  frame_out

theorem left2_row (c : Dev nD) (t : Fin cfg0.N) (r : Fin 512) (q : Fin 1024) :
    (left2 m c t (ix2 r q) : EReal) = mixed (args m c).w ((args m c).yr (seqOf (tok t r).val) (posOf (tok t r).val)) ((args m c).ar (seqOf (tok t r).val) (posOf (tok t r).val)) q := by
  have e := p3 (blk1 m c t) (blk2 m c t) (blk3 m c t) (blk4 m c t) (blk5 m c t) (blk6 m c t) (blk7 m c t) (blk8 m c t) r q
  rw [wts_at, yr_at, ar_at] at e
  rw [left2_eq]
  exact e

theorem left2_at (c : Dev nD) (t : Fin cfg0.N) (r : Fin 512) (q : Fin 1024) : left2 m c t (ix2 r q) = ref2 (args m c) (ix2 (tok t r) q) := by
  have e := left2_row m c t r q
  have e' : (ref2 (args m c) (ix2 (tok t r) q) : EReal) = mixed (args m c).w ((args m c).yr (seqOf (tok t r).val) (posOf (tok t r).val)) ((args m c).ar (seqOf (tok t r).val) (posOf (tok t r).val)) q := r74 (args m c) (tok t r) q
  generalize ref2 (args m c) = G at e' ⊢
  generalize left2 m c t = f at e ⊢
  exact e.trans e'.symm

theorem emb11 (t : Fin cfg0.N) (r : Fin 512) (q : Fin 1024) : ((cfg0.win 11).blk t).view.emb (ix2 r q) = (ix2 (tok t r) q : S4096x1024.Idx) := by
  obtain ⟨h0, h1⟩ := idx11 t
  funext d
  apply Fin.ext
  match d with
  | ⟨0, _⟩ => show win0_11.index t (0 : Fin 2) * 512 + 1 * r.val = 512 * t.val + r.val; omega
  | ⟨1, _⟩ => show win0_11.index t (1 : Fin 2) * 1024 + 1 * q.val = q.val; omega

/-- The call's array for the two normalised halves is the reference's. -/
theorem result2 (c : Dev nD) : (dats m 0 c).arrAt 11 cfg0.N = ref2 (args m c) := by
  have key := left2_at m c
  generalize ref2 (args m c) = G at key ⊢
  refine (dats m 0 c).arrAt_eq_of_covers 11 _ (by decide +kernel) fun t hf y => ?_
  obtain ⟨r, q, rfl⟩ : ∃ (r : Fin 512) (q : Fin 1024), y = ix2 r q := ⟨y 0, y 1, eq_ix2 y⟩
  rw [after0_11]
  have e := (key t r q).trans (congrArg G (emb11 t r q).symm)
  revert e
  unfold left2
  generalize out0_11 (iblk m c 0 t) (iblk m c 1 t) (iblk m c 2 t) (iblk m c 3 t) (iblk m c 4 t) (iblk m c 5 t) (iblk m c 6 t) (iblk m c 7 t) (iblk m c 8 t) = f
  exact fun e => e

end Cert.Mix

end
-- ==== Proof.Mix.lean ====
module

public import proofs.«01_k».proof.Defs
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.MixResult
public import Idealize.ShloMosaic.Adequacy
public import Idealize.ShloMosaic.Init
public import Idealize.ShloMosaic.Lib.Claim

@[expose] public section

noncomputable section

namespace Cert.Mix

open Idealize.ShloMosaic Idealize.SL.Sem

/-! # The forward mixer call: frames and equal results -/

theorem frame_kernel_Mix : Cert.quiescent_KernelMix := fun m ρ _ => Cert.KernelMix.Gen.frame (F := Bits) m ρ

theorem frame_ideal_Mix : Cert.quiescent_KernelMixIdeal := fun m ρ _ => Cert.KernelMixIdeal.Gen.frame (F := Ideal) m ρ

theorem frame_reference_Mix : Cert.quiescent_ReferenceMixIdeal := fun m ρ _ =>
  (θ_run Cert.ReferenceMixIdeal.defs _ _).mono (fun r h => ⟨fun c => (h c).2.2.2, sem_eq_zero_of_no_sems (by decide) r.2⟩)
    (Cert.ReferenceMixIdeal.Value.run (F := Ideal) m ρ)

/-- Kernel and reference end with equal results: what the reference computes from the kernel's arguments. -/
theorem algebraic_Mix : Cert.algebraic_KernelMixIdeal_ReferenceMixIdeal := by
  intro m g m' g' _ hargs
  refine ⟨fun c => ref0 (args m c), fun c => ref1 (args m c), fun c => ref2 (args m c), ?_, ?_⟩
  · exact (θ_run Cert.KernelMixIdeal.defs _ _).mono (fun r h c =>
      ⟨((h.1 c).1 9).trans (result0 m c), ((h.1 c).1 10).trans (result1 m c), ((h.1 c).1 11).trans (result2 m c), h.2 c⟩)
      (θ_run_and (Cert.KernelMixIdeal.Gen.run_main (F := Ideal) m g) (Cert.KernelMixIdeal.Gen.unchanged (F := Ideal) m g))
  · refine (θ_run Cert.ReferenceMixIdeal.defs _ _).mono (fun r h c => ?_) (Cert.ReferenceMixIdeal.Value.run (F := Ideal) m' g')
    obtain ⟨h0, h1, h2, hr⟩ := h c
    obtain ⟨a0, a1, a2, a3, a4, a5, a6, a7, a8⟩ := hargs c
    refine ⟨h0.trans ?_, h1.trans ?_, h2.trans ?_, hr⟩
    · rw [Cert.ReferenceMixIdeal.Read.val_main_v56_eq, a0, a1, a2, a3, a4, a5, a6, a7]
      rfl
    · rw [Cert.ReferenceMixIdeal.Read.val_main_v72_eq, a0, a1, a2, a3, a4, a5, a6, a7, a8]
      rfl
    · rw [Cert.ReferenceMixIdeal.Read.val_main_v74_eq, a1, a2, a3, a4, a5, a6]
      rfl

end Cert.Mix

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Body
public import proofs.«01_k».proof.Proof.KernelFrame
public import proofs.«01_k».proof.Proof.Equal
public import proofs.«01_k».proof.Proof.Weights
public import proofs.«01_k».proof.Proof.Fwd
public import proofs.«01_k».proof.Proof.Mix
public import Idealize.ShloMosaic.Adequacy
public import Idealize.ShloMosaic.Init
public import Idealize.ShloMosaic.Lib.Claim

@[expose] public section

noncomputable section

namespace Cert.Proof

open Idealize.ShloMosaic Idealize.SL.Sem

/-- The idealized kernel's frame: the run at the extended reals. -/
theorem frame_ideal : Cert.quiescent_KernelIdeal := fun m ρ _ => Cert.FfnBwd.frame_run (F := Ideal) m ρ

/-- The reference's frame: its operations write no argument, and it declares no semaphore. -/
theorem frame_reference : Cert.quiescent_ReferenceIdeal := fun m ρ _ =>
  (θ_run Cert.ReferenceIdeal.defs _ _).mono (fun r h => ⟨fun c =>
      ⟨(h c).2.2.2.2.2.2.1, (h c).2.2.2.2.2.2.2.1, (h c).2.2.2.2.2.2.2.2.1, (h c).2.2.2.2.2.2.2.2.2.1,
        (h c).2.2.2.2.2.2.2.2.2.2.1, (h c).2.2.2.2.2.2.2.2.2.2.2⟩,
      sem_eq_zero_of_no_sems (by decide) r.2⟩)
    (Cert.ReferenceIdeal.Value.run (F := Ideal) m ρ)

/-- Kernel and reference end with equal results: what the reference computes from the kernel's arguments. -/
theorem algebraic : Cert.algebraic_KernelIdeal_ReferenceIdeal := by
  intro m g m' g' _ hargs
  have ha : ∀ c : Dev Cert.KernelIdeal.nD,
      m' ((c.tc : Thread Cert.ReferenceIdeal.nD Cert.ReferenceIdeal.τ).loc Cert.ReferenceIdeal.main_arg0) = (Cert.FfnBwd.args m c).h
      ∧ m' ((c.tc : Thread Cert.ReferenceIdeal.nD Cert.ReferenceIdeal.τ).loc Cert.ReferenceIdeal.main_arg1) = (Cert.FfnBwd.args m c).up
      ∧ m' ((c.tc : Thread Cert.ReferenceIdeal.nD Cert.ReferenceIdeal.τ).loc Cert.ReferenceIdeal.main_arg2) = (Cert.FfnBwd.args m c).cw
      ∧ m' ((c.tc : Thread Cert.ReferenceIdeal.nD Cert.ReferenceIdeal.τ).loc Cert.ReferenceIdeal.main_arg3) = (Cert.FfnBwd.args m c).cb
      ∧ m' ((c.tc : Thread Cert.ReferenceIdeal.nD Cert.ReferenceIdeal.τ).loc Cert.ReferenceIdeal.main_arg4) = (Cert.FfnBwd.args m c).down
      ∧ m' ((c.tc : Thread Cert.ReferenceIdeal.nD Cert.ReferenceIdeal.τ).loc Cert.ReferenceIdeal.main_arg5) = (Cert.FfnBwd.args m c).dy := hargs
  refine ⟨fun c => Cert.ReferenceIdeal.Read.val_main_v81 (F := Ideal) (Cert.FfnBwd.args m c).h (Cert.FfnBwd.args m c).up (Cert.FfnBwd.args m c).cw (Cert.FfnBwd.args m c).cb (Cert.FfnBwd.args m c).down (Cert.FfnBwd.args m c).dy,
    fun c => Cert.ReferenceIdeal.Read.val_main_v84 (F := Ideal) (Cert.FfnBwd.args m c).h (Cert.FfnBwd.args m c).up (Cert.FfnBwd.args m c).cw (Cert.FfnBwd.args m c).cb (Cert.FfnBwd.args m c).down (Cert.FfnBwd.args m c).dy,
    fun c => Cert.ReferenceIdeal.Read.val_main_v87 (F := Ideal) (Cert.FfnBwd.args m c).h (Cert.FfnBwd.args m c).up (Cert.FfnBwd.args m c).cw (Cert.FfnBwd.args m c).cb,
    fun c => Cert.ReferenceIdeal.Read.val_main_v88 (F := Ideal) (Cert.FfnBwd.args m c).h (Cert.FfnBwd.args m c).up (Cert.FfnBwd.args m c).cw (Cert.FfnBwd.args m c).cb (Cert.FfnBwd.args m c).down (Cert.FfnBwd.args m c).dy,
    fun c => Cert.ReferenceIdeal.Read.val_main_v91 (F := Ideal) (Cert.FfnBwd.args m c).h (Cert.FfnBwd.args m c).up (Cert.FfnBwd.args m c).cw (Cert.FfnBwd.args m c).cb (Cert.FfnBwd.args m c).down (Cert.FfnBwd.args m c).dy,
    fun c => Cert.ReferenceIdeal.Read.val_main_v94 (F := Ideal) (Cert.FfnBwd.args m c).h (Cert.FfnBwd.args m c).up (Cert.FfnBwd.args m c).cw (Cert.FfnBwd.args m c).cb (Cert.FfnBwd.args m c).down (Cert.FfnBwd.args m c).dy,
    ?_, ?_⟩
  · exact (θ_run Cert.KernelIdeal.defs _ _).mono (fun r ⟨⟨h, _⟩, ⟨hf, _⟩⟩ c =>
      have o := Cert.FfnBwd.outs m r h c
      ⟨Cert.FfnBwd.result_0 o, Cert.FfnBwd.result_1 o, Cert.FfnBwd.result_2 o, Cert.FfnBwd.result_3 o, Cert.FfnBwd.result_4 o,
        Cert.FfnBwd.result_5 o, hf c⟩)
      (θ_run_and (Cert.FfnBwd.run_main (F := Ideal) m g) (Cert.FfnBwd.frame_run (F := Ideal) m g))
  · refine (θ_run Cert.ReferenceIdeal.defs _ _).mono (fun r h c => ?_) (Cert.ReferenceIdeal.Value.run (F := Ideal) m' g')
    obtain ⟨h0, h1, h2, h3, h4, h5, hr⟩ := h c
    obtain ⟨a0, a1, a2, a3, a4, a5⟩ := ha c
    refine ⟨h0.trans ?_, h1.trans ?_, h2.trans ?_, h3.trans ?_, h4.trans ?_, h5.trans ?_, hr⟩
    · rw [Cert.ReferenceIdeal.Read.val_main_v81_eq, a0, a1, a2, a3, a4, a5]
    · rw [Cert.ReferenceIdeal.Read.val_main_v84_eq, a0, a1, a2, a3, a4, a5]
    · rw [Cert.ReferenceIdeal.Read.val_main_v87_eq, a0, a1, a2, a3]
    · rw [Cert.ReferenceIdeal.Read.val_main_v88_eq, a0, a1, a2, a3, a4, a5]
    · rw [Cert.ReferenceIdeal.Read.val_main_v91_eq, a0, a1, a2, a3, a4, a5]
    · rw [Cert.ReferenceIdeal.Read.val_main_v94_eq, a0, a1, a2, a3, a4, a5]

theorem claim : Cert.Claim :=
  ⟨Cert.Kernel.Gen.facts, Cert.KernelIdeal.Gen.facts, Cert.ReferenceIdeal.Gen.facts,
    Cert.KernelUpGate.Gen.facts, Cert.KernelUpGateIdeal.Gen.facts, Cert.ReferenceUpGateIdeal.Gen.facts,
    Cert.KernelUpVal.Gen.facts, Cert.KernelUpValIdeal.Gen.facts, Cert.ReferenceUpValIdeal.Gen.facts,
    Cert.KernelDown.Gen.facts, Cert.KernelDownIdeal.Gen.facts, Cert.ReferenceDownIdeal.Gen.facts,
    Cert.KernelFwd.Gen.facts, Cert.KernelFwdIdeal.Gen.facts, Cert.ReferenceFwdIdeal.Gen.facts,
    Cert.KernelIn.Gen.facts, Cert.KernelInIdeal.Gen.facts, Cert.ReferenceInIdeal.Gen.facts,
    Cert.KernelMix.Gen.facts, Cert.KernelMixIdeal.Gen.facts, Cert.ReferenceMixIdeal.Gen.facts,
    frame_kernel, frame_ideal, frame_reference,
    Cert.Dw.frame_kernel_UpGate, Cert.Dw.frame_ideal_UpGate, Cert.Dw.frame_reference_UpGate,
    Cert.Dw.frame_kernel_UpVal, Cert.Dw.frame_ideal_UpVal, Cert.Dw.frame_reference_UpVal,
    Cert.Dw.frame_kernel_Down, Cert.Dw.frame_ideal_Down, Cert.Dw.frame_reference_Down,
    Cert.Fwd.frame_kernel_Fwd, Cert.Fwd.frame_ideal_Fwd, Cert.Fwd.frame_reference_Fwd,
    Cert.Dw.frame_kernel_In, Cert.Dw.frame_ideal_In, Cert.Dw.frame_reference_In,
    Cert.Mix.frame_kernel_Mix, Cert.Mix.frame_ideal_Mix, Cert.Mix.frame_reference_Mix,
    trivial, algebraic,
    trivial, Cert.Dw.algebraic_UpGate,
    trivial, Cert.Dw.algebraic_UpVal,
    trivial, Cert.Dw.algebraic_Down,
    trivial, Cert.Fwd.algebraic_Fwd,
    trivial, Cert.Dw.algebraic_In,
    trivial, Cert.Mix.algebraic_Mix⟩

end Cert.Proof

end
